-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x512x1024 .f32) (main_arg1 : FVec F S1024x1024 .f32) (main_arg2 : FVec F S1x2048x64x128 .f32) (main_arg3 : FVec F S1x2048x64x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x512x1024 .f32) (main_arg1 : FVec F S1024x8192 .f32) (main_arg2 : FVec F S1x2048x64x128 .f32) (main_arg3 : FVec F S1x2048x64x128 .f32) (main_arg4 : FVec F S8192x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x64x128 : Shape := ⟨4, ![1, 2048, 64, 128]⟩
abbrev S_ : Shape := ⟨0, ![]⟩
abbrev S1 : Shape := ⟨1, ![1]⟩
abbrev S512x1024 : Shape := ⟨2, ![512, 1024]⟩
abbrev S2048x64x128 : Shape := ⟨3, ![2048, 64, 128]⟩
abbrev S1024x128 : Shape := ⟨2, ![1024, 128]⟩
abbrev S8x64x1024 : Shape := ⟨3, ![8, 64, 1024]⟩
abbrev S2x2048x128 : Shape := ⟨3, ![2, 2048, 128]⟩
abbrev S2 : Shape := ⟨1, ![2]⟩
abbrev S8 : Shape := ⟨1, ![8]⟩
abbrev S1x2048x128 : Shape := ⟨3, ![1, 2048, 128]⟩
abbrev S2048x128 : Shape := ⟨2, ![2048, 128]⟩
abbrev S2048x1x128 : Shape := ⟨3, ![2048, 1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x64x1024 : Shape := ⟨3, ![1, 64, 1024]⟩
abbrev S64x1024 : Shape := ⟨2, ![64, 1024]⟩

abbrev nBuf : Space → Nat
  | .hbm => 18
  | .vmem => 11
  | .smem => 1
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x64x128, .f32⟩
  | .hbm, ⟨3, _⟩ => ⟨S1x2048x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S512x1024, .f32⟩
  | .hbm, ⟨14, _⟩ => ⟨S2048x64x128, .f32⟩
  | .hbm, ⟨15, _⟩ => ⟨S2048x64x128, .f32⟩
  | .hbm, ⟨16, _⟩ => ⟨S512x1024, .f32⟩
  | .hbm, ⟨17, _⟩ => ⟨S1x512x1024, .f32⟩
  | .local _ .vmem, ⟨0, _⟩ => ⟨S512x1024, .f32⟩
  | .local _ .vmem, ⟨1, _⟩ => ⟨S1024x128, .f32⟩
  | .local _ .vmem, ⟨2, _⟩ => ⟨S1024x128, .f32⟩
  | .local _ .vmem, ⟨3, _⟩ => ⟨S1024x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x64x1024, .bf16⟩
  | .local _ .vmem, ⟨9, _⟩ => ⟨S2x2048x128, .f32⟩
  | .local _ .vmem, ⟨10, _⟩ => ⟨S2x2048x128, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 8
abbrev τ : Topo := Topo.v7x

variable {F : FTy → Type} [FloatOps F]

abbrev grid0 : Pipeline.Grid := ⟨1, ![8], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_5 : BitVec 32 := 0#32
  let v21 : BitVec 1 := Scalar.cmpi .eq arg0 c0_i32_5
  let v22 : BitVec 32 := Scalar.extui v21
  let c0_i32_6 : BitVec 32 := 0#32
  let v23 : BitVec 1 := Scalar.cmpi .ne v22 c0_i32_6
  v23

def k0_off1 (i : grid0.Coords) (v18 : BitVec 32) : Fin 3 → Nat :=
  let c0_i32_36 : BitVec 32 := 0#32
  let arg0 : BitVec 32 := BitVec.ofNat 32 (i 0).val
  let v19 : BitVec 32 := Scalar.addi v18 arg0
  let c0_i32_37 : BitVec 32 := 0#32
  ![0, v19.toNat, 0]

def k0_off2 (i : grid0.Coords) (v18 : BitVec 32) : Fin 3 → Nat :=
  let c0_i32_49 : BitVec 32 := 0#32
  let arg0 : BitVec 32 := BitVec.ofNat 32 (i 0).val
  let v19 : BitVec 32 := Scalar.addi v18 arg0
  let c1_i32_44 : BitVec 32 := 1#32
  let v87 : BitVec 32 := Scalar.addi v19 c1_i32_44
  let c0_i32_50 : BitVec 32 := 0#32
  ![0, v87.toNat, 0]
def k0_off3 (i : grid0.Coords) : Fin 1 → Nat :=
  let arg0 : BitVec 32 := BitVec.ofNat 32 (i 0).val
  let c2_i32 : BitVec 32 := 2#32
  let v20 : BitVec 32 := Scalar.remsi arg0 c2_i32
  ![v20.toNat]
def k0_off4 (i : grid0.Coords) : Fin 3 → Nat :=
  let arg0 : BitVec 32 := BitVec.ofNat 32 (i 0).val
  let c2_i32 : BitVec 32 := 2#32
  let v20 : BitVec 32 := Scalar.remsi arg0 c2_i32
  let c0_i32_12 : BitVec 32 := 0#32
  let c0_i32_13 : BitVec 32 := 0#32
  ![v20.toNat, 0, 0]
def k0_off5 (i : grid0.Coords) (v18 : BitVec 32) : Fin 3 → Nat :=
  let c0_i32_14 : BitVec 32 := 0#32
  let arg0 : BitVec 32 := BitVec.ofNat 32 (i 0).val
  let v19 : BitVec 32 := Scalar.addi v18 arg0
  let c0_i32_15 : BitVec 32 := 0#32
  ![0, v19.toNat, 0]
def k0_off6 (i : grid0.Coords) : Fin 3 → Nat :=
  let arg0 : BitVec 32 := BitVec.ofNat 32 (i 0).val
  let c2_i32 : BitVec 32 := 2#32
  let v20 : BitVec 32 := Scalar.remsi arg0 c2_i32
  let v38 : Index := Scalar.indexCast v20
  let c0_16 : Index := 0#32
  let c0_17 : Index := 0#32
  ![v38.toNat, 0, 0]
def k0_cond2 (i : grid0.Coords) : BitVec 1 :=
  let arg0 : BitVec 32 := BitVec.ofNat 32 (i 0).val
  let c6_i32 : BitVec 32 := 6#32
  let v43 : BitVec 1 := Scalar.cmpi .slt arg0 c6_i32
  let v44 : BitVec 32 := Scalar.extui v43
  let c0_i32_19 : BitVec 32 := 0#32
  let v45 : BitVec 1 := Scalar.cmpi .ne v44 c0_i32_19
  v45

def k0_off7 (i : grid0.Coords) : Fin 1 → Nat :=
  let arg0 : BitVec 32 := BitVec.ofNat 32 (i 0).val
  let c2_i32 : BitVec 32 := 2#32
  let v20 : BitVec 32 := Scalar.remsi arg0 c2_i32
  ![v20.toNat]
def k0_off8 (i : grid0.Coords) : Fin 3 → Nat :=
  let arg0 : BitVec 32 := BitVec.ofNat 32 (i 0).val
  let c2_i32 : BitVec 32 := 2#32
  let v20 : BitVec 32 := Scalar.remsi arg0 c2_i32
  let c0_i32_33 : BitVec 32 := 0#32
  let c0_i32_34 : BitVec 32 := 0#32
  ![v20.toNat, 0, 0]
def k0_off9 (i : grid0.Coords) (v18 : BitVec 32) : Fin 3 → Nat :=
  let c0_i32_35 : BitVec 32 := 0#32
  let arg0 : BitVec 32 := BitVec.ofNat 32 (i 0).val
  let v19 : BitVec 32 := Scalar.addi v18 arg0
  let c2_i32_32 : BitVec 32 := 2#32
  let v75 : BitVec 32 := Scalar.addi v19 c2_i32_32
  let c0_i32_36 : BitVec 32 := 0#32
  ![0, v75.toNat, 0]
def k0_cond3 (i : grid0.Coords) : BitVec 1 :=
  let arg0 : BitVec 32 := BitVec.ofNat 32 (i 0).val
  let c6_i32_28 : BitVec 32 := 6#32
  let v63 : BitVec 1 := Scalar.cmpi .slt arg0 c6_i32_28
  let v64 : BitVec 32 := Scalar.extui v63
  let c0_i32_29 : BitVec 32 := 0#32
  let v65 : BitVec 1 := Scalar.cmpi .ne v64 c0_i32_29
  v65

def k0_off10 (i : grid0.Coords) : Fin 1 → Nat :=
  let arg0 : BitVec 32 := BitVec.ofNat 32 (i 0).val
  let c2_i32 : BitVec 32 := 2#32
  let v20 : BitVec 32 := Scalar.remsi arg0 c2_i32
  ![v20.toNat]
def k0_off11 (i : grid0.Coords) : Fin 3 → Nat :=
  let arg0 : BitVec 32 := BitVec.ofNat 32 (i 0).val
  let c2_i32 : BitVec 32 := 2#32
  let v20 : BitVec 32 := Scalar.remsi arg0 c2_i32
  let c0_i32_33 : BitVec 32 := 0#32
  let c0_i32_34 : BitVec 32 := 0#32
  ![v20.toNat, 0, 0]
def k0_off12 (i : grid0.Coords) (v18 : BitVec 32) : Fin 3 → Nat :=
  let c0_i32_35 : BitVec 32 := 0#32
  let arg0 : BitVec 32 := BitVec.ofNat 32 (i 0).val
  let v19 : BitVec 32 := Scalar.addi v18 arg0
  let c2_i32_32 : BitVec 32 := 2#32
  let v75 : BitVec 32 := Scalar.addi v19 c2_i32_32
  let c0_i32_36 : BitVec 32 := 0#32
  ![0, v75.toNat, 0]

def k0_chk1 (i : grid0.Coords) (v18 : BitVec 32) : Prop :=
  (∀ (k0_h1 : k0_cond1 i = 1#1), ∀ a, (k0_off1 i v18) a + S2048x1x128.size a ≤ S2048x64x128.size a) ∧
  (∀ (k0_h1 : k0_cond1 i = 1#1), ∀ a, (k0_off2 i v18) a + S2048x1x128.size a ≤ S2048x64x128.size a) ∧
  (∀ a, (k0_off5 i v18) a + S2048x1x128.size a ≤ S2048x64x128.size a) ∧
  (∀ (k0_h2 : k0_cond2 i = 1#1), ∀ a, (k0_off9 i v18) a + S2048x1x128.size a ≤ S2048x64x128.size a) ∧
  (∀ (k0_h3 : k0_cond3 i = 1#1), ∀ a, (k0_off12 i v18) a + S2048x1x128.size a ≤ S2048x64x128.size a)
theorem k0_off1_inb : ∀ (i : grid0.Coords) (v18 : BitVec 32) (k0_hw1 : k0_chk1 i v18), ∀ (k0_h1 : k0_cond1 i = 1#1), ∀ a, (k0_off1 i v18) a + S2048x1x128.size a ≤ S2048x64x128.size a := fun i v18 k0_hw1 k0_h1 => k0_hw1.1 k0_h1
theorem k0_off2_inb : ∀ (i : grid0.Coords) (v18 : BitVec 32) (k0_hw1 : k0_chk1 i v18), ∀ (k0_h1 : k0_cond1 i = 1#1), ∀ a, (k0_off2 i v18) a + S2048x1x128.size a ≤ S2048x64x128.size a := fun i v18 k0_hw1 k0_h1 => k0_hw1.2.1 k0_h1
theorem k0_off5_inb : ∀ (i : grid0.Coords) (v18 : BitVec 32) (k0_hw1 : k0_chk1 i v18), ∀ a, (k0_off5 i v18) a + S2048x1x128.size a ≤ S2048x64x128.size a := fun i v18 k0_hw1 => k0_hw1.2.2.1
theorem k0_off9_inb : ∀ (i : grid0.Coords) (v18 : BitVec 32) (k0_hw1 : k0_chk1 i v18), ∀ (k0_h2 : k0_cond2 i = 1#1), ∀ a, (k0_off9 i v18) a + S2048x1x128.size a ≤ S2048x64x128.size a := fun i v18 k0_hw1 k0_h2 => k0_hw1.2.2.2.1 k0_h2
theorem k0_off12_inb : ∀ (i : grid0.Coords) (v18 : BitVec 32) (k0_hw1 : k0_chk1 i v18), ∀ (k0_h3 : k0_cond3 i = 1#1), ∀ a, (k0_off12 i v18) a + S2048x1x128.size a ≤ S2048x64x128.size a := fun i v18 k0_hw1 k0_h3 => k0_hw1.2.2.2.2 k0_h3

def k0_off13 (i : grid0.Coords) : Fin 2 → Nat :=
  let c0_30 : Index := 0#32
  let arg0 : BitVec 32 := BitVec.ofNat 32 (i 0).val
  let c128_i32 : BitVec 32 := 128#32
  let v67 : BitVec 32 := Scalar.muli arg0 c128_i32
  let v68 : Index := Scalar.indexCast v67
  ![0, v68.toNat]
def k0_cond4 (i : grid0.Coords) : BitVec 1 :=
  let arg0 : BitVec 32 := BitVec.ofNat 32 (i 0).val
  let c7_i32 : BitVec 32 := 7#32
  let v72 : BitVec 1 := Scalar.cmpi .eq arg0 c7_i32
  let v73 : BitVec 32 := Scalar.extui v72
  let c0_i32_31 : BitVec 32 := 0#32
  let v74 : BitVec 1 := Scalar.cmpi .ne v73 c0_i32_31
  v74

def k0_dev1 : Nat :=
  let c0_i32_147 : BitVec 32 := 0#32
  let c0_i32_145 : BitVec 32 := 0#32
  let c1_i32_146 : BitVec 32 := 1#32
  let v245 : BitVec 32 := Scalar.muli c0_i32_145 c1_i32_146
  let v246 : BitVec 32 := Scalar.addi c0_i32_147 v245
  v246.toNat
def k0_dev2 : Nat :=
  let c0_i32_147 : BitVec 32 := 0#32
  let c1_i32_145 : BitVec 32 := 1#32
  let c1_i32_146 : BitVec 32 := 1#32
  let v245 : BitVec 32 := Scalar.muli c1_i32_145 c1_i32_146
  let v246 : BitVec 32 := Scalar.addi c0_i32_147 v245
  v246.toNat
def k0_dev3 : Nat :=
  let c0_i32_147 : BitVec 32 := 0#32
  let c2_i32_145 : BitVec 32 := 2#32
  let c1_i32_146 : BitVec 32 := 1#32
  let v245 : BitVec 32 := Scalar.muli c2_i32_145 c1_i32_146
  let v246 : BitVec 32 := Scalar.addi c0_i32_147 v245
  v246.toNat
def k0_dev4 : Nat :=
  let c0_i32_147 : BitVec 32 := 0#32
  let c3_i32_145 : BitVec 32 := 3#32
  let c1_i32_146 : BitVec 32 := 1#32
  let v245 : BitVec 32 := Scalar.muli c3_i32_145 c1_i32_146
  let v246 : BitVec 32 := Scalar.addi c0_i32_147 v245
  v246.toNat
def k0_dev5 : Nat :=
  let c0_i32_147 : BitVec 32 := 0#32
  let c4_i32_145 : BitVec 32 := 4#32
  let c1_i32_146 : BitVec 32 := 1#32
  let v245 : BitVec 32 := Scalar.muli c4_i32_145 c1_i32_146
  let v246 : BitVec 32 := Scalar.addi c0_i32_147 v245
  v246.toNat
def k0_dev6 : Nat :=
  let c0_i32_147 : BitVec 32 := 0#32
  let c5_i32_145 : BitVec 32 := 5#32
  let c1_i32_146 : BitVec 32 := 1#32
  let v245 : BitVec 32 := Scalar.muli c5_i32_145 c1_i32_146
  let v246 : BitVec 32 := Scalar.addi c0_i32_147 v245
  v246.toNat
def k0_dev7 : Nat :=
  let c0_i32_147 : BitVec 32 := 0#32
  let c6_i32_145 : BitVec 32 := 6#32
  let c1_i32_146 : BitVec 32 := 1#32
  let v245 : BitVec 32 := Scalar.muli c6_i32_145 c1_i32_146
  let v246 : BitVec 32 := Scalar.addi c0_i32_147 v245
  v246.toNat
def k0_dev8 : Nat :=
  let c0_i32_147 : BitVec 32 := 0#32
  let c7_i32_145 : BitVec 32 := 7#32
  let c1_i32_146 : BitVec 32 := 1#32
  let v245 : BitVec 32 := Scalar.muli c7_i32_145 c1_i32_146
  let v246 : BitVec 32 := Scalar.addi c0_i32_147 v245
  v246.toNat
def k0_off14 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond13 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_57 : BitVec 32 := 0#32
  let v112 : BitVec 1 := Scalar.cmpi .ne v17 c0_i32_57
  let v113 : BitVec 32 := Scalar.extui v112
  let c0_i32_58 : BitVec 32 := 0#32
  let v114 : BitVec 1 := Scalar.cmpi .ne v113 c0_i32_58
  v114

def k0_off15 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev9 : Nat :=
  let c0_i32_147 : BitVec 32 := 0#32
  let c0_i32_145 : BitVec 32 := 0#32
  let c1_i32_146 : BitVec 32 := 1#32
  let v245 : BitVec 32 := Scalar.muli c0_i32_145 c1_i32_146
  let v246 : BitVec 32 := Scalar.addi c0_i32_147 v245
  v246.toNat
def k0_off16 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond14 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c1_i32_59 : BitVec 32 := 1#32
  let v115 : BitVec 1 := Scalar.cmpi .ne v17 c1_i32_59
  let v116 : BitVec 32 := Scalar.extui v115
  let c0_i32_60 : BitVec 32 := 0#32
  let v117 : BitVec 1 := Scalar.cmpi .ne v116 c0_i32_60
  v117

def k0_off17 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev10 : Nat :=
  let c0_i32_147 : BitVec 32 := 0#32
  let c1_i32_145 : BitVec 32 := 1#32
  let c1_i32_146 : BitVec 32 := 1#32
  let v245 : BitVec 32 := Scalar.muli c1_i32_145 c1_i32_146
  let v246 : BitVec 32 := Scalar.addi c0_i32_147 v245
  v246.toNat
def k0_off18 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond15 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c2_i32_61 : BitVec 32 := 2#32
  let v118 : BitVec 1 := Scalar.cmpi .ne v17 c2_i32_61
  let v119 : BitVec 32 := Scalar.extui v118
  let c0_i32_62 : BitVec 32 := 0#32
  let v120 : BitVec 1 := Scalar.cmpi .ne v119 c0_i32_62
  v120

def k0_off19 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev11 : Nat :=
  let c0_i32_147 : BitVec 32 := 0#32
  let c2_i32_145 : BitVec 32 := 2#32
  let c1_i32_146 : BitVec 32 := 1#32
  let v245 : BitVec 32 := Scalar.muli c2_i32_145 c1_i32_146
  let v246 : BitVec 32 := Scalar.addi c0_i32_147 v245
  v246.toNat
def k0_off20 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond16 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c3_i32_63 : BitVec 32 := 3#32
  let v121 : BitVec 1 := Scalar.cmpi .ne v17 c3_i32_63
  let v122 : BitVec 32 := Scalar.extui v121
  let c0_i32_64 : BitVec 32 := 0#32
  let v123 : BitVec 1 := Scalar.cmpi .ne v122 c0_i32_64
  v123

def k0_off21 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev12 : Nat :=
  let c0_i32_147 : BitVec 32 := 0#32
  let c3_i32_145 : BitVec 32 := 3#32
  let c1_i32_146 : BitVec 32 := 1#32
  let v245 : BitVec 32 := Scalar.muli c3_i32_145 c1_i32_146
  let v246 : BitVec 32 := Scalar.addi c0_i32_147 v245
  v246.toNat
def k0_off22 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond17 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c4_i32_65 : BitVec 32 := 4#32
  let v124 : BitVec 1 := Scalar.cmpi .ne v17 c4_i32_65
  let v125 : BitVec 32 := Scalar.extui v124
  let c0_i32_66 : BitVec 32 := 0#32
  let v126 : BitVec 1 := Scalar.cmpi .ne v125 c0_i32_66
  v126

def k0_off23 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev13 : Nat :=
  let c0_i32_147 : BitVec 32 := 0#32
  let c4_i32_145 : BitVec 32 := 4#32
  let c1_i32_146 : BitVec 32 := 1#32
  let v245 : BitVec 32 := Scalar.muli c4_i32_145 c1_i32_146
  let v246 : BitVec 32 := Scalar.addi c0_i32_147 v245
  v246.toNat
def k0_off24 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond18 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c5_i32_67 : BitVec 32 := 5#32
  let v127 : BitVec 1 := Scalar.cmpi .ne v17 c5_i32_67
  let v128 : BitVec 32 := Scalar.extui v127
  let c0_i32_68 : BitVec 32 := 0#32
  let v129 : BitVec 1 := Scalar.cmpi .ne v128 c0_i32_68
  v129

def k0_off25 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev14 : Nat :=
  let c0_i32_147 : BitVec 32 := 0#32
  let c5_i32_145 : BitVec 32 := 5#32
  let c1_i32_146 : BitVec 32 := 1#32
  let v245 : BitVec 32 := Scalar.muli c5_i32_145 c1_i32_146
  let v246 : BitVec 32 := Scalar.addi c0_i32_147 v245
  v246.toNat
def k0_off26 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond19 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c6_i32_69 : BitVec 32 := 6#32
  let v130 : BitVec 1 := Scalar.cmpi .ne v17 c6_i32_69
  let v131 : BitVec 32 := Scalar.extui v130
  let c0_i32_70 : BitVec 32 := 0#32
  let v132 : BitVec 1 := Scalar.cmpi .ne v131 c0_i32_70
  v132

def k0_off27 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev15 : Nat :=
  let c0_i32_147 : BitVec 32 := 0#32
  let c6_i32_145 : BitVec 32 := 6#32
  let c1_i32_146 : BitVec 32 := 1#32
  let v245 : BitVec 32 := Scalar.muli c6_i32_145 c1_i32_146
  let v246 : BitVec 32 := Scalar.addi c0_i32_147 v245
  v246.toNat
def k0_off28 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond20 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c7_i32_71 : BitVec 32 := 7#32
  let v133 : BitVec 1 := Scalar.cmpi .ne v17 c7_i32_71
  let v134 : BitVec 32 := Scalar.extui v133
  let c0_i32_72 : BitVec 32 := 0#32
  let v135 : BitVec 1 := Scalar.cmpi .ne v134 c0_i32_72
  v135

def k0_off29 (v0 : BitVec 32) : Fin 3 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_148 : BitVec 32 := 0#32
  let c0_i32_149 : BitVec 32 := 0#32
  ![v17.toNat, 0, 0]
def k0_dev16 : Nat :=
  let c0_i32_147 : BitVec 32 := 0#32
  let c7_i32_145 : BitVec 32 := 7#32
  let c1_i32_146 : BitVec 32 := 1#32
  let v245 : BitVec 32 := Scalar.muli c7_i32_145 c1_i32_146
  let v246 : BitVec 32 := Scalar.addi c0_i32_147 v245
  v246.toNat
def k0_off30 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond21 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_73 : BitVec 32 := 0#32
  let v136 : BitVec 1 := Scalar.cmpi .ne v17 c0_i32_73
  let v137 : BitVec 32 := Scalar.extui v136
  let c0_i32_74 : BitVec 32 := 0#32
  let v138 : BitVec 1 := Scalar.cmpi .ne v137 c0_i32_74
  v138

def k0_off31 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond22 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c1_i32_75 : BitVec 32 := 1#32
  let v139 : BitVec 1 := Scalar.cmpi .ne v17 c1_i32_75
  let v140 : BitVec 32 := Scalar.extui v139
  let c0_i32_76 : BitVec 32 := 0#32
  let v141 : BitVec 1 := Scalar.cmpi .ne v140 c0_i32_76
  v141

def k0_off32 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond23 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c2_i32_77 : BitVec 32 := 2#32
  let v142 : BitVec 1 := Scalar.cmpi .ne v17 c2_i32_77
  let v143 : BitVec 32 := Scalar.extui v142
  let c0_i32_78 : BitVec 32 := 0#32
  let v144 : BitVec 1 := Scalar.cmpi .ne v143 c0_i32_78
  v144

def k0_off33 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond24 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c3_i32_79 : BitVec 32 := 3#32
  let v145 : BitVec 1 := Scalar.cmpi .ne v17 c3_i32_79
  let v146 : BitVec 32 := Scalar.extui v145
  let c0_i32_80 : BitVec 32 := 0#32
  let v147 : BitVec 1 := Scalar.cmpi .ne v146 c0_i32_80
  v147

def k0_off34 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond25 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c4_i32_81 : BitVec 32 := 4#32
  let v148 : BitVec 1 := Scalar.cmpi .ne v17 c4_i32_81
  let v149 : BitVec 32 := Scalar.extui v148
  let c0_i32_82 : BitVec 32 := 0#32
  let v150 : BitVec 1 := Scalar.cmpi .ne v149 c0_i32_82
  v150

def k0_off35 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond26 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c5_i32_83 : BitVec 32 := 5#32
  let v151 : BitVec 1 := Scalar.cmpi .ne v17 c5_i32_83
  let v152 : BitVec 32 := Scalar.extui v151
  let c0_i32_84 : BitVec 32 := 0#32
  let v153 : BitVec 1 := Scalar.cmpi .ne v152 c0_i32_84
  v153

def k0_off36 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond27 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c6_i32_85 : BitVec 32 := 6#32
  let v154 : BitVec 1 := Scalar.cmpi .ne v17 c6_i32_85
  let v155 : BitVec 32 := Scalar.extui v154
  let c0_i32_86 : BitVec 32 := 0#32
  let v156 : BitVec 1 := Scalar.cmpi .ne v155 c0_i32_86
  v156

def k0_off37 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_154 : BitVec 32 := 64#32
  let v252 : BitVec 32 := Scalar.muli v17 c64_i32_154
  let v253 : Index := Scalar.indexCast v252
  let c0_155 : Index := 0#32
  ![v253.toNat, 0]
def k0_cond28 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c7_i32_87 : BitVec 32 := 7#32
  let v157 : BitVec 1 := Scalar.cmpi .ne v17 c7_i32_87
  let v158 : BitVec 32 := Scalar.extui v157
  let c0_i32_88 : BitVec 32 := 0#32
  let v159 : BitVec 1 := Scalar.cmpi .ne v158 c0_i32_88
  v159

def k0_off38 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32 : BitVec 32 := 64#32
  let v160 : BitVec 32 := Scalar.muli v17 c64_i32
  let v161 : Index := Scalar.indexCast v160
  let c0_89 : Index := 0#32
  ![v161.toNat, 0]
def k0_off39 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond29 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c0_i32_92 : BitVec 32 := 0#32
  let v170 : BitVec 1 := Scalar.cmpi .ne v17 c0_i32_92
  let v171 : BitVec 32 := Scalar.extui v170
  let c0_i32_93 : BitVec 32 := 0#32
  let v172 : BitVec 1 := Scalar.cmpi .ne v171 c0_i32_93
  v172

def k0_off40 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev17 : Nat :=
  let c0_i32_149 : BitVec 32 := 0#32
  let c0_i32_147 : BitVec 32 := 0#32
  let c1_i32_148 : BitVec 32 := 1#32
  let v247 : BitVec 32 := Scalar.muli c0_i32_147 c1_i32_148
  let v248 : BitVec 32 := Scalar.addi c0_i32_149 v247
  v248.toNat
def k0_off41 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond30 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c1_i32_94 : BitVec 32 := 1#32
  let v173 : BitVec 1 := Scalar.cmpi .ne v17 c1_i32_94
  let v174 : BitVec 32 := Scalar.extui v173
  let c0_i32_95 : BitVec 32 := 0#32
  let v175 : BitVec 1 := Scalar.cmpi .ne v174 c0_i32_95
  v175

def k0_off42 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev18 : Nat :=
  let c0_i32_149 : BitVec 32 := 0#32
  let c1_i32_147 : BitVec 32 := 1#32
  let c1_i32_148 : BitVec 32 := 1#32
  let v247 : BitVec 32 := Scalar.muli c1_i32_147 c1_i32_148
  let v248 : BitVec 32 := Scalar.addi c0_i32_149 v247
  v248.toNat
def k0_off43 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond31 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c2_i32_96 : BitVec 32 := 2#32
  let v176 : BitVec 1 := Scalar.cmpi .ne v17 c2_i32_96
  let v177 : BitVec 32 := Scalar.extui v176
  let c0_i32_97 : BitVec 32 := 0#32
  let v178 : BitVec 1 := Scalar.cmpi .ne v177 c0_i32_97
  v178

def k0_off44 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev19 : Nat :=
  let c0_i32_149 : BitVec 32 := 0#32
  let c2_i32_147 : BitVec 32 := 2#32
  let c1_i32_148 : BitVec 32 := 1#32
  let v247 : BitVec 32 := Scalar.muli c2_i32_147 c1_i32_148
  let v248 : BitVec 32 := Scalar.addi c0_i32_149 v247
  v248.toNat
def k0_off45 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond32 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c3_i32_98 : BitVec 32 := 3#32
  let v179 : BitVec 1 := Scalar.cmpi .ne v17 c3_i32_98
  let v180 : BitVec 32 := Scalar.extui v179
  let c0_i32_99 : BitVec 32 := 0#32
  let v181 : BitVec 1 := Scalar.cmpi .ne v180 c0_i32_99
  v181

def k0_off46 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev20 : Nat :=
  let c0_i32_149 : BitVec 32 := 0#32
  let c3_i32_147 : BitVec 32 := 3#32
  let c1_i32_148 : BitVec 32 := 1#32
  let v247 : BitVec 32 := Scalar.muli c3_i32_147 c1_i32_148
  let v248 : BitVec 32 := Scalar.addi c0_i32_149 v247
  v248.toNat
def k0_off47 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond33 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c4_i32_100 : BitVec 32 := 4#32
  let v182 : BitVec 1 := Scalar.cmpi .ne v17 c4_i32_100
  let v183 : BitVec 32 := Scalar.extui v182
  let c0_i32_101 : BitVec 32 := 0#32
  let v184 : BitVec 1 := Scalar.cmpi .ne v183 c0_i32_101
  v184

def k0_off48 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev21 : Nat :=
  let c0_i32_149 : BitVec 32 := 0#32
  let c4_i32_147 : BitVec 32 := 4#32
  let c1_i32_148 : BitVec 32 := 1#32
  let v247 : BitVec 32 := Scalar.muli c4_i32_147 c1_i32_148
  let v248 : BitVec 32 := Scalar.addi c0_i32_149 v247
  v248.toNat
def k0_off49 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond34 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c5_i32_102 : BitVec 32 := 5#32
  let v185 : BitVec 1 := Scalar.cmpi .ne v17 c5_i32_102
  let v186 : BitVec 32 := Scalar.extui v185
  let c0_i32_103 : BitVec 32 := 0#32
  let v187 : BitVec 1 := Scalar.cmpi .ne v186 c0_i32_103
  v187

def k0_off50 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev22 : Nat :=
  let c0_i32_149 : BitVec 32 := 0#32
  let c5_i32_147 : BitVec 32 := 5#32
  let c1_i32_148 : BitVec 32 := 1#32
  let v247 : BitVec 32 := Scalar.muli c5_i32_147 c1_i32_148
  let v248 : BitVec 32 := Scalar.addi c0_i32_149 v247
  v248.toNat
def k0_off51 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond35 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c6_i32_104 : BitVec 32 := 6#32
  let v188 : BitVec 1 := Scalar.cmpi .ne v17 c6_i32_104
  let v189 : BitVec 32 := Scalar.extui v188
  let c0_i32_105 : BitVec 32 := 0#32
  let v190 : BitVec 1 := Scalar.cmpi .ne v189 c0_i32_105
  v190

def k0_off52 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]
def k0_dev23 : Nat :=
  let c0_i32_149 : BitVec 32 := 0#32
  let c6_i32_147 : BitVec 32 := 6#32
  let c1_i32_148 : BitVec 32 := 1#32
  let v247 : BitVec 32 := Scalar.muli c6_i32_147 c1_i32_148
  let v248 : BitVec 32 := Scalar.addi c0_i32_149 v247
  v248.toNat
def k0_off53 (v0 : BitVec 32) : Fin 1 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  ![v17.toNat]
def k0_cond36 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c7_i32_106 : BitVec 32 := 7#32
  let v191 : BitVec 1 := Scalar.cmpi .ne v17 c7_i32_106
  let v192 : BitVec 32 := Scalar.extui v191
  let c0_i32_107 : BitVec 32 := 0#32
  let v193 : BitVec 1 := Scalar.cmpi .ne v192 c0_i32_107
  v193

def k0_off54 (v0 : BitVec 32) : Fin 2 → Nat :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let c64_i32_145 : BitVec 32 := 64#32
  let v246 : BitVec 32 := Scalar.muli v17 c64_i32_145
  let c0_i32_150 : BitVec 32 := 0#32
  ![v246.toNat, 0]

def k0_chk2_0 (i : grid0.Coords) (v0 : BitVec 32) : Prop :=
  (∀ (k0_h4 : k0_cond4 i = 1#1), ∀ (k0_h13 : k0_cond13 v0 = 1#1), ∀ a, (k0_off14 v0) a + S1.size a ≤ S8.size a) ∧
  (∀ (k0_h4 : k0_cond4 i = 1#1), ∀ (k0_h13 : k0_cond13 v0 = 1#1), ∀ a, (k0_off15 v0) a + S1x64x1024.size a ≤ S8x64x1024.size a) ∧
  (∀ (k0_h4 : k0_cond4 i = 1#1), ∀ (k0_h13 : k0_cond13 v0 = 1#1), ∀ (hinb : ∀ a, (k0_off15 v0) a + S1x64x1024.size a ≤ S8x64x1024.size a), (Rect.unit (s := S8x64x1024) (k0_off15 v0) S1x64x1024.size hinb).WholeWords (EltTy.packing .bf16)) ∧
  (∀ (k0_h4 : k0_cond4 i = 1#1), ∀ (k0_h14 : k0_cond14 v0 = 1#1), ∀ a, (k0_off16 v0) a + S1.size a ≤ S8.size a) ∧
  (∀ (k0_h4 : k0_cond4 i = 1#1), ∀ (k0_h14 : k0_cond14 v0 = 1#1), ∀ a, (k0_off17 v0) a + S1x64x1024.size a ≤ S8x64x1024.size a) ∧
  (∀ (k0_h4 : k0_cond4 i = 1#1), ∀ (k0_h14 : k0_cond14 v0 = 1#1), ∀ (hinb : ∀ a, (k0_off17 v0) a + S1x64x1024.size a ≤ S8x64x1024.size a), (Rect.unit (s := S8x64x1024) (k0_off17 v0) S1x64x1024.size hinb).WholeWords (EltTy.packing .bf16)) ∧
  (∀ (k0_h4 : k0_cond4 i = 1#1), ∀ (k0_h15 : k0_cond15 v0 = 1#1), ∀ a, (k0_off18 v0) a + S1.size a ≤ S8.size a) ∧
  (∀ (k0_h4 : k0_cond4 i = 1#1), ∀ (k0_h15 : k0_cond15 v0 = 1#1), ∀ a, (k0_off19 v0) a + S1x64x1024.size a ≤ S8x64x1024.size a) ∧
  (∀ (k0_h4 : k0_cond4 i = 1#1), ∀ (k0_h15 : k0_cond15 v0 = 1#1), ∀ (hinb : ∀ a, (k0_off19 v0) a + S1x64x1024.size a ≤ S8x64x1024.size a), (Rect.unit (s := S8x64x1024) (k0_off19 v0) S1x64x1024.size hinb).WholeWords (EltTy.packing .bf16)) ∧
  (∀ (k0_h4 : k0_cond4 i = 1#1), ∀ (k0_h16 : k0_cond16 v0 = 1#1), ∀ a, (k0_off20 v0) a + S1.size a ≤ S8.size a) ∧
  (∀ (k0_h4 : k0_cond4 i = 1#1), ∀ (k0_h16 : k0_cond16 v0 = 1#1), ∀ a, (k0_off21 v0) a + S1x64x1024.size a ≤ S8x64x1024.size a) ∧
  (∀ (k0_h4 : k0_cond4 i = 1#1), ∀ (k0_h16 : k0_cond16 v0 = 1#1), ∀ (hinb : ∀ a, (k0_off21 v0) a + S1x64x1024.size a ≤ S8x64x1024.size a), (Rect.unit (s := S8x64x1024) (k0_off21 v0) S1x64x1024.size hinb).WholeWords (EltTy.packing .bf16)) ∧
  (∀ (k0_h4 : k0_cond4 i = 1#1), ∀ (k0_h17 : k0_cond17 v0 = 1#1), ∀ a, (k0_off22 v0) a + S1.size a ≤ S8.size a) ∧
  (∀ (k0_h4 : k0_cond4 i = 1#1), ∀ (k0_h17 : k0_cond17 v0 = 1#1), ∀ a, (k0_off23 v0) a + S1x64x1024.size a ≤ S8x64x1024.size a) ∧
  (∀ (k0_h4 : k0_cond4 i = 1#1), ∀ (k0_h17 : k0_cond17 v0 = 1#1), ∀ (hinb : ∀ a, (k0_off23 v0) a + S1x64x1024.size a ≤ S8x64x1024.size a), (Rect.unit (s := S8x64x1024) (k0_off23 v0) S1x64x1024.size hinb).WholeWords (EltTy.packing .bf16)) ∧
  (∀ (k0_h4 : k0_cond4 i = 1#1), ∀ (k0_h18 : k0_cond18 v0 = 1#1), ∀ a, (k0_off24 v0) a + S1.size a ≤ S8.size a) ∧
  (∀ (k0_h4 : k0_cond4 i = 1#1), ∀ (k0_h18 : k0_cond18 v0 = 1#1), ∀ a, (k0_off25 v0) a + S1x64x1024.size a ≤ S8x64x1024.size a) ∧
  (∀ (k0_h4 : k0_cond4 i = 1#1), ∀ (k0_h18 : k0_cond18 v0 = 1#1), ∀ (hinb : ∀ a, (k0_off25 v0) a + S1x64x1024.size a ≤ S8x64x1024.size a), (Rect.unit (s := S8x64x1024) (k0_off25 v0) S1x64x1024.size hinb).WholeWords (EltTy.packing .bf16)) ∧
  (∀ (k0_h4 : k0_cond4 i = 1#1), ∀ (k0_h19 : k0_cond19 v0 = 1#1), ∀ a, (k0_off26 v0) a + S1.size a ≤ S8.size a) ∧
  (∀ (k0_h4 : k0_cond4 i = 1#1), ∀ (k0_h19 : k0_cond19 v0 = 1#1), ∀ a, (k0_off27 v0) a + S1x64x1024.size a ≤ S8x64x1024.size a) ∧
  (∀ (k0_h4 : k0_cond4 i = 1#1), ∀ (k0_h19 : k0_cond19 v0 = 1#1), ∀ (hinb : ∀ a, (k0_off27 v0) a + S1x64x1024.size a ≤ S8x64x1024.size a), (Rect.unit (s := S8x64x1024) (k0_off27 v0) S1x64x1024.size hinb).WholeWords (EltTy.packing .bf16)) ∧
  (∀ (k0_h4 : k0_cond4 i = 1#1), ∀ (k0_h20 : k0_cond20 v0 = 1#1), ∀ a, (k0_off28 v0) a + S1.size a ≤ S8.size a) ∧
  (∀ (k0_h4 : k0_cond4 i = 1#1), ∀ (k0_h20 : k0_cond20 v0 = 1#1), ∀ a, (k0_off29 v0) a + S1x64x1024.size a ≤ S8x64x1024.size a) ∧
  (∀ (k0_h4 : k0_cond4 i = 1#1), ∀ (k0_h20 : k0_cond20 v0 = 1#1), ∀ (hinb : ∀ a, (k0_off29 v0) a + S1x64x1024.size a ≤ S8x64x1024.size a), (Rect.unit (s := S8x64x1024) (k0_off29 v0) S1x64x1024.size hinb).WholeWords (EltTy.packing .bf16)) ∧
  (∀ (k0_h4 : k0_cond4 i = 1#1), ∀ (k0_h21 : k0_cond21 v0 = 1#1), ∀ a, (k0_off30 v0) a + S64x1024.size a ≤ S512x1024.size a) ∧
  (∀ (k0_h4 : k0_cond4 i = 1#1), ∀ (k0_h22 : k0_cond22 v0 = 1#1), ∀ a, (k0_off31 v0) a + S64x1024.size a ≤ S512x1024.size a) ∧
  (∀ (k0_h4 : k0_cond4 i = 1#1), ∀ (k0_h23 : k0_cond23 v0 = 1#1), ∀ a, (k0_off32 v0) a + S64x1024.size a ≤ S512x1024.size a) ∧
  (∀ (k0_h4 : k0_cond4 i = 1#1), ∀ (k0_h24 : k0_cond24 v0 = 1#1), ∀ a, (k0_off33 v0) a + S64x1024.size a ≤ S512x1024.size a) ∧
  (∀ (k0_h4 : k0_cond4 i = 1#1), ∀ (k0_h25 : k0_cond25 v0 = 1#1), ∀ a, (k0_off34 v0) a + S64x1024.size a ≤ S512x1024.size a) ∧
  (∀ (k0_h4 : k0_cond4 i = 1#1), ∀ (k0_h26 : k0_cond26 v0 = 1#1), ∀ a, (k0_off35 v0) a + S64x1024.size a ≤ S512x1024.size a) ∧
  (∀ (k0_h4 : k0_cond4 i = 1#1), ∀ (k0_h27 : k0_cond27 v0 = 1#1), ∀ a, (k0_off36 v0) a + S64x1024.size a ≤ S512x1024.size a) ∧
  (∀ (k0_h4 : k0_cond4 i = 1#1), ∀ (k0_h28 : k0_cond28 v0 = 1#1), ∀ a, (k0_off37 v0) a + S64x1024.size a ≤ S512x1024.size a)
def k0_chk2_1 (i : grid0.Coords) (v0 : BitVec 32) : Prop :=
  (∀ (k0_h4 : k0_cond4 i = 1#1), ∀ a, (k0_off38 v0) a + S64x1024.size a ≤ S512x1024.size a) ∧
  (∀ (k0_h4 : k0_cond4 i = 1#1), ∀ (hinb : ∀ a, (k0_off38 v0) a + S64x1024.size a ≤ S512x1024.size a), (Rect.unit (s := S512x1024) (k0_off38 v0) S64x1024.size hinb).PackedRows (EltTy.packing .bf16)) ∧
  (∀ (k0_h4 : k0_cond4 i = 1#1), ∀ (k0_h29 : k0_cond29 v0 = 1#1), ∀ a, (k0_off39 v0) a + S1.size a ≤ S8.size a) ∧
  (∀ (k0_h4 : k0_cond4 i = 1#1), ∀ (k0_h29 : k0_cond29 v0 = 1#1), ∀ a, (k0_off40 v0) a + S64x1024.size a ≤ S512x1024.size a) ∧
  (∀ (k0_h4 : k0_cond4 i = 1#1), ∀ (k0_h29 : k0_cond29 v0 = 1#1), ∀ (hinb : ∀ a, (k0_off40 v0) a + S64x1024.size a ≤ S512x1024.size a), (Rect.unit (s := S512x1024) (k0_off40 v0) S64x1024.size hinb).WholeWords (EltTy.packing .bf16)) ∧
  (∀ (k0_h4 : k0_cond4 i = 1#1), ∀ (k0_h30 : k0_cond30 v0 = 1#1), ∀ a, (k0_off41 v0) a + S1.size a ≤ S8.size a) ∧
  (∀ (k0_h4 : k0_cond4 i = 1#1), ∀ (k0_h30 : k0_cond30 v0 = 1#1), ∀ a, (k0_off42 v0) a + S64x1024.size a ≤ S512x1024.size a) ∧
  (∀ (k0_h4 : k0_cond4 i = 1#1), ∀ (k0_h30 : k0_cond30 v0 = 1#1), ∀ (hinb : ∀ a, (k0_off42 v0) a + S64x1024.size a ≤ S512x1024.size a), (Rect.unit (s := S512x1024) (k0_off42 v0) S64x1024.size hinb).WholeWords (EltTy.packing .bf16)) ∧
  (∀ (k0_h4 : k0_cond4 i = 1#1), ∀ (k0_h31 : k0_cond31 v0 = 1#1), ∀ a, (k0_off43 v0) a + S1.size a ≤ S8.size a) ∧
  (∀ (k0_h4 : k0_cond4 i = 1#1), ∀ (k0_h31 : k0_cond31 v0 = 1#1), ∀ a, (k0_off44 v0) a + S64x1024.size a ≤ S512x1024.size a) ∧
  (∀ (k0_h4 : k0_cond4 i = 1#1), ∀ (k0_h31 : k0_cond31 v0 = 1#1), ∀ (hinb : ∀ a, (k0_off44 v0) a + S64x1024.size a ≤ S512x1024.size a), (Rect.unit (s := S512x1024) (k0_off44 v0) S64x1024.size hinb).WholeWords (EltTy.packing .bf16)) ∧
  (∀ (k0_h4 : k0_cond4 i = 1#1), ∀ (k0_h32 : k0_cond32 v0 = 1#1), ∀ a, (k0_off45 v0) a + S1.size a ≤ S8.size a) ∧
  (∀ (k0_h4 : k0_cond4 i = 1#1), ∀ (k0_h32 : k0_cond32 v0 = 1#1), ∀ a, (k0_off46 v0) a + S64x1024.size a ≤ S512x1024.size a) ∧
  (∀ (k0_h4 : k0_cond4 i = 1#1), ∀ (k0_h32 : k0_cond32 v0 = 1#1), ∀ (hinb : ∀ a, (k0_off46 v0) a + S64x1024.size a ≤ S512x1024.size a), (Rect.unit (s := S512x1024) (k0_off46 v0) S64x1024.size hinb).WholeWords (EltTy.packing .bf16)) ∧
  (∀ (k0_h4 : k0_cond4 i = 1#1), ∀ (k0_h33 : k0_cond33 v0 = 1#1), ∀ a, (k0_off47 v0) a + S1.size a ≤ S8.size a) ∧
  (∀ (k0_h4 : k0_cond4 i = 1#1), ∀ (k0_h33 : k0_cond33 v0 = 1#1), ∀ a, (k0_off48 v0) a + S64x1024.size a ≤ S512x1024.size a) ∧
  (∀ (k0_h4 : k0_cond4 i = 1#1), ∀ (k0_h33 : k0_cond33 v0 = 1#1), ∀ (hinb : ∀ a, (k0_off48 v0) a + S64x1024.size a ≤ S512x1024.size a), (Rect.unit (s := S512x1024) (k0_off48 v0) S64x1024.size hinb).WholeWords (EltTy.packing .bf16)) ∧
  (∀ (k0_h4 : k0_cond4 i = 1#1), ∀ (k0_h34 : k0_cond34 v0 = 1#1), ∀ a, (k0_off49 v0) a + S1.size a ≤ S8.size a) ∧
  (∀ (k0_h4 : k0_cond4 i = 1#1), ∀ (k0_h34 : k0_cond34 v0 = 1#1), ∀ a, (k0_off50 v0) a + S64x1024.size a ≤ S512x1024.size a) ∧
  (∀ (k0_h4 : k0_cond4 i = 1#1), ∀ (k0_h34 : k0_cond34 v0 = 1#1), ∀ (hinb : ∀ a, (k0_off50 v0) a + S64x1024.size a ≤ S512x1024.size a), (Rect.unit (s := S512x1024) (k0_off50 v0) S64x1024.size hinb).WholeWords (EltTy.packing .bf16)) ∧
  (∀ (k0_h4 : k0_cond4 i = 1#1), ∀ (k0_h35 : k0_cond35 v0 = 1#1), ∀ a, (k0_off51 v0) a + S1.size a ≤ S8.size a) ∧
  (∀ (k0_h4 : k0_cond4 i = 1#1), ∀ (k0_h35 : k0_cond35 v0 = 1#1), ∀ a, (k0_off52 v0) a + S64x1024.size a ≤ S512x1024.size a) ∧
  (∀ (k0_h4 : k0_cond4 i = 1#1), ∀ (k0_h35 : k0_cond35 v0 = 1#1), ∀ (hinb : ∀ a, (k0_off52 v0) a + S64x1024.size a ≤ S512x1024.size a), (Rect.unit (s := S512x1024) (k0_off52 v0) S64x1024.size hinb).WholeWords (EltTy.packing .bf16)) ∧
  (∀ (k0_h4 : k0_cond4 i = 1#1), ∀ (k0_h36 : k0_cond36 v0 = 1#1), ∀ a, (k0_off53 v0) a + S1.size a ≤ S8.size a) ∧
  (∀ (k0_h4 : k0_cond4 i = 1#1), ∀ (k0_h36 : k0_cond36 v0 = 1#1), ∀ a, (k0_off54 v0) a + S64x1024.size a ≤ S512x1024.size a) ∧
  (∀ (k0_h4 : k0_cond4 i = 1#1), ∀ (k0_h36 : k0_cond36 v0 = 1#1), ∀ (hinb : ∀ a, (k0_off54 v0) a + S64x1024.size a ≤ S512x1024.size a), (Rect.unit (s := S512x1024) (k0_off54 v0) S64x1024.size hinb).WholeWords (EltTy.packing .bf16))
def k0_chk2 (i : grid0.Coords) (v0 : BitVec 32) : Prop :=
  k0_chk2_0 i v0 ∧
  k0_chk2_1 i v0
theorem k0_off14_inb : ∀ (i : grid0.Coords) (v0 : BitVec 32) (k0_hw2 : k0_chk2 i v0), ∀ (k0_h4 : k0_cond4 i = 1#1), ∀ (k0_h13 : k0_cond13 v0 = 1#1), ∀ a, (k0_off14 v0) a + S1.size a ≤ S8.size a := fun i v0 k0_hw2 k0_h4 k0_h13 => k0_hw2.1.1 k0_h4 k0_h13
theorem k0_off15_inb : ∀ (i : grid0.Coords) (v0 : BitVec 32) (k0_hw2 : k0_chk2 i v0), ∀ (k0_h4 : k0_cond4 i = 1#1), ∀ (k0_h13 : k0_cond13 v0 = 1#1), ∀ a, (k0_off15 v0) a + S1x64x1024.size a ≤ S8x64x1024.size a := fun i v0 k0_hw2 k0_h4 k0_h13 => k0_hw2.1.2.1 k0_h4 k0_h13
theorem k0_off15_wordsbf16 : ∀ (i : grid0.Coords) (v0 : BitVec 32) (k0_hw2 : k0_chk2 i v0), ∀ (k0_h4 : k0_cond4 i = 1#1), ∀ (k0_h13 : k0_cond13 v0 = 1#1), (Rect.unit (s := S8x64x1024) (k0_off15 v0) S1x64x1024.size (k0_off15_inb i v0 k0_hw2 k0_h4 k0_h13)).WholeWords (EltTy.packing .bf16) := fun i v0 k0_hw2 k0_h4 k0_h13 => k0_hw2.1.2.2.1 k0_h4 k0_h13 (k0_off15_inb i v0 k0_hw2 k0_h4 k0_h13)
theorem k0_off16_inb : ∀ (i : grid0.Coords) (v0 : BitVec 32) (k0_hw2 : k0_chk2 i v0), ∀ (k0_h4 : k0_cond4 i = 1#1), ∀ (k0_h14 : k0_cond14 v0 = 1#1), ∀ a, (k0_off16 v0) a + S1.size a ≤ S8.size a := fun i v0 k0_hw2 k0_h4 k0_h14 => k0_hw2.1.2.2.2.1 k0_h4 k0_h14
theorem k0_off17_inb : ∀ (i : grid0.Coords) (v0 : BitVec 32) (k0_hw2 : k0_chk2 i v0), ∀ (k0_h4 : k0_cond4 i = 1#1), ∀ (k0_h14 : k0_cond14 v0 = 1#1), ∀ a, (k0_off17 v0) a + S1x64x1024.size a ≤ S8x64x1024.size a := fun i v0 k0_hw2 k0_h4 k0_h14 => k0_hw2.1.2.2.2.2.1 k0_h4 k0_h14
theorem k0_off17_wordsbf16 : ∀ (i : grid0.Coords) (v0 : BitVec 32) (k0_hw2 : k0_chk2 i v0), ∀ (k0_h4 : k0_cond4 i = 1#1), ∀ (k0_h14 : k0_cond14 v0 = 1#1), (Rect.unit (s := S8x64x1024) (k0_off17 v0) S1x64x1024.size (k0_off17_inb i v0 k0_hw2 k0_h4 k0_h14)).WholeWords (EltTy.packing .bf16) := fun i v0 k0_hw2 k0_h4 k0_h14 => k0_hw2.1.2.2.2.2.2.1 k0_h4 k0_h14 (k0_off17_inb i v0 k0_hw2 k0_h4 k0_h14)
theorem k0_off18_inb : ∀ (i : grid0.Coords) (v0 : BitVec 32) (k0_hw2 : k0_chk2 i v0), ∀ (k0_h4 : k0_cond4 i = 1#1), ∀ (k0_h15 : k0_cond15 v0 = 1#1), ∀ a, (k0_off18 v0) a + S1.size a ≤ S8.size a := fun i v0 k0_hw2 k0_h4 k0_h15 => k0_hw2.1.2.2.2.2.2.2.1 k0_h4 k0_h15
theorem k0_off19_inb : ∀ (i : grid0.Coords) (v0 : BitVec 32) (k0_hw2 : k0_chk2 i v0), ∀ (k0_h4 : k0_cond4 i = 1#1), ∀ (k0_h15 : k0_cond15 v0 = 1#1), ∀ a, (k0_off19 v0) a + S1x64x1024.size a ≤ S8x64x1024.size a := fun i v0 k0_hw2 k0_h4 k0_h15 => k0_hw2.1.2.2.2.2.2.2.2.1 k0_h4 k0_h15
theorem k0_off19_wordsbf16 : ∀ (i : grid0.Coords) (v0 : BitVec 32) (k0_hw2 : k0_chk2 i v0), ∀ (k0_h4 : k0_cond4 i = 1#1), ∀ (k0_h15 : k0_cond15 v0 = 1#1), (Rect.unit (s := S8x64x1024) (k0_off19 v0) S1x64x1024.size (k0_off19_inb i v0 k0_hw2 k0_h4 k0_h15)).WholeWords (EltTy.packing .bf16) := fun i v0 k0_hw2 k0_h4 k0_h15 => k0_hw2.1.2.2.2.2.2.2.2.2.1 k0_h4 k0_h15 (k0_off19_inb i v0 k0_hw2 k0_h4 k0_h15)
theorem k0_off20_inb : ∀ (i : grid0.Coords) (v0 : BitVec 32) (k0_hw2 : k0_chk2 i v0), ∀ (k0_h4 : k0_cond4 i = 1#1), ∀ (k0_h16 : k0_cond16 v0 = 1#1), ∀ a, (k0_off20 v0) a + S1.size a ≤ S8.size a := fun i v0 k0_hw2 k0_h4 k0_h16 => k0_hw2.1.2.2.2.2.2.2.2.2.2.1 k0_h4 k0_h16
theorem k0_off21_inb : ∀ (i : grid0.Coords) (v0 : BitVec 32) (k0_hw2 : k0_chk2 i v0), ∀ (k0_h4 : k0_cond4 i = 1#1), ∀ (k0_h16 : k0_cond16 v0 = 1#1), ∀ a, (k0_off21 v0) a + S1x64x1024.size a ≤ S8x64x1024.size a := fun i v0 k0_hw2 k0_h4 k0_h16 => k0_hw2.1.2.2.2.2.2.2.2.2.2.2.1 k0_h4 k0_h16
theorem k0_off21_wordsbf16 : ∀ (i : grid0.Coords) (v0 : BitVec 32) (k0_hw2 : k0_chk2 i v0), ∀ (k0_h4 : k0_cond4 i = 1#1), ∀ (k0_h16 : k0_cond16 v0 = 1#1), (Rect.unit (s := S8x64x1024) (k0_off21 v0) S1x64x1024.size (k0_off21_inb i v0 k0_hw2 k0_h4 k0_h16)).WholeWords (EltTy.packing .bf16) := fun i v0 k0_hw2 k0_h4 k0_h16 => k0_hw2.1.2.2.2.2.2.2.2.2.2.2.2.1 k0_h4 k0_h16 (k0_off21_inb i v0 k0_hw2 k0_h4 k0_h16)
theorem k0_off22_inb : ∀ (i : grid0.Coords) (v0 : BitVec 32) (k0_hw2 : k0_chk2 i v0), ∀ (k0_h4 : k0_cond4 i = 1#1), ∀ (k0_h17 : k0_cond17 v0 = 1#1), ∀ a, (k0_off22 v0) a + S1.size a ≤ S8.size a := fun i v0 k0_hw2 k0_h4 k0_h17 => k0_hw2.1.2.2.2.2.2.2.2.2.2.2.2.2.1 k0_h4 k0_h17
theorem k0_off23_inb : ∀ (i : grid0.Coords) (v0 : BitVec 32) (k0_hw2 : k0_chk2 i v0), ∀ (k0_h4 : k0_cond4 i = 1#1), ∀ (k0_h17 : k0_cond17 v0 = 1#1), ∀ a, (k0_off23 v0) a + S1x64x1024.size a ≤ S8x64x1024.size a := fun i v0 k0_hw2 k0_h4 k0_h17 => k0_hw2.1.2.2.2.2.2.2.2.2.2.2.2.2.2.1 k0_h4 k0_h17
theorem k0_off23_wordsbf16 : ∀ (i : grid0.Coords) (v0 : BitVec 32) (k0_hw2 : k0_chk2 i v0), ∀ (k0_h4 : k0_cond4 i = 1#1), ∀ (k0_h17 : k0_cond17 v0 = 1#1), (Rect.unit (s := S8x64x1024) (k0_off23 v0) S1x64x1024.size (k0_off23_inb i v0 k0_hw2 k0_h4 k0_h17)).WholeWords (EltTy.packing .bf16) := fun i v0 k0_hw2 k0_h4 k0_h17 => k0_hw2.1.2.2.2.2.2.2.2.2.2.2.2.2.2.2.1 k0_h4 k0_h17 (k0_off23_inb i v0 k0_hw2 k0_h4 k0_h17)
theorem k0_off24_inb : ∀ (i : grid0.Coords) (v0 : BitVec 32) (k0_hw2 : k0_chk2 i v0), ∀ (k0_h4 : k0_cond4 i = 1#1), ∀ (k0_h18 : k0_cond18 v0 = 1#1), ∀ a, (k0_off24 v0) a + S1.size a ≤ S8.size a := fun i v0 k0_hw2 k0_h4 k0_h18 => k0_hw2.1.2.2.2.2.2.2.2.2.2.2.2.2.2.2.2.1 k0_h4 k0_h18
theorem k0_off25_inb : ∀ (i : grid0.Coords) (v0 : BitVec 32) (k0_hw2 : k0_chk2 i v0), ∀ (k0_h4 : k0_cond4 i = 1#1), ∀ (k0_h18 : k0_cond18 v0 = 1#1), ∀ a, (k0_off25 v0) a + S1x64x1024.size a ≤ S8x64x1024.size a := fun i v0 k0_hw2 k0_h4 k0_h18 => k0_hw2.1.2.2.2.2.2.2.2.2.2.2.2.2.2.2.2.2.1 k0_h4 k0_h18
theorem k0_off25_wordsbf16 : ∀ (i : grid0.Coords) (v0 : BitVec 32) (k0_hw2 : k0_chk2 i v0), ∀ (k0_h4 : k0_cond4 i = 1#1), ∀ (k0_h18 : k0_cond18 v0 = 1#1), (Rect.unit (s := S8x64x1024) (k0_off25 v0) S1x64x1024.size (k0_off25_inb i v0 k0_hw2 k0_h4 k0_h18)).WholeWords (EltTy.packing .bf16) := fun i v0 k0_hw2 k0_h4 k0_h18 => k0_hw2.1.2.2.2.2.2.2.2.2.2.2.2.2.2.2.2.2.2.1 k0_h4 k0_h18 (k0_off25_inb i v0 k0_hw2 k0_h4 k0_h18)
theorem k0_off26_inb : ∀ (i : grid0.Coords) (v0 : BitVec 32) (k0_hw2 : k0_chk2 i v0), ∀ (k0_h4 : k0_cond4 i = 1#1), ∀ (k0_h19 : k0_cond19 v0 = 1#1), ∀ a, (k0_off26 v0) a + S1.size a ≤ S8.size a := fun i v0 k0_hw2 k0_h4 k0_h19 => k0_hw2.1.2.2.2.2.2.2.2.2.2.2.2.2.2.2.2.2.2.2.1 k0_h4 k0_h19
theorem k0_off27_inb : ∀ (i : grid0.Coords) (v0 : BitVec 32) (k0_hw2 : k0_chk2 i v0), ∀ (k0_h4 : k0_cond4 i = 1#1), ∀ (k0_h19 : k0_cond19 v0 = 1#1), ∀ a, (k0_off27 v0) a + S1x64x1024.size a ≤ S8x64x1024.size a := fun i v0 k0_hw2 k0_h4 k0_h19 => k0_hw2.1.2.2.2.2.2.2.2.2.2.2.2.2.2.2.2.2.2.2.2.1 k0_h4 k0_h19
theorem k0_off27_wordsbf16 : ∀ (i : grid0.Coords) (v0 : BitVec 32) (k0_hw2 : k0_chk2 i v0), ∀ (k0_h4 : k0_cond4 i = 1#1), ∀ (k0_h19 : k0_cond19 v0 = 1#1), (Rect.unit (s := S8x64x1024) (k0_off27 v0) S1x64x1024.size (k0_off27_inb i v0 k0_hw2 k0_h4 k0_h19)).WholeWords (EltTy.packing .bf16) := fun i v0 k0_hw2 k0_h4 k0_h19 => k0_hw2.1.2.2.2.2.2.2.2.2.2.2.2.2.2.2.2.2.2.2.2.2.1 k0_h4 k0_h19 (k0_off27_inb i v0 k0_hw2 k0_h4 k0_h19)
theorem k0_off28_inb : ∀ (i : grid0.Coords) (v0 : BitVec 32) (k0_hw2 : k0_chk2 i v0), ∀ (k0_h4 : k0_cond4 i = 1#1), ∀ (k0_h20 : k0_cond20 v0 = 1#1), ∀ a, (k0_off28 v0) a + S1.size a ≤ S8.size a := fun i v0 k0_hw2 k0_h4 k0_h20 => k0_hw2.1.2.2.2.2.2.2.2.2.2.2.2.2.2.2.2.2.2.2.2.2.2.1 k0_h4 k0_h20
theorem k0_off29_inb : ∀ (i : grid0.Coords) (v0 : BitVec 32) (k0_hw2 : k0_chk2 i v0), ∀ (k0_h4 : k0_cond4 i = 1#1), ∀ (k0_h20 : k0_cond20 v0 = 1#1), ∀ a, (k0_off29 v0) a + S1x64x1024.size a ≤ S8x64x1024.size a := fun i v0 k0_hw2 k0_h4 k0_h20 => k0_hw2.1.2.2.2.2.2.2.2.2.2.2.2.2.2.2.2.2.2.2.2.2.2.2.1 k0_h4 k0_h20
theorem k0_off29_wordsbf16 : ∀ (i : grid0.Coords) (v0 : BitVec 32) (k0_hw2 : k0_chk2 i v0), ∀ (k0_h4 : k0_cond4 i = 1#1), ∀ (k0_h20 : k0_cond20 v0 = 1#1), (Rect.unit (s := S8x64x1024) (k0_off29 v0) S1x64x1024.size (k0_off29_inb i v0 k0_hw2 k0_h4 k0_h20)).WholeWords (EltTy.packing .bf16) := fun i v0 k0_hw2 k0_h4 k0_h20 => k0_hw2.1.2.2.2.2.2.2.2.2.2.2.2.2.2.2.2.2.2.2.2.2.2.2.2.1 k0_h4 k0_h20 (k0_off29_inb i v0 k0_hw2 k0_h4 k0_h20)
theorem k0_off30_inb : ∀ (i : grid0.Coords) (v0 : BitVec 32) (k0_hw2 : k0_chk2 i v0), ∀ (k0_h4 : k0_cond4 i = 1#1), ∀ (k0_h21 : k0_cond21 v0 = 1#1), ∀ a, (k0_off30 v0) a + S64x1024.size a ≤ S512x1024.size a := fun i v0 k0_hw2 k0_h4 k0_h21 => k0_hw2.1.2.2.2.2.2.2.2.2.2.2.2.2.2.2.2.2.2.2.2.2.2.2.2.2.1 k0_h4 k0_h21
theorem k0_off31_inb : ∀ (i : grid0.Coords) (v0 : BitVec 32) (k0_hw2 : k0_chk2 i v0), ∀ (k0_h4 : k0_cond4 i = 1#1), ∀ (k0_h22 : k0_cond22 v0 = 1#1), ∀ a, (k0_off31 v0) a + S64x1024.size a ≤ S512x1024.size a := fun i v0 k0_hw2 k0_h4 k0_h22 => k0_hw2.1.2.2.2.2.2.2.2.2.2.2.2.2.2.2.2.2.2.2.2.2.2.2.2.2.2.1 k0_h4 k0_h22
theorem k0_off32_inb : ∀ (i : grid0.Coords) (v0 : BitVec 32) (k0_hw2 : k0_chk2 i v0), ∀ (k0_h4 : k0_cond4 i = 1#1), ∀ (k0_h23 : k0_cond23 v0 = 1#1), ∀ a, (k0_off32 v0) a + S64x1024.size a ≤ S512x1024.size a := fun i v0 k0_hw2 k0_h4 k0_h23 => k0_hw2.1.2.2.2.2.2.2.2.2.2.2.2.2.2.2.2.2.2.2.2.2.2.2.2.2.2.2.1 k0_h4 k0_h23
theorem k0_off33_inb : ∀ (i : grid0.Coords) (v0 : BitVec 32) (k0_hw2 : k0_chk2 i v0), ∀ (k0_h4 : k0_cond4 i = 1#1), ∀ (k0_h24 : k0_cond24 v0 = 1#1), ∀ a, (k0_off33 v0) a + S64x1024.size a ≤ S512x1024.size a := fun i v0 k0_hw2 k0_h4 k0_h24 => k0_hw2.1.2.2.2.2.2.2.2.2.2.2.2.2.2.2.2.2.2.2.2.2.2.2.2.2.2.2.2.1 k0_h4 k0_h24
theorem k0_off34_inb : ∀ (i : grid0.Coords) (v0 : BitVec 32) (k0_hw2 : k0_chk2 i v0), ∀ (k0_h4 : k0_cond4 i = 1#1), ∀ (k0_h25 : k0_cond25 v0 = 1#1), ∀ a, (k0_off34 v0) a + S64x1024.size a ≤ S512x1024.size a := fun i v0 k0_hw2 k0_h4 k0_h25 => k0_hw2.1.2.2.2.2.2.2.2.2.2.2.2.2.2.2.2.2.2.2.2.2.2.2.2.2.2.2.2.2.1 k0_h4 k0_h25
theorem k0_off35_inb : ∀ (i : grid0.Coords) (v0 : BitVec 32) (k0_hw2 : k0_chk2 i v0), ∀ (k0_h4 : k0_cond4 i = 1#1), ∀ (k0_h26 : k0_cond26 v0 = 1#1), ∀ a, (k0_off35 v0) a + S64x1024.size a ≤ S512x1024.size a := fun i v0 k0_hw2 k0_h4 k0_h26 => k0_hw2.1.2.2.2.2.2.2.2.2.2.2.2.2.2.2.2.2.2.2.2.2.2.2.2.2.2.2.2.2.2.1 k0_h4 k0_h26
theorem k0_off36_inb : ∀ (i : grid0.Coords) (v0 : BitVec 32) (k0_hw2 : k0_chk2 i v0), ∀ (k0_h4 : k0_cond4 i = 1#1), ∀ (k0_h27 : k0_cond27 v0 = 1#1), ∀ a, (k0_off36 v0) a + S64x1024.size a ≤ S512x1024.size a := fun i v0 k0_hw2 k0_h4 k0_h27 => k0_hw2.1.2.2.2.2.2.2.2.2.2.2.2.2.2.2.2.2.2.2.2.2.2.2.2.2.2.2.2.2.2.2.1 k0_h4 k0_h27
theorem k0_off37_inb : ∀ (i : grid0.Coords) (v0 : BitVec 32) (k0_hw2 : k0_chk2 i v0), ∀ (k0_h4 : k0_cond4 i = 1#1), ∀ (k0_h28 : k0_cond28 v0 = 1#1), ∀ a, (k0_off37 v0) a + S64x1024.size a ≤ S512x1024.size a := fun i v0 k0_hw2 k0_h4 k0_h28 => k0_hw2.1.2.2.2.2.2.2.2.2.2.2.2.2.2.2.2.2.2.2.2.2.2.2.2.2.2.2.2.2.2.2.2 k0_h4 k0_h28
theorem k0_off38_inb : ∀ (i : grid0.Coords) (v0 : BitVec 32) (k0_hw2 : k0_chk2 i v0), ∀ (k0_h4 : k0_cond4 i = 1#1), ∀ a, (k0_off38 v0) a + S64x1024.size a ≤ S512x1024.size a := fun i v0 k0_hw2 k0_h4 => k0_hw2.2.1 k0_h4
theorem k0_off38_packedbf16 : ∀ (i : grid0.Coords) (v0 : BitVec 32) (k0_hw2 : k0_chk2 i v0), ∀ (k0_h4 : k0_cond4 i = 1#1), (Rect.unit (s := S512x1024) (k0_off38 v0) S64x1024.size (k0_off38_inb i v0 k0_hw2 k0_h4)).PackedRows (EltTy.packing .bf16) := fun i v0 k0_hw2 k0_h4 => k0_hw2.2.2.1 k0_h4 (k0_off38_inb i v0 k0_hw2 k0_h4)
theorem k0_off39_inb : ∀ (i : grid0.Coords) (v0 : BitVec 32) (k0_hw2 : k0_chk2 i v0), ∀ (k0_h4 : k0_cond4 i = 1#1), ∀ (k0_h29 : k0_cond29 v0 = 1#1), ∀ a, (k0_off39 v0) a + S1.size a ≤ S8.size a := fun i v0 k0_hw2 k0_h4 k0_h29 => k0_hw2.2.2.2.1 k0_h4 k0_h29
theorem k0_off40_inb : ∀ (i : grid0.Coords) (v0 : BitVec 32) (k0_hw2 : k0_chk2 i v0), ∀ (k0_h4 : k0_cond4 i = 1#1), ∀ (k0_h29 : k0_cond29 v0 = 1#1), ∀ a, (k0_off40 v0) a + S64x1024.size a ≤ S512x1024.size a := fun i v0 k0_hw2 k0_h4 k0_h29 => k0_hw2.2.2.2.2.1 k0_h4 k0_h29
theorem k0_off40_wordsbf16 : ∀ (i : grid0.Coords) (v0 : BitVec 32) (k0_hw2 : k0_chk2 i v0), ∀ (k0_h4 : k0_cond4 i = 1#1), ∀ (k0_h29 : k0_cond29 v0 = 1#1), (Rect.unit (s := S512x1024) (k0_off40 v0) S64x1024.size (k0_off40_inb i v0 k0_hw2 k0_h4 k0_h29)).WholeWords (EltTy.packing .bf16) := fun i v0 k0_hw2 k0_h4 k0_h29 => k0_hw2.2.2.2.2.2.1 k0_h4 k0_h29 (k0_off40_inb i v0 k0_hw2 k0_h4 k0_h29)
theorem k0_off41_inb : ∀ (i : grid0.Coords) (v0 : BitVec 32) (k0_hw2 : k0_chk2 i v0), ∀ (k0_h4 : k0_cond4 i = 1#1), ∀ (k0_h30 : k0_cond30 v0 = 1#1), ∀ a, (k0_off41 v0) a + S1.size a ≤ S8.size a := fun i v0 k0_hw2 k0_h4 k0_h30 => k0_hw2.2.2.2.2.2.2.1 k0_h4 k0_h30
theorem k0_off42_inb : ∀ (i : grid0.Coords) (v0 : BitVec 32) (k0_hw2 : k0_chk2 i v0), ∀ (k0_h4 : k0_cond4 i = 1#1), ∀ (k0_h30 : k0_cond30 v0 = 1#1), ∀ a, (k0_off42 v0) a + S64x1024.size a ≤ S512x1024.size a := fun i v0 k0_hw2 k0_h4 k0_h30 => k0_hw2.2.2.2.2.2.2.2.1 k0_h4 k0_h30
theorem k0_off42_wordsbf16 : ∀ (i : grid0.Coords) (v0 : BitVec 32) (k0_hw2 : k0_chk2 i v0), ∀ (k0_h4 : k0_cond4 i = 1#1), ∀ (k0_h30 : k0_cond30 v0 = 1#1), (Rect.unit (s := S512x1024) (k0_off42 v0) S64x1024.size (k0_off42_inb i v0 k0_hw2 k0_h4 k0_h30)).WholeWords (EltTy.packing .bf16) := fun i v0 k0_hw2 k0_h4 k0_h30 => k0_hw2.2.2.2.2.2.2.2.2.1 k0_h4 k0_h30 (k0_off42_inb i v0 k0_hw2 k0_h4 k0_h30)
theorem k0_off43_inb : ∀ (i : grid0.Coords) (v0 : BitVec 32) (k0_hw2 : k0_chk2 i v0), ∀ (k0_h4 : k0_cond4 i = 1#1), ∀ (k0_h31 : k0_cond31 v0 = 1#1), ∀ a, (k0_off43 v0) a + S1.size a ≤ S8.size a := fun i v0 k0_hw2 k0_h4 k0_h31 => k0_hw2.2.2.2.2.2.2.2.2.2.1 k0_h4 k0_h31
theorem k0_off44_inb : ∀ (i : grid0.Coords) (v0 : BitVec 32) (k0_hw2 : k0_chk2 i v0), ∀ (k0_h4 : k0_cond4 i = 1#1), ∀ (k0_h31 : k0_cond31 v0 = 1#1), ∀ a, (k0_off44 v0) a + S64x1024.size a ≤ S512x1024.size a := fun i v0 k0_hw2 k0_h4 k0_h31 => k0_hw2.2.2.2.2.2.2.2.2.2.2.1 k0_h4 k0_h31
theorem k0_off44_wordsbf16 : ∀ (i : grid0.Coords) (v0 : BitVec 32) (k0_hw2 : k0_chk2 i v0), ∀ (k0_h4 : k0_cond4 i = 1#1), ∀ (k0_h31 : k0_cond31 v0 = 1#1), (Rect.unit (s := S512x1024) (k0_off44 v0) S64x1024.size (k0_off44_inb i v0 k0_hw2 k0_h4 k0_h31)).WholeWords (EltTy.packing .bf16) := fun i v0 k0_hw2 k0_h4 k0_h31 => k0_hw2.2.2.2.2.2.2.2.2.2.2.2.1 k0_h4 k0_h31 (k0_off44_inb i v0 k0_hw2 k0_h4 k0_h31)
theorem k0_off45_inb : ∀ (i : grid0.Coords) (v0 : BitVec 32) (k0_hw2 : k0_chk2 i v0), ∀ (k0_h4 : k0_cond4 i = 1#1), ∀ (k0_h32 : k0_cond32 v0 = 1#1), ∀ a, (k0_off45 v0) a + S1.size a ≤ S8.size a := fun i v0 k0_hw2 k0_h4 k0_h32 => k0_hw2.2.2.2.2.2.2.2.2.2.2.2.2.1 k0_h4 k0_h32
theorem k0_off46_inb : ∀ (i : grid0.Coords) (v0 : BitVec 32) (k0_hw2 : k0_chk2 i v0), ∀ (k0_h4 : k0_cond4 i = 1#1), ∀ (k0_h32 : k0_cond32 v0 = 1#1), ∀ a, (k0_off46 v0) a + S64x1024.size a ≤ S512x1024.size a := fun i v0 k0_hw2 k0_h4 k0_h32 => k0_hw2.2.2.2.2.2.2.2.2.2.2.2.2.2.1 k0_h4 k0_h32
theorem k0_off46_wordsbf16 : ∀ (i : grid0.Coords) (v0 : BitVec 32) (k0_hw2 : k0_chk2 i v0), ∀ (k0_h4 : k0_cond4 i = 1#1), ∀ (k0_h32 : k0_cond32 v0 = 1#1), (Rect.unit (s := S512x1024) (k0_off46 v0) S64x1024.size (k0_off46_inb i v0 k0_hw2 k0_h4 k0_h32)).WholeWords (EltTy.packing .bf16) := fun i v0 k0_hw2 k0_h4 k0_h32 => k0_hw2.2.2.2.2.2.2.2.2.2.2.2.2.2.2.1 k0_h4 k0_h32 (k0_off46_inb i v0 k0_hw2 k0_h4 k0_h32)
theorem k0_off47_inb : ∀ (i : grid0.Coords) (v0 : BitVec 32) (k0_hw2 : k0_chk2 i v0), ∀ (k0_h4 : k0_cond4 i = 1#1), ∀ (k0_h33 : k0_cond33 v0 = 1#1), ∀ a, (k0_off47 v0) a + S1.size a ≤ S8.size a := fun i v0 k0_hw2 k0_h4 k0_h33 => k0_hw2.2.2.2.2.2.2.2.2.2.2.2.2.2.2.2.1 k0_h4 k0_h33
theorem k0_off48_inb : ∀ (i : grid0.Coords) (v0 : BitVec 32) (k0_hw2 : k0_chk2 i v0), ∀ (k0_h4 : k0_cond4 i = 1#1), ∀ (k0_h33 : k0_cond33 v0 = 1#1), ∀ a, (k0_off48 v0) a + S64x1024.size a ≤ S512x1024.size a := fun i v0 k0_hw2 k0_h4 k0_h33 => k0_hw2.2.2.2.2.2.2.2.2.2.2.2.2.2.2.2.2.1 k0_h4 k0_h33
theorem k0_off48_wordsbf16 : ∀ (i : grid0.Coords) (v0 : BitVec 32) (k0_hw2 : k0_chk2 i v0), ∀ (k0_h4 : k0_cond4 i = 1#1), ∀ (k0_h33 : k0_cond33 v0 = 1#1), (Rect.unit (s := S512x1024) (k0_off48 v0) S64x1024.size (k0_off48_inb i v0 k0_hw2 k0_h4 k0_h33)).WholeWords (EltTy.packing .bf16) := fun i v0 k0_hw2 k0_h4 k0_h33 => k0_hw2.2.2.2.2.2.2.2.2.2.2.2.2.2.2.2.2.2.1 k0_h4 k0_h33 (k0_off48_inb i v0 k0_hw2 k0_h4 k0_h33)
theorem k0_off49_inb : ∀ (i : grid0.Coords) (v0 : BitVec 32) (k0_hw2 : k0_chk2 i v0), ∀ (k0_h4 : k0_cond4 i = 1#1), ∀ (k0_h34 : k0_cond34 v0 = 1#1), ∀ a, (k0_off49 v0) a + S1.size a ≤ S8.size a := fun i v0 k0_hw2 k0_h4 k0_h34 => k0_hw2.2.2.2.2.2.2.2.2.2.2.2.2.2.2.2.2.2.2.1 k0_h4 k0_h34
theorem k0_off50_inb : ∀ (i : grid0.Coords) (v0 : BitVec 32) (k0_hw2 : k0_chk2 i v0), ∀ (k0_h4 : k0_cond4 i = 1#1), ∀ (k0_h34 : k0_cond34 v0 = 1#1), ∀ a, (k0_off50 v0) a + S64x1024.size a ≤ S512x1024.size a := fun i v0 k0_hw2 k0_h4 k0_h34 => k0_hw2.2.2.2.2.2.2.2.2.2.2.2.2.2.2.2.2.2.2.2.1 k0_h4 k0_h34
theorem k0_off50_wordsbf16 : ∀ (i : grid0.Coords) (v0 : BitVec 32) (k0_hw2 : k0_chk2 i v0), ∀ (k0_h4 : k0_cond4 i = 1#1), ∀ (k0_h34 : k0_cond34 v0 = 1#1), (Rect.unit (s := S512x1024) (k0_off50 v0) S64x1024.size (k0_off50_inb i v0 k0_hw2 k0_h4 k0_h34)).WholeWords (EltTy.packing .bf16) := fun i v0 k0_hw2 k0_h4 k0_h34 => k0_hw2.2.2.2.2.2.2.2.2.2.2.2.2.2.2.2.2.2.2.2.2.1 k0_h4 k0_h34 (k0_off50_inb i v0 k0_hw2 k0_h4 k0_h34)
theorem k0_off51_inb : ∀ (i : grid0.Coords) (v0 : BitVec 32) (k0_hw2 : k0_chk2 i v0), ∀ (k0_h4 : k0_cond4 i = 1#1), ∀ (k0_h35 : k0_cond35 v0 = 1#1), ∀ a, (k0_off51 v0) a + S1.size a ≤ S8.size a := fun i v0 k0_hw2 k0_h4 k0_h35 => k0_hw2.2.2.2.2.2.2.2.2.2.2.2.2.2.2.2.2.2.2.2.2.2.1 k0_h4 k0_h35
theorem k0_off52_inb : ∀ (i : grid0.Coords) (v0 : BitVec 32) (k0_hw2 : k0_chk2 i v0), ∀ (k0_h4 : k0_cond4 i = 1#1), ∀ (k0_h35 : k0_cond35 v0 = 1#1), ∀ a, (k0_off52 v0) a + S64x1024.size a ≤ S512x1024.size a := fun i v0 k0_hw2 k0_h4 k0_h35 => k0_hw2.2.2.2.2.2.2.2.2.2.2.2.2.2.2.2.2.2.2.2.2.2.2.1 k0_h4 k0_h35
theorem k0_off52_wordsbf16 : ∀ (i : grid0.Coords) (v0 : BitVec 32) (k0_hw2 : k0_chk2 i v0), ∀ (k0_h4 : k0_cond4 i = 1#1), ∀ (k0_h35 : k0_cond35 v0 = 1#1), (Rect.unit (s := S512x1024) (k0_off52 v0) S64x1024.size (k0_off52_inb i v0 k0_hw2 k0_h4 k0_h35)).WholeWords (EltTy.packing .bf16) := fun i v0 k0_hw2 k0_h4 k0_h35 => k0_hw2.2.2.2.2.2.2.2.2.2.2.2.2.2.2.2.2.2.2.2.2.2.2.2.1 k0_h4 k0_h35 (k0_off52_inb i v0 k0_hw2 k0_h4 k0_h35)
theorem k0_off53_inb : ∀ (i : grid0.Coords) (v0 : BitVec 32) (k0_hw2 : k0_chk2 i v0), ∀ (k0_h4 : k0_cond4 i = 1#1), ∀ (k0_h36 : k0_cond36 v0 = 1#1), ∀ a, (k0_off53 v0) a + S1.size a ≤ S8.size a := fun i v0 k0_hw2 k0_h4 k0_h36 => k0_hw2.2.2.2.2.2.2.2.2.2.2.2.2.2.2.2.2.2.2.2.2.2.2.2.2.1 k0_h4 k0_h36
theorem k0_off54_inb : ∀ (i : grid0.Coords) (v0 : BitVec 32) (k0_hw2 : k0_chk2 i v0), ∀ (k0_h4 : k0_cond4 i = 1#1), ∀ (k0_h36 : k0_cond36 v0 = 1#1), ∀ a, (k0_off54 v0) a + S64x1024.size a ≤ S512x1024.size a := fun i v0 k0_hw2 k0_h4 k0_h36 => k0_hw2.2.2.2.2.2.2.2.2.2.2.2.2.2.2.2.2.2.2.2.2.2.2.2.2.2.1 k0_h4 k0_h36
theorem k0_off54_wordsbf16 : ∀ (i : grid0.Coords) (v0 : BitVec 32) (k0_hw2 : k0_chk2 i v0), ∀ (k0_h4 : k0_cond4 i = 1#1), ∀ (k0_h36 : k0_cond36 v0 = 1#1), (Rect.unit (s := S512x1024) (k0_off54 v0) S64x1024.size (k0_off54_inb i v0 k0_hw2 k0_h4 k0_h36)).WholeWords (EltTy.packing .bf16) := fun i v0 k0_hw2 k0_h4 k0_h36 => k0_hw2.2.2.2.2.2.2.2.2.2.2.2.2.2.2.2.2.2.2.2.2.2.2.2.2.2.2 k0_h4 k0_h36 (k0_off54_inb i v0 k0_hw2 k0_h4 k0_h36)

def k0_dev24 : Nat :=
  let c0_i32_149 : BitVec 32 := 0#32
  let c7_i32_147 : BitVec 32 := 7#32
  let c1_i32_148 : BitVec 32 := 1#32
  let v247 : BitVec 32 := Scalar.muli c7_i32_147 c1_i32_148
  let v248 : BitVec 32 := Scalar.addi c0_i32_149 v247
  v248.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x512x1024 : Shape := ⟨3, ![1, 512, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x512x8192 : Shape := ⟨3, ![1, 512, 8192]⟩
abbrev S1x512x64x128 : Shape := ⟨4, ![1, 512, 64, 128]⟩
abbrev S_ : Shape := ⟨0, ![]⟩
abbrev S1x64x512x1 : Shape := ⟨4, ![1, 64, 512, 1]⟩
abbrev S1x1024x64x128 : Shape := ⟨4, ![1, 1024, 64, 128]⟩
abbrev S1x64x512x1024 : Shape := ⟨4, ![1, 64, 512, 1024]⟩
abbrev S1x64x512 : Shape := ⟨3, ![1, 64, 512]⟩
abbrev S1x512x64x1 : Shape := ⟨4, ![1, 512, 64, 1]⟩
abbrev S1x64x128x512 : Shape := ⟨4, ![1, 64, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x8192, .f32⟩
  | .hbm, ⟨2, _⟩ => ⟨S1x2048x64x128, .f32⟩
  | .hbm, ⟨3, _⟩ => ⟨S1x2048x64x128, .f32⟩
  | .hbm, ⟨4, _⟩ => ⟨S8192x1024, .f32⟩
  | .hbm, ⟨5, _⟩ => ⟨S1x512x8192, .f32⟩
  | .hbm, ⟨6, _⟩ => ⟨S1x512x64x128, .f32⟩
  | .hbm, ⟨7, _⟩ => ⟨S_, .f32⟩
  | .hbm, ⟨8, _⟩ => ⟨S1x512x64x128, .f32⟩
  | .hbm, ⟨9, _⟩ => ⟨S_, .f32⟩
  | .hbm, ⟨10, _⟩ => ⟨S1x64x512x1, .f32⟩
  | .hbm, ⟨11, _⟩ => ⟨S_, .f32⟩
  | .hbm, ⟨12, _⟩ => ⟨S1x64x512x1, .f32⟩
  | .hbm, ⟨13, _⟩ => ⟨S1x1024x64x128, .f32⟩
  | .hbm, ⟨14, _⟩ => ⟨S1x1024x64x128, .f32⟩
  | .hbm, ⟨15, _⟩ => ⟨S1x64x512x1024, .f32⟩
  | .hbm, ⟨16, _⟩ => ⟨S_, .f32⟩
  | .hbm, ⟨17, _⟩ => ⟨S1x64x512x1024, .f32⟩
  | .hbm, ⟨18, _⟩ => ⟨S1x64x512x1024, .f32⟩
  | .hbm, ⟨19, _⟩ => ⟨S_, .f32⟩
  | .hbm, ⟨20, _⟩ => ⟨S1x64x512, .f32⟩
  | .hbm, ⟨21, _⟩ => ⟨S1x64x512x1, .f32⟩
  | .hbm, ⟨22, _⟩ => ⟨S1x64x512x1, .f32⟩
  | .hbm, ⟨23, _⟩ => ⟨S1x64x512x1, .f32⟩
  | .hbm, ⟨24, _⟩ => ⟨S1x64x512x1, .f32⟩
  | .hbm, ⟨25, _⟩ => ⟨S1x64x512x1024, .f32⟩
  | .hbm, ⟨26, _⟩ => ⟨S1x64x512x1024, .f32⟩
  | .hbm, ⟨27, _⟩ => ⟨S1x64x512x1024, .f32⟩
  | .hbm, ⟨28, _⟩ => ⟨S1x64x512x1, .f32⟩
  | .hbm, ⟨29, _⟩ => ⟨S_, .f32⟩
  | .hbm, ⟨30, _⟩ => ⟨S1x64x512, .f32⟩
  | .hbm, ⟨31, _⟩ => ⟨S1x64x512x1, .f32⟩
  | .hbm, ⟨32, _⟩ => ⟨S1x64x512x1, .f32⟩
  | .hbm, ⟨33, _⟩ => ⟨S1x512x64x1, .f32⟩
  | .hbm, ⟨34, _⟩ => ⟨S1x512x64x128, .f32⟩
  | .hbm, ⟨35, _⟩ => ⟨S1x512x64x128, .f32⟩
  | .hbm, ⟨36, _⟩ => ⟨S1x64x128x512, .f32⟩
  | .hbm, ⟨37, _⟩ => ⟨S1x512x64x128, .f32⟩
  | .hbm, ⟨38, _⟩ => ⟨S1x512x64x128, .f32⟩
  | .hbm, ⟨39, _⟩ => ⟨S1x1024x64x128, .f32⟩
  | .hbm, ⟨40, _⟩ => ⟨S1x1024x64x128, .f32⟩
  | .hbm, ⟨41, _⟩ => ⟨S1x64x512x1024, .f32⟩
  | .hbm, ⟨42, _⟩ => ⟨S_, .f32⟩
  | .hbm, ⟨43, _⟩ => ⟨S1x64x512x1024, .f32⟩
  | .hbm, ⟨44, _⟩ => ⟨S1x64x512x1024, .f32⟩
  | .hbm, ⟨45, _⟩ => ⟨S_, .f32⟩
  | .hbm, ⟨46, _⟩ => ⟨S1x64x512, .f32⟩
  | .hbm, ⟨47, _⟩ => ⟨S1x64x512x1, .f32⟩
  | .hbm, ⟨48, _⟩ => ⟨S1x64x512x1, .f32⟩
  | .hbm, ⟨49, _⟩ => ⟨S1x64x512x1, .f32⟩
  | .hbm, ⟨50, _⟩ => ⟨S1x64x512x1, .f32⟩
  | .hbm, ⟨51, _⟩ => ⟨S1x64x512x1024, .f32⟩
  | .hbm, ⟨52, _⟩ => ⟨S1x64x512x1024, .f32⟩
  | .hbm, ⟨53, _⟩ => ⟨S1x64x512x1024, .f32⟩
  | .hbm, ⟨54, _⟩ => ⟨S1x64x512x1, .f32⟩
  | .hbm, ⟨55, _⟩ => ⟨S_, .f32⟩
  | .hbm, ⟨56, _⟩ => ⟨S1x64x512, .f32⟩
  | .hbm, ⟨57, _⟩ => ⟨S1x64x512x1, .f32⟩
  | .hbm, ⟨58, _⟩ => ⟨S1x64x512x1, .f32⟩
  | .hbm, ⟨59, _⟩ => ⟨S1x512x64x1, .f32⟩
  | .hbm, ⟨60, _⟩ => ⟨S1x512x64x128, .f32⟩
  | .hbm, ⟨61, _⟩ => ⟨S1x512x64x128, .f32⟩
  | .hbm, ⟨62, _⟩ => ⟨S1x64x128x512, .f32⟩
  | .hbm, ⟨63, _⟩ => ⟨S1x512x64x128, .f32⟩
  | .hbm, ⟨64, _⟩ => ⟨S1x512x64x128, .f32⟩
  | .hbm, ⟨65, _⟩ => ⟨S1x512x64x1, .f32⟩
  | .hbm, ⟨66, _⟩ => ⟨S1x512x64x128, .f32⟩
  | .hbm, ⟨67, _⟩ => ⟨S1x512x64x128, .f32⟩
  | .hbm, ⟨68, _⟩ => ⟨S1x512x8192, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Base.lean ====
/- The memory the devices exchange through, and the semaphore cells that guard it: names for every slice, semaphore and
   amount of the kernel, at a symbolic device. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.ShareLeaves
public import Idealize.ShloMosaic.Lib.ValueIdxCore
public import Idealize.ShloMosaic.Lib.ValueIdxCoords

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

/-! ## Slices -/

/-- Rows `64 p ..` of a 512 × 1024 array. -/
theorem rows_inb (p : Fin 8) : ∀ a, (![64 * p.val, 0] : Fin 2 → ℕ) a + S64x1024.size a ≤ S512x1024.size a := by
  revert p; decide
/-- Block `s` of an 8 × 64 × 1024 array. -/
theorem slot_inb (s : Fin 8) : ∀ a, (![s.val, 0, 0] : Fin 3 → ℕ) a + S1x64x1024.size a ≤ S8x64x1024.size a := by
  revert s; decide
/-- Slot `s` of the two-slot key and value buffers. -/
theorem kv_inb (s : Fin 2) : ∀ a, (![s.val, 0, 0] : Fin 3 → ℕ) a + S1x2048x128.size a ≤ S2x2048x128.size a := by
  revert s; decide
/-- Head `h` of the keys or the values. -/
theorem head_inb (h : Fin 64) : ∀ a, (![0, h.val, 0] : Fin 3 → ℕ) a + S2048x1x128.size a ≤ S2048x64x128.size a := by
  revert h; decide

/-- Rows `64 p ..` of the staging buffer, the block that belongs to device `p`. -/
def stM (p : Dev nD) : Memref sig .tc .vmem S64x1024 .bf16 :=
  (Memref.whole cc0_scratch2 : Memref sig .tc .vmem S512x1024 .bf16).slice (Rect.unit (s := S512x1024) ![64 * p.val, 0] S64x1024.size (rows_inb p)) (fun _ => rfl)
/-- Slot `s` of the receive buffer: what device `s` sends lands here. -/
def slotM (s : Dev nD) : Memref sig .tc .vmem S64x1024 .bf16 :=
  ((Memref.whole cc0_scratch3 : Memref sig .tc .vmem S8x64x1024 .bf16).slice (Rect.unit (s := S8x64x1024) ![s.val, 0, 0] S1x64x1024.size (slot_inb s)) (fun _ => rfl)).squeeze S64x1024 squeezes_S1x64x1024_S64x1024

/-- Slot `s` of a two-slot buffer. -/
def kvSlot (b : Memref sig .tc .vmem S2x2048x128 .f32) (s : Fin 2) : Memref sig .tc .vmem S2048x128 .f32 :=
  (b.slice (Rect.unit (s := S2x2048x128) ![s.val, 0, 0] S1x2048x128.size (kv_inb s)) (fun _ => rfl)).squeeze S2048x128 squeezes_S1x2048x128_S2048x128
/-- Head `h` of a 64-head array. -/
def kvHead (a : Memref sig .tc .hbm S2048x64x128 .f32) (h : Fin 64) : Memref sig .tc .hbm S2048x128 .f32 :=
  (a.slice (Rect.unit (s := S2048x64x128) ![0, h.val, 0] S2048x1x128.size (head_inb h)) (fun _ => rfl)).squeeze S2048x128 squeezes_S2048x1x128_S2048x128

/-! ## Semaphores -/

/-- The barrier semaphore. -/
abbrev barS : Sem sig := sig.barrier 0 rfl

theorem semTab_bound (n : Fin 8) (b : Fin 4) : 9 + 8 * b.val + n.val < 41 := by omega

/-- The DMA semaphore of index `n`. -/
abbrev dm (n : Fin 41) : DmaSem sig := n

/-- The slot semaphores: keys from 5, values from 7. -/
def kvS (base : Fin 2) (s : Fin 2) : DmaSem sig := dm ⟨5 + 2 * base.val + s.val, by omega⟩
/-- The exchange semaphores: reduce-scatter send and receive, all-gather send and receive, eight of each. -/
def exS (b : Fin 4) (p : Fin 8) : DmaSem sig := dm ⟨9 + 8 * b.val + p.val, by omega⟩

abbrev rsSend (p : Dev nD) : DmaSem sig := exS 0 p
abbrev rsRecv (p : Dev nD) : DmaSem sig := exS 1 p
abbrev agSend (p : Dev nD) : DmaSem sig := exS 2 p
abbrev agRecv (p : Dev nD) : DmaSem sig := exS 3 p

theorem s8_inb (p : Fin 8) : ∀ a, (![p.val] : Fin 1 → ℕ) a + S1.size a ≤ S8.size a := by revert p; decide
theorem s2_inb (p : Fin 2) : ∀ a, (![p.val] : Fin 1 → ℕ) a + S1.size a ≤ S2.size a := by revert p; decide

/-- The semaphore under index `p` of an array of eight. -/
theorem sem8 (a : DmaSems sig S8) (off : Fin 1 → ℕ) (p : Fin 8) (h : off = ![p.val]) (inb) :
    ((a.slice (Rect.unit (s := S8) off S1.size inb)).squeeze S_ squeezes_S1_S_).sem
      = ((a.slice (Rect.unit (s := S8) ![p.val] S1.size (s8_inb p))).squeeze S_ squeezes_S1_S_).sem := by
  subst h; rfl

theorem rsSend_eq (off : Fin 1 → ℕ) (p : Dev nD) (h : off = ![p.val]) (inb) :
    ((cc0_scratch8.slice (Rect.unit (s := S8) off S1.size inb)).squeeze S_ squeezes_S1_S_).sem = rsSend p := by
  subst h; revert p; decide
theorem rsRecv_eq (off : Fin 1 → ℕ) (p : Dev nD) (h : off = ![p.val]) (inb) :
    ((cc0_scratch9.slice (Rect.unit (s := S8) off S1.size inb)).squeeze S_ squeezes_S1_S_).sem = rsRecv p := by
  subst h; revert p; decide
theorem agSend_eq (off : Fin 1 → ℕ) (p : Dev nD) (h : off = ![p.val]) (inb) :
    ((cc0_scratch10.slice (Rect.unit (s := S8) off S1.size inb)).squeeze S_ squeezes_S1_S_).sem = agSend p := by
  subst h; revert p; decide
theorem agRecv_eq (off : Fin 1 → ℕ) (p : Dev nD) (h : off = ![p.val]) (inb) :
    ((cc0_scratch11.slice (Rect.unit (s := S8) off S1.size inb)).squeeze S_ squeezes_S1_S_).sem = agRecv p := by
  subst h; revert p; decide
theorem kS_eq (off : Fin 1 → ℕ) (p : Fin 2) (h : off = ![p.val]) (inb) :
    ((cc0_scratch6.slice (Rect.unit (s := S2) off S1.size inb)).squeeze S_ squeezes_S1_S_).sem = kvS 0 p := by
  subst h; revert p; decide
theorem vS_eq (off : Fin 1 → ℕ) (p : Fin 2) (h : off = ![p.val]) (inb) :
    ((cc0_scratch7.slice (Rect.unit (s := S2) off S1.size inb)).squeeze S_ squeezes_S1_S_).sem = kvS 1 p := by
  subst h; revert p; decide

/-! ## Amounts -/

/-- What one exchanged block of 64 rows raises a semaphore by. -/
def NB : ℕ := (stM 0).view.dmaCredit
theorem NB_pos : 0 < NB := View.dmaCredit_pos _ (by decide)
theorem amount_st (p : Dev nD) (n : DmaSem sig) : (stM p).view.amount (.dma n) = NB := rfl
theorem amount_slot (p : Dev nD) (n : DmaSem sig) : (slotM p).view.amount (.dma n) = NB := rfl

abbrev kB : Memref sig .tc .vmem S2x2048x128 .f32 := Memref.whole cc0_scratch4
abbrev vB : Memref sig .tc .vmem S2x2048x128 .f32 := Memref.whole cc0_scratch5
abbrev kA : Memref sig .tc .hbm S2048x64x128 .f32 := Memref.whole main_v8
abbrev vA : Memref sig .tc .hbm S2048x64x128 .f32 := Memref.whole main_v9

/-- What one head's copy raises a slot semaphore by. -/
def NK : ℕ := (kvSlot kB 0).view.dmaCredit
theorem NK_pos : 0 < NK := View.dmaCredit_pos _ (by decide)
theorem amount_k (s : Fin 2) (n : DmaSem sig) : (kvSlot kB s).view.amount (.dma n) = NK := rfl
theorem amount_v (s : Fin 2) (n : DmaSem sig) : (kvSlot vB s).view.amount (.dma n) = NK := rfl

end Cert.KernelIdeal.Run
-- ==== Proof.Words.lean ====
/- The word each device reads from the prefetched table (eight times its position on the mesh), and what the printed
   conditions and offsets are at that word. -/
module

public import proofs.«01_k».proof.Proof.Base

@[expose] public section

noncomputable section

namespace Cert.KernelIdeal.Run

open Idealize.ShloMosaic Idealize.SL.Sem
open Cert.KernelIdeal Cert.KernelIdeal.Gen

/-- The table's word on device `c`: the first of its eight heads. -/
def tw (c : Dev nD) : BitVec 32 := BitVec.ofNat 32 (8 * c.val)
/-- Device `c`'s position as a word. -/
def pw (c : Dev nD) : BitVec 32 := BitVec.ofNat 32 c.val

theorem chk2_tw : ∀ (i : grid0.Coords) (c : Dev nD), k0_chk2 i (tw c) := by decide +kernel
theorem chk1_tw : ∀ (i : grid0.Coords) (c : Dev nD), k0_chk1 i (tw c) := by decide +kernel

/-- A device's own position is skipped: the printed test is that the position differs from `p`. -/
theorem pw_ne : ∀ (c p : Fin 8), (Scalar.cmpi .ne (Scalar.extui (Scalar.cmpi .ne (BitVec.ofNat 32 c.val) (BitVec.ofNat 32 p.val))) 0#32 = (1#1 : BitVec 1)) ↔ p ≠ c := by decide +kernel
theorem cond13_tw : ∀ c : Dev nD, k0_cond13 (tw c) = 1#1 ↔ (0 : Dev nD) ≠ c := by decide +kernel
theorem cond14_tw : ∀ c : Dev nD, k0_cond14 (tw c) = 1#1 ↔ (1 : Dev nD) ≠ c := by decide +kernel
theorem cond15_tw : ∀ c : Dev nD, k0_cond15 (tw c) = 1#1 ↔ (2 : Dev nD) ≠ c := by decide +kernel
theorem cond16_tw : ∀ c : Dev nD, k0_cond16 (tw c) = 1#1 ↔ (3 : Dev nD) ≠ c := by decide +kernel
theorem cond17_tw : ∀ c : Dev nD, k0_cond17 (tw c) = 1#1 ↔ (4 : Dev nD) ≠ c := by decide +kernel
theorem cond18_tw : ∀ c : Dev nD, k0_cond18 (tw c) = 1#1 ↔ (5 : Dev nD) ≠ c := by decide +kernel
theorem cond19_tw : ∀ c : Dev nD, k0_cond19 (tw c) = 1#1 ↔ (6 : Dev nD) ≠ c := by decide +kernel
theorem cond20_tw : ∀ c : Dev nD, k0_cond20 (tw c) = 1#1 ↔ (7 : Dev nD) ≠ c := by decide +kernel
theorem cond21_tw : ∀ c : Dev nD, k0_cond21 (tw c) = 1#1 ↔ (0 : Dev nD) ≠ c := by decide +kernel
theorem cond22_tw : ∀ c : Dev nD, k0_cond22 (tw c) = 1#1 ↔ (1 : Dev nD) ≠ c := by decide +kernel
theorem cond23_tw : ∀ c : Dev nD, k0_cond23 (tw c) = 1#1 ↔ (2 : Dev nD) ≠ c := by decide +kernel
theorem cond24_tw : ∀ c : Dev nD, k0_cond24 (tw c) = 1#1 ↔ (3 : Dev nD) ≠ c := by decide +kernel
theorem cond25_tw : ∀ c : Dev nD, k0_cond25 (tw c) = 1#1 ↔ (4 : Dev nD) ≠ c := by decide +kernel
theorem cond26_tw : ∀ c : Dev nD, k0_cond26 (tw c) = 1#1 ↔ (5 : Dev nD) ≠ c := by decide +kernel
theorem cond27_tw : ∀ c : Dev nD, k0_cond27 (tw c) = 1#1 ↔ (6 : Dev nD) ≠ c := by decide +kernel
theorem cond28_tw : ∀ c : Dev nD, k0_cond28 (tw c) = 1#1 ↔ (7 : Dev nD) ≠ c := by decide +kernel
theorem cond29_tw : ∀ c : Dev nD, k0_cond29 (tw c) = 1#1 ↔ (0 : Dev nD) ≠ c := by decide +kernel
theorem cond30_tw : ∀ c : Dev nD, k0_cond30 (tw c) = 1#1 ↔ (1 : Dev nD) ≠ c := by decide +kernel
theorem cond31_tw : ∀ c : Dev nD, k0_cond31 (tw c) = 1#1 ↔ (2 : Dev nD) ≠ c := by decide +kernel
theorem cond32_tw : ∀ c : Dev nD, k0_cond32 (tw c) = 1#1 ↔ (3 : Dev nD) ≠ c := by decide +kernel
theorem cond33_tw : ∀ c : Dev nD, k0_cond33 (tw c) = 1#1 ↔ (4 : Dev nD) ≠ c := by decide +kernel
theorem cond34_tw : ∀ c : Dev nD, k0_cond34 (tw c) = 1#1 ↔ (5 : Dev nD) ≠ c := by decide +kernel
theorem cond35_tw : ∀ c : Dev nD, k0_cond35 (tw c) = 1#1 ↔ (6 : Dev nD) ≠ c := by decide +kernel
theorem cond36_tw : ∀ c : Dev nD, k0_cond36 (tw c) = 1#1 ↔ (7 : Dev nD) ≠ c := by decide +kernel
theorem off14_tw : ∀ c : Dev nD, k0_off14 (tw c) = ![c.val] := by decide +kernel
theorem off15_tw : ∀ c : Dev nD, k0_off15 (tw c) = ![c.val, 0, 0] := by decide +kernel
theorem off16_tw : ∀ c : Dev nD, k0_off16 (tw c) = ![c.val] := by decide +kernel
theorem off17_tw : ∀ c : Dev nD, k0_off17 (tw c) = ![c.val, 0, 0] := by decide +kernel
theorem off18_tw : ∀ c : Dev nD, k0_off18 (tw c) = ![c.val] := by decide +kernel
theorem off19_tw : ∀ c : Dev nD, k0_off19 (tw c) = ![c.val, 0, 0] := by decide +kernel
theorem off20_tw : ∀ c : Dev nD, k0_off20 (tw c) = ![c.val] := by decide +kernel
theorem off21_tw : ∀ c : Dev nD, k0_off21 (tw c) = ![c.val, 0, 0] := by decide +kernel
theorem off22_tw : ∀ c : Dev nD, k0_off22 (tw c) = ![c.val] := by decide +kernel
theorem off23_tw : ∀ c : Dev nD, k0_off23 (tw c) = ![c.val, 0, 0] := by decide +kernel
theorem off24_tw : ∀ c : Dev nD, k0_off24 (tw c) = ![c.val] := by decide +kernel
theorem off25_tw : ∀ c : Dev nD, k0_off25 (tw c) = ![c.val, 0, 0] := by decide +kernel
theorem off26_tw : ∀ c : Dev nD, k0_off26 (tw c) = ![c.val] := by decide +kernel
theorem off27_tw : ∀ c : Dev nD, k0_off27 (tw c) = ![c.val, 0, 0] := by decide +kernel
theorem off28_tw : ∀ c : Dev nD, k0_off28 (tw c) = ![c.val] := by decide +kernel
theorem off29_tw : ∀ c : Dev nD, k0_off29 (tw c) = ![c.val, 0, 0] := by decide +kernel
theorem off30_tw : ∀ c : Dev nD, k0_off30 (tw c) = ![64 * c.val, 0] := by decide +kernel
theorem off31_tw : ∀ c : Dev nD, k0_off31 (tw c) = ![64 * c.val, 0] := by decide +kernel
theorem off32_tw : ∀ c : Dev nD, k0_off32 (tw c) = ![64 * c.val, 0] := by decide +kernel
theorem off33_tw : ∀ c : Dev nD, k0_off33 (tw c) = ![64 * c.val, 0] := by decide +kernel
theorem off34_tw : ∀ c : Dev nD, k0_off34 (tw c) = ![64 * c.val, 0] := by decide +kernel
theorem off35_tw : ∀ c : Dev nD, k0_off35 (tw c) = ![64 * c.val, 0] := by decide +kernel
theorem off36_tw : ∀ c : Dev nD, k0_off36 (tw c) = ![64 * c.val, 0] := by decide +kernel
theorem off37_tw : ∀ c : Dev nD, k0_off37 (tw c) = ![64 * c.val, 0] := by decide +kernel
theorem off38_tw : ∀ c : Dev nD, k0_off38 (tw c) = ![64 * c.val, 0] := by decide +kernel
theorem off39_tw : ∀ c : Dev nD, k0_off39 (tw c) = ![c.val] := by decide +kernel
theorem off40_tw : ∀ c : Dev nD, k0_off40 (tw c) = ![64 * c.val, 0] := by decide +kernel
theorem off41_tw : ∀ c : Dev nD, k0_off41 (tw c) = ![c.val] := by decide +kernel
theorem off42_tw : ∀ c : Dev nD, k0_off42 (tw c) = ![64 * c.val, 0] := by decide +kernel
theorem off43_tw : ∀ c : Dev nD, k0_off43 (tw c) = ![c.val] := by decide +kernel
theorem off44_tw : ∀ c : Dev nD, k0_off44 (tw c) = ![64 * c.val, 0] := by decide +kernel
theorem off45_tw : ∀ c : Dev nD, k0_off45 (tw c) = ![c.val] := by decide +kernel
theorem off46_tw : ∀ c : Dev nD, k0_off46 (tw c) = ![64 * c.val, 0] := by decide +kernel
theorem off47_tw : ∀ c : Dev nD, k0_off47 (tw c) = ![c.val] := by decide +kernel
theorem off48_tw : ∀ c : Dev nD, k0_off48 (tw c) = ![64 * c.val, 0] := by decide +kernel
theorem off49_tw : ∀ c : Dev nD, k0_off49 (tw c) = ![c.val] := by decide +kernel
theorem off50_tw : ∀ c : Dev nD, k0_off50 (tw c) = ![64 * c.val, 0] := by decide +kernel
theorem off51_tw : ∀ c : Dev nD, k0_off51 (tw c) = ![c.val] := by decide +kernel
theorem off52_tw : ∀ c : Dev nD, k0_off52 (tw c) = ![64 * c.val, 0] := by decide +kernel
theorem off53_tw : ∀ c : Dev nD, k0_off53 (tw c) = ![c.val] := by decide +kernel
theorem off54_tw : ∀ c : Dev nD, k0_off54 (tw c) = ![64 * c.val, 0] := by decide +kernel

theorem off1_tw : ∀ (i : grid0.Coords) (c : Dev nD), k0_off1 i (tw c) = ![0, 8 * c.val + (i 0).val, 0] := by decide +kernel
theorem off2_tw : ∀ (i : grid0.Coords) (c : Dev nD), k0_off2 i (tw c) = ![0, 8 * c.val + ((i 0).val + 1), 0] := by decide +kernel
theorem off5_tw : ∀ (i : grid0.Coords) (c : Dev nD), k0_off5 i (tw c) = ![0, 8 * c.val + (i 0).val, 0] := by decide +kernel
theorem off9_tw : ∀ (i : grid0.Coords) (c : Dev nD), k0_off9 i (tw c) = ![0, 8 * c.val + ((i 0).val + 2), 0] := by decide +kernel
theorem off12_tw : ∀ (i : grid0.Coords) (c : Dev nD), k0_off12 i (tw c) = ![0, 8 * c.val + ((i 0).val + 2), 0] := by decide +kernel
theorem cond1_iff : ∀ i : grid0.Coords, k0_cond1 i = 1#1 ↔ (i 0).val = 0 := by decide +kernel
theorem cond2_iff : ∀ i : grid0.Coords, k0_cond2 i = 1#1 ↔ (i 0).val + 2 < 8 := by decide +kernel
theorem cond3_iff : ∀ i : grid0.Coords, k0_cond3 i = 1#1 ↔ (i 0).val + 2 < 8 := by decide +kernel
theorem cond4_iff : ∀ i : grid0.Coords, k0_cond4 i = 1#1 ↔ (i 0).val = 7 := by decide +kernel

/-- The position the kernel divides out of its word. -/
theorem pos_tw : ∀ c : Dev nD,
    Scalar.select
      (Scalar.andi
        (Scalar.cmpi .ne
          (Scalar.subi (Scalar.extui (Scalar.cmpi .sgt (tw c) 0#32)) (Scalar.extui (Scalar.cmpi .slt (tw c) 0#32)))
          (Scalar.subi (Scalar.extui (Scalar.cmpi .sgt 8#32 0#32)) (Scalar.extui (Scalar.cmpi .slt 8#32 0#32))))
        (Scalar.cmpi .ne (Scalar.remsi (tw c) 8#32) 0#32))
      (Scalar.subi (Scalar.divsi (tw c) 8#32) 1#32) (Scalar.divsi (tw c) 8#32) = pw c := by decide +kernel

end Cert.KernelIdeal.Run
-- ==== Proof.Own.lean ====
/- Owning pieces of a buffer: a share cut in eight, a squeezed slice, and the exchanged buffers cut into the blocks that
   the devices trade. -/
module

public import proofs.«01_k».proof.Proof.Words
public import Idealize.ShloMosaic.Lib.Memref
public import Idealize.ShloMosaic.Lib.Pipeline.TableIdle

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-- Every element type has an element. -/
instance eltNonempty : ∀ e, Nonempty (Elt F e) := by
  intro e
  cases e
  all_goals first
    | exact ⟨(0 : BitVec _)⟩
    | exact ⟨FloatOps.ofBits _ 0⟩

instance vecNonempty (s : Shape) (e : EltTy) : Nonempty (Vec F s e) := ⟨fun _ => Classical.choice (eltNonempty e)⟩

/-- The ghost state: the pipeline's rounds, and this kernel's own, whose duties are named by devices. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-- The share of a whole that goes with device `p`. -/
abbrev lf (p : Dev nD) : PosShare TreeShare := ShareLeaves.leaf 3 fullShare p

/-- A memref owned in full is owned at the eight shares. -/
theorem owns_leaves (c : Dev nD) {sp : Space} {sh : Shape} {e : EltTy} (m : Memref sig .tc sp sh e) (X : sh.Idx → Elt F e) :
    (ownsTc c m fullShare X : sProp 𝕄) = bigSep Finset.univ fun p : Dev nD => ownsTc c m (lf p) X := by
  unfold ownsTc
  rw [owns_eq_rep, ShareLeaves.pointsTo_leaves _ _ 3]
  exact bigSep_congr fun p _ => (owns_eq_rep _ _ _ _).symm

/-- A squeezed memref is the memref it was squeezed from, read in the longer shape. -/
theorem owns_squeeze (c : Dev nD) {sp : Space} {sh sh' : Shape} {e : EltTy} (m : Memref sig .tc sp sh e) (h : sh.Squeezes sh')
    (q : PosShare TreeShare) (X : sh.Idx → Elt F e) :
    (ownsTc c (m.squeeze sh' h) q (fun j => X (Shape.reshapeEquiv h.numel_eq j)) : sProp 𝕄) = ownsTc c m q X := by
  unfold ownsTc owns
  have hread (f : m.view.ty.Contents (Elt F)) :
      (m.squeeze sh' h).view.read (Elt F) f = fun j => m.view.read (Elt F) f (Shape.reshapeEquiv h.numel_eq j) := rfl
  have hiff (f : m.view.ty.Contents (Elt F)) :
      ((fun j => m.view.read (Elt F) f (Shape.reshapeEquiv h.numel_eq j)) = fun j => X (Shape.reshapeEquiv h.numel_eq j))
        ↔ m.view.read (Elt F) f = X :=
    ⟨fun e => funext fun x => by
      have := congrFun e ((Shape.reshapeEquiv h.numel_eq).symm x)
      simpa only [Equiv.apply_symm_apply] using this, fun e => by rw [e]⟩
  simp only [hread, hiff, Memref.view_squeeze, View.set_reshape]

/-- The same, from contents of the shorter shape. -/
theorem owns_squeeze_sc (c : Dev nD) {sp : Space} {sh sh' : Shape} {e : EltTy} (m : Memref sig .tc sp sh e) (h : sh.Squeezes sh')
    (h' : sh'.ShapeCasts sh) (q : PosShare TreeShare) (Y : sh'.Idx → Elt F e) :
    (ownsTc c (m.squeeze sh' h) q Y : sProp 𝕄) = ownsTc c m q (shapeCast sh Y h') := by
  rw [← owns_squeeze c m h]
  congr 1; funext j
  refine congrArg Y (Eq.symm ?_)
  exact Shape.reshapeEquiv_eq_of_rowMajor _ (Shape.rowMajor_reshapeEquiv _ _).symm

/-- Owning at something. -/
abbrev ownsEx (c : Dev nD) {sp : Space} {sh : Shape} {e : EltTy} (m : Memref sig .tc sp sh e) (q : PosShare TreeShare) : sProp 𝕄 :=
  iprop(∃ X : sh.Idx → Elt F e, ownsTc c m q X)

/-! ## The staging buffer in blocks of 64 rows -/

/-- The rectangle of rows `64 p ..`. -/
abbrev rowR (p : Dev nD) : Rect S512x1024 := Rect.unit (s := S512x1024) ![64 * p.val, 0] S64x1024.size (rows_inb p)

theorem rowR_disjoint {p p' : Dev nD} (h : p ≠ p') : Disjoint (rowR p).set (rowR p').set := by
  rw [Finset.disjoint_left]
  intro i hi hi'
  have h1 := Rect.mem_set_unit.mp hi 0
  have h2 := Rect.mem_set_unit.mp hi' 0
  have e1 : S64x1024.size 0 = 64 := rfl
  have := Fin.val_ne_of_ne h
  simp only [Matrix.cons_val_zero, e1] at h1 h2
  omega

theorem rowR_cover : (Finset.univ : Finset (Dev nD)).biUnion (fun p => (rowR p).set) = Finset.univ := by
  ext i
  simp only [Finset.mem_biUnion, Finset.mem_univ, true_and, iff_true]
  have h0 : (i 0).val < 512 := (i 0).isLt
  have h1 : (i 1).val < 1024 := (i 1).isLt
  refine ⟨⟨(i 0).val / 64, by show _ < 8; omega⟩, Rect.mem_set_unit.mpr fun a => ?_⟩
  have e0 : S64x1024.size 0 = 64 := rfl
  match a with
  | 0 => simp only [Matrix.cons_val_zero, e0]; omega
  | 1 => exact ⟨Nat.zero_le _, by show (i 1).val < 0 + 1024; omega⟩

/-- Block `p` of a 512-row array. -/
def rowsOf {α : Type} (X : S512x1024.Idx → α) (p : Dev nD) : S64x1024.Idx → α := fun j => X ((rowR p).emb j)

abbrev stW : Memref sig .tc .vmem S512x1024 .bf16 := Memref.whole cc0_scratch2

theorem stage_rows (c : Dev nD) (q : PosShare TreeShare) (X : Vec F S512x1024 .bf16) :
    (ownsTc c stW q X : sProp 𝕄) ⊢ bigSep Finset.univ fun p => ownsTc c (stM p) q (rowsOf X p) :=
  owns_rects (c : Thread nD τ) stW q rowR (fun _ _ => rfl) (fun _ _ h => rowR_disjoint h) rowR_cover X

theorem stage_join (c : Dev nD) (q : PosShare TreeShare) (X : Vec F S512x1024 .bf16) :
    (bigSep Finset.univ fun p => ownsTc c (stM p) q (rowsOf X p)) ⊢ (ownsTc c stW q X : sProp 𝕄) :=
  owns_of_rects (c : Thread nD τ) stW q rowR (fun _ _ => rfl) (fun _ _ h => rowR_disjoint h) rowR_cover X

/-- The array whose block `p` is `Z p`. -/
def glueRows {α : Type} (Z : Dev nD → S64x1024.Idx → α) : S512x1024.Idx → α := Rect.glue rowR rowR_cover Z

theorem rowsOf_glue {α : Type} (Z : Dev nD → S64x1024.Idx → α) (p : Dev nD) : rowsOf (glueRows Z) p = Z p :=
  funext fun j => Rect.glue_emb rowR rowR_cover (fun _ _ h => rowR_disjoint h) Z p j

/-! ## The receive buffer in slots -/

abbrev slotR (s : Dev nD) : Rect S8x64x1024 := Rect.unit (s := S8x64x1024) ![s.val, 0, 0] S1x64x1024.size (slot_inb s)
/-- Slot `s`, not squeezed. -/
def slotA (s : Dev nD) : Memref sig .tc .vmem S1x64x1024 .bf16 :=
  (Memref.whole cc0_scratch3 : Memref sig .tc .vmem S8x64x1024 .bf16).slice (slotR s) (fun _ => rfl)

theorem slotR_disjoint {p p' : Dev nD} (h : p ≠ p') : Disjoint (slotR p).set (slotR p').set := by
  rw [Finset.disjoint_left]
  intro i hi hi'
  have h1 := Rect.mem_set_unit.mp hi 0
  have h2 := Rect.mem_set_unit.mp hi' 0
  have e1 : S1x64x1024.size 0 = 1 := rfl
  have := Fin.val_ne_of_ne h
  simp only [Matrix.cons_val_zero, e1] at h1 h2
  omega

theorem slotR_cover : (Finset.univ : Finset (Dev nD)).biUnion (fun p => (slotR p).set) = Finset.univ := by
  ext i
  simp only [Finset.mem_biUnion, Finset.mem_univ, true_and, iff_true]
  have h0 : (i 0).val < 8 := (i 0).isLt
  have h1 : (i 1).val < 64 := (i 1).isLt
  have h2 : (i 2).val < 1024 := (i 2).isLt
  refine ⟨⟨(i 0).val, h0⟩, Rect.mem_set_unit.mpr fun a => ?_⟩
  have e0 : S1x64x1024.size 0 = 1 := rfl
  match a with
  | 0 => simp only [Matrix.cons_val_zero, e0]; omega
  | 1 => exact ⟨Nat.zero_le _, by show (i 1).val < 0 + 64; omega⟩
  | 2 => exact ⟨Nat.zero_le _, by show (i 2).val < 0 + 1024; omega⟩

abbrev rvW : Memref sig .tc .vmem S8x64x1024 .bf16 := Memref.whole cc0_scratch3

theorem casts_1 : S64x1024.ShapeCasts S1x64x1024 := by decide

/-- A slot owned squeezed is the slot owned in the longer shape. -/
theorem slotM_eq (c s : Dev nD) (q : PosShare TreeShare) (Y : Vec F S64x1024 .bf16) :
    (ownsTc c (slotM s) q Y : sProp 𝕄) = ownsTc c (slotA s) q (shapeCast S1x64x1024 Y casts_1) :=
  owns_squeeze_sc c (slotA s) squeezes_S1x64x1024_S64x1024 casts_1 q Y

theorem slot_split (c : Dev nD) (X : Vec F S8x64x1024 .bf16) :
    (ownsTc c rvW fullShare X : sProp 𝕄) ⊢ bigSep Finset.univ fun s => ownsEx (F := F) c (slotM s) fullShare := by
  refine (owns_rects (c : Thread nD τ) rvW fullShare slotR (fun _ _ => rfl) (fun _ _ h => slotR_disjoint h) slotR_cover X).trans
    (bigSep_mono fun s _ => ?_)
  refine (Entails.of_eq (owns_squeeze c (slotA s) squeezes_S1x64x1024_S64x1024 fullShare _).symm).trans ?_
  iintro H; iexists _; iexact H

theorem slot_join (c : Dev nD) :
    (bigSep Finset.univ fun s => ownsEx (F := F) c (slotM s) fullShare) ⊢ (ownsEx (F := F) c rvW fullShare : sProp 𝕄) := by
  refine (bigSep_mono fun s _ => (?_ : _ ⊢ iprop(∃ Z : Vec F S1x64x1024 .bf16, ownsTc c (slotA s) fullShare Z))).trans ?_
  · iintro ⟨%X, H⟩; iexists _; iapply (Entails.of_eq (slotM_eq c s fullShare X)); iexact H
  refine (@bigSep_exists_pi 𝕄 _ _ _ (fun _ : Dev nD => Vec F S1x64x1024 .bf16) (fun _ => vecNonempty _ _) Finset.univ
    fun s Z => ownsTc c (slotA s) fullShare Z).trans ?_
  iintro ⟨%y, H⟩
  iexists Rect.glue slotR slotR_cover y
  iapply (owns_of_rects (c : Thread nD τ) rvW fullShare slotR (fun _ _ => rfl) (fun _ _ h => slotR_disjoint h) slotR_cover _)
  iapply (Entails.of_eq (bigSep_congr fun s _ => congrArg (ownsTc c (slotA s) fullShare) (funext fun j =>
    (Rect.glue_emb slotR slotR_cover (fun _ _ h => slotR_disjoint h) y s j).symm)))
  iexact H

/-! ## The two-slot buffers -/

abbrev kvR (s : Fin 2) : Rect S2x2048x128 := Rect.unit (s := S2x2048x128) ![s.val, 0, 0] S1x2048x128.size (kv_inb s)
/-- Slot `s`, not squeezed. -/
def kvSlotA (b : Memref sig .tc .vmem S2x2048x128 .f32) (s : Fin 2) : Memref sig .tc .vmem S1x2048x128 .f32 := b.slice (kvR s) (fun _ => rfl)

theorem kvR_disjoint {p p' : Fin 2} (h : p ≠ p') : Disjoint (kvR p).set (kvR p').set := by
  rw [Finset.disjoint_left]
  intro i hi hi'
  have h1 := Rect.mem_set_unit.mp hi 0
  have h2 := Rect.mem_set_unit.mp hi' 0
  have e1 : S1x2048x128.size 0 = 1 := rfl
  have := Fin.val_ne_of_ne h
  simp only [Matrix.cons_val_zero, e1] at h1 h2
  omega

theorem kvR_cover : (Finset.univ : Finset (Fin 2)).biUnion (fun p => (kvR p).set) = Finset.univ := by
  ext i
  simp only [Finset.mem_biUnion, Finset.mem_univ, true_and, iff_true]
  have h0 : (i 0).val < 2 := (i 0).isLt
  have h1 : (i 1).val < 2048 := (i 1).isLt
  have h2 : (i 2).val < 128 := (i 2).isLt
  refine ⟨⟨(i 0).val, h0⟩, Rect.mem_set_unit.mpr fun a => ?_⟩
  have e0 : S1x2048x128.size 0 = 1 := rfl
  match a with
  | 0 => simp only [Matrix.cons_val_zero, e0]; omega
  | 1 => exact ⟨Nat.zero_le _, by show (i 1).val < 0 + 2048; omega⟩
  | 2 => exact ⟨Nat.zero_le _, by show (i 2).val < 0 + 128; omega⟩

theorem casts_2 : S2048x128.ShapeCasts S1x2048x128 := by decide

theorem kvSlot_eq (c : Dev nD) (b : Memref sig .tc .vmem S2x2048x128 .f32) (s : Fin 2) (q : PosShare TreeShare) (Y : Vec F S2048x128 .f32) :
    (ownsTc c (kvSlot b s) q Y : sProp 𝕄) = ownsTc c (kvSlotA b s) q (shapeCast S1x2048x128 Y casts_2) :=
  owns_squeeze_sc c (kvSlotA b s) squeezes_S1x2048x128_S2048x128 casts_2 q Y

theorem kv_split (c : Dev nD) (b : Memref sig .tc .vmem S2x2048x128 .f32) (X : Vec F S2x2048x128 .f32) :
    (ownsTc c b fullShare X : sProp 𝕄) ⊢ bigSep Finset.univ fun s => ownsEx (F := F) c (kvSlot b s) fullShare := by
  refine (owns_rects (c : Thread nD τ) b fullShare kvR (fun _ _ => rfl) (fun _ _ h => kvR_disjoint h) kvR_cover X).trans
    (bigSep_mono fun s _ => ?_)
  refine (Entails.of_eq (owns_squeeze c (kvSlotA b s) squeezes_S1x2048x128_S2048x128 fullShare _).symm).trans ?_
  iintro H; iexists _; iexact H

theorem kv_join (c : Dev nD) (b : Memref sig .tc .vmem S2x2048x128 .f32) :
    (bigSep Finset.univ fun s => ownsEx (F := F) c (kvSlot b s) fullShare) ⊢ (ownsEx (F := F) c b fullShare : sProp 𝕄) := by
  refine (bigSep_mono fun s _ => (?_ : _ ⊢ iprop(∃ Z : Vec F S1x2048x128 .f32, ownsTc c (kvSlotA b s) fullShare Z))).trans ?_
  · iintro ⟨%X, H⟩; iexists _; iapply (Entails.of_eq (kvSlot_eq c b s fullShare X)); iexact H
  refine (@bigSep_exists_pi 𝕄 _ _ _ (fun _ : Fin 2 => Vec F S1x2048x128 .f32) (fun _ => vecNonempty _ _) Finset.univ
    fun s Z => ownsTc c (kvSlotA b s) fullShare Z).trans ?_
  iintro ⟨%y, H⟩
  iexists Rect.glue kvR kvR_cover y
  iapply (owns_of_rects (c : Thread nD τ) b fullShare kvR (fun _ _ => rfl) (fun _ _ h => kvR_disjoint h) kvR_cover _)
  iapply (Entails.of_eq (bigSep_congr fun s _ => congrArg (ownsTc c (kvSlotA b s) fullShare) (funext fun j =>
    (Rect.glue_emb kvR kvR_cover (fun _ _ h => kvR_disjoint h) y s j).symm)))
  iexact H

end Cert.KernelIdeal.Run
-- ==== Proof.Values.lean ====
/- What the kernel computes, stage by stage, in the kernel's own operations: each device's attention heads, its partial
   product, what the devices send one another, and the result. -/
module

public import proofs.«01_k».proof.Proof.Own

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-- One device's inputs as the kernel's call reads them. -/
structure Inp (F : FTy → Type) where
  x : Vec F S512x1024 .f32
  wq : Vec F S1024x1024 .f32
  k : Vec F S2048x64x128 .f32
  v : Vec F S2048x64x128 .f32
  wo : Vec F S1024x1024 .f32

/-- Columns `128 h ..` of a 512 × 1024 array. -/
theorem col_inb (h : Fin 8) : ∀ a, (![0, 128 * h.val] : Fin 2 → ℕ) a + S512x128.size a ≤ S512x1024.size a := by
  revert h; decide
abbrev colR (h : Fin 8) : Rect S512x1024 := Rect.unit (s := S512x1024) ![0, 128 * h.val] S512x128.size (col_inb h)

theorem colR_disjoint {p p' : Fin 8} (h : p ≠ p') : Disjoint (colR p).set (colR p').set := by
  rw [Finset.disjoint_left]
  intro i hi hi'
  have h1 := Rect.mem_set_unit.mp hi 1
  have h2 := Rect.mem_set_unit.mp hi' 1
  have e1 : S512x128.size 1 = 128 := rfl
  have := Fin.val_ne_of_ne h
  simp only [Matrix.cons_val_one, e1] at h1 h2
  have a1 : 128 * p.val ≤ (i 1).val ∧ (i 1).val < 128 * p.val + 128 := h1
  have a2 : 128 * p'.val ≤ (i 1).val ∧ (i 1).val < 128 * p'.val + 128 := h2
  omega

theorem colR_cover : (Finset.univ : Finset (Fin 8)).biUnion (fun p => (colR p).set) = Finset.univ := by
  ext i
  simp only [Finset.mem_biUnion, Finset.mem_univ, true_and, iff_true]
  have h0 : (i 0).val < 512 := (i 0).isLt
  have h1 : (i 1).val < 1024 := (i 1).isLt
  refine ⟨⟨(i 1).val / 128, by show _ < 8; omega⟩, Rect.mem_set_unit.mpr fun a => ?_⟩
  match a with
  | 0 => exact ⟨Nat.zero_le _, by show (i 0).val < 0 + 512; omega⟩
  | 1 => exact ⟨by show 128 * ((i 1).val / 128) ≤ (i 1).val; omega, by show (i 1).val < 128 * ((i 1).val / 128) + 128; omega⟩

/-- Column block `h` of an array. -/
def colsOf {α : Type} (X : S512x1024.Idx → α) (h : Fin 8) : S512x128.Idx → α := fun j => X ((colR h).emb j)

/-- The array whose column block `h` is `Z h`. -/
def glueCols {α : Type} (Z : Fin 8 → S512x128.Idx → α) : S512x1024.Idx → α := Rect.glue colR colR_cover Z

theorem colsOf_glue {α : Type} (Z : Fin 8 → S512x128.Idx → α) (p : Fin 8) : colsOf (glueCols Z) p = Z p :=
  funext fun j => Rect.glue_emb colR colR_cover (fun _ _ h => colR_disjoint h) Z p j

theorem exists_col (i : S512x1024.Idx) : ∃ h j, (colR h).emb j = i := by
  have hi : i ∈ (Finset.univ : Finset (Fin 8)).biUnion (fun p => (colR p).set) := by rw [colR_cover]; exact Finset.mem_univ i
  obtain ⟨h, -, hh⟩ := Finset.mem_biUnion.mp hi
  rw [← Rect.map_emb_univ] at hh
  obtain ⟨j, -, hj⟩ := Finset.mem_map.mp hh
  exact ⟨h, j, hj⟩

theorem exists_row (i : S512x1024.Idx) : ∃ p j, (rowR p).emb j = i := by
  have hi : i ∈ (Finset.univ : Finset (Dev nD)).biUnion (fun p => (rowR p).set) := by rw [rowR_cover]; exact Finset.mem_univ i
  obtain ⟨h, -, hh⟩ := Finset.mem_biUnion.mp hi
  rw [← Rect.map_emb_univ] at hh
  obtain ⟨j, -, hj⟩ := Finset.mem_map.mp hh
  exact ⟨h, j, hj⟩

/-- An array is its column blocks. -/
theorem eq_glueCols {α : Type} {X : S512x1024.Idx → α} {Z : Fin 8 → S512x128.Idx → α} (h : ∀ p, colsOf X p = Z p) : X = glueCols Z := by
  funext i
  obtain ⟨p, j, rfl⟩ := exists_col i
  exact (congrFun (h p) j).trans (congrFun (colsOf_glue Z p) j).symm

/-! ## The head of a key or value array -/

/-- The number among all 64 of device `c`'s head `h`. -/
def hd (c : Dev nD) (h : Fin 8) : Fin 64 := ⟨8 * c.val + h.val, by have := c.isLt; have := h.isLt; have : nD = 8 := rfl; omega⟩

/-- Head `h` of the keys or the values, as the copy reads it. -/
def khd (K : Vec F S2048x64x128 .f32) (h : Fin 64) : Vec F S2048x128 .f32 := (kvHead kA h).view.read (Elt F) K

theorem khd_v (K : Vec F S2048x64x128 .f32) (h : Fin 64) : (kvHead vA h).view.read (Elt F) K = khd K h := rfl

/-- What a slot holds: the head, in the slot's shape. -/
def khs (K : Vec F S2048x64x128 .f32) (h : Fin 64) : Vec F S1x2048x128 .f32 := shapeCast S1x2048x128 (khd K h) casts_2

/-! ## One device's work -/

/-- Columns `128 h ..` of the query weights. -/
def wqb (W : Vec F S1024x1024 .f32) (h : Fin 8) : Vec F S1024x128 .f32 := fun j =>
  W (ValueIdx.ix2 (n0 := 1024) (n1 := 1024) (j 0)
    ⟨128 * h.val + (j 1).val, by have h1 : (j 1).val < 128 := (j 1).isLt; have := h.isLt; omega⟩)

variable (I : Dev nD → Inp F)

/-- The input rounded, as the scratch keeps it. -/
def xb (c : Dev nD) : Vec F S512x1024 .bf16 := k0_pay16 (k0_pay1 (I c).x)
/-- The scaled queries of head `h`. -/
def qh (c : Dev nD) (h : Fin 8) : Vec F S512x128 .bf16 := k0_pay17 (xb I c) (wqb (I c).wq h)
/-- The attention output of head `h`. -/
def att (c : Dev nD) (h : Fin 8) : Vec F S512x128 .bf16 := k0_pay18 (qh I c h) (khs (I c).k (hd c h)) (khs (I c).v (hd c h))
/-- All eight heads' outputs side by side. -/
def oval (c : Dev nD) : Vec F S512x1024 .bf16 := glueCols (att I c)
/-- The device's partial product with its rows of the output weights. -/
def part (c : Dev nD) : Vec F S512x1024 .f32 := k0_pay3 (oval I c) (k0_pay2 (I c).wo)
/-- The partial product rounded, as it is sent. -/
def stage0 (c : Dev nD) : Vec F S512x1024 .bf16 := k0_pay4 (part I c)

/-! ## The exchange -/

/-- Device `c`'s own rows after the blocks of the devices below `k` are added. -/
def acc (c : Dev nD) : ℕ → Vec F S64x1024 .f32
  | 0 => rowsOf (part I c) c
  | k + 1 => if h : k < 8 ∧ k ≠ c.val then k0_pay5 (acc c k) (shapeCast S1x64x1024 (rowsOf (stage0 I ⟨k, h.1⟩) c) casts_1) else acc c k

theorem acc_self (c : Dev nD) : acc I c (c.val + 1) = acc I c c.val := by
  rw [acc, dif_neg (fun h => h.2 rfl)]
theorem acc_succ (c p : Dev nD) (h : p ≠ c) :
    acc I c (p.val + 1) = k0_pay5 (acc I c p.val) (shapeCast S1x64x1024 (rowsOf (stage0 I p) c) casts_1) := by
  rw [acc, dif_pos ⟨p.isLt, Fin.val_ne_of_ne h⟩]

/-- Device `c`'s finished rows, rounded. -/
def red (c : Dev nD) : Vec F S64x1024 .bf16 := k0_pay14 (k0_pay13 (acc I c 8))
/-- All devices' finished rows. -/
def ST : Vec F S512x1024 .bf16 := glueRows (red I)
/-- The result. -/
def outv : Vec F S512x1024 .f32 := k0_pay15 (ST I)

abbrev oW : Memref sig .tc .vmem S512x1024 .f32 := Memref.whole cc0_stg3_0

/-- The output buffer while the device adds the blocks it receives into its own rows. -/
def outF (c : Dev nD) : ℕ → Vec F S512x1024 .f32
  | 0 => part I c
  | k + 1 => if k < 8 ∧ k ≠ c.val then (oW.access (rowR c)).write (Elt F) (outF c k) (acc I c (k + 1)) Finset.univ else outF c k

theorem outF_rows (c : Dev nD) : ∀ k, (oW.access (rowR c)).read (Elt F) (outF I c k) = acc I c k
  | 0 => rfl
  | k + 1 => by
    rw [outF]
    split
    · exact View.read_write_univ _ _
    · rename_i h
      rw [outF_rows c k, acc, dif_neg h]

theorem outF_self (c : Dev nD) : outF I c (c.val + 1) = outF I c c.val := by
  rw [outF, if_neg (fun h => h.2 rfl)]
theorem outF_succ (c p : Dev nD) (h : p ≠ c) :
    outF I c (p.val + 1) = (oW.access (rowR c)).write (Elt F) (outF I c p.val)
      (k0_pay5 (acc I c p.val) (shapeCast S1x64x1024 (rowsOf (stage0 I p) c) casts_1)) Finset.univ := by
  rw [outF, if_pos ⟨p.isLt, Fin.val_ne_of_ne h⟩, acc_succ I c p h]

end Cert.KernelIdeal.Run
-- ==== Proof.Schedule.lean ====
/- The schedule: per semaphore cell, who raises it, in which round, by how much, and what is handed over with it. -/
module

public import proofs.«01_k».proof.Proof.Values

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F)

/-! ## Cells -/

abbrev barCell (c : Dev nD) : GSem nD τ sig := ((c : Thread nD τ), .reg barS)
abbrev dmaCell (c : Dev nD) (n : DmaSem sig) : GSem nD τ sig := ((c : Thread nD τ), .dma n)

/-! ## What is handed over -/

/-- Device `d` to device `c` with its barrier unit: `d`'s receive slot for `c`, and that the two cells of `d` which `c`'s
    copies raise are open. -/
def barPay (c d : Dev nD) : sProp 𝕄 :=
  iprop(ownsEx (F := F) d (slotM c) fullShare ∗ reached ER (dmaCell d (rsRecv c)) 0 ∗ reached ER (dmaCell d (agRecv c)) 0)

/-- The landing of device `s`'s block on device `c`: `c`'s slot `s`, and `s`'s staging rows of `c`, which `c` will fill. -/
def rsPay (c s : Dev nD) : sProp 𝕄 :=
  iprop(ownsTc c (slotM s) fullShare (rowsOf (stage0 I s) c) ∗ ownsEx (F := F) s (stM c) fullShare)

/-- Device `c`'s finished rows at the share lent for the copy to `p`, back. -/
def agSendPay (c p : Dev nD) : sProp 𝕄 := ownsTc c (stM c) (lf p) (red I c)

/-- The landing of device `s`'s finished rows on device `c`. -/
def agRecvPay (c s : Dev nD) : sProp 𝕄 := ownsTc c (stM s) fullShare (red I s)

/-- The part of a 64-head array that the copy of head `h` reads, at a share. -/
def headPt (c : Dev nD) (a : Memref sig .tc .hbm S2048x64x128 .f32) (h : Fin 64) (q : PosShare TreeShare)
    (K : Buf (Elt F) ((kvHead a h).view.loc (c : Thread nD τ))) : sProp 𝕄 :=
  (kvHead a h).view.loc (c : Thread nD τ) ↦[(kvHead a h).view.set]{q} K

/-- The head that slot `s` holds in round `r`. -/
def hOf (s : Fin 2) (r : ℕ) : Fin 8 := ⟨(2 * r + s.val) % 8, Nat.mod_lt _ (by decide)⟩

/-- The landing of a head of the keys in its slot: the slot, and the part of the array read. -/
def kPay (c : Dev nD) (s : Fin 2) (r : ℕ) : sProp 𝕄 :=
  iprop(ownsTc c (kvSlot kB s) fullShare (khd (I c).k (hd c (hOf s r))) ∗ headPt c kA (hd c (hOf s r)) (lf (hOf s r)) (I c).k)
/-- The landing of a head of the values. -/
def vPay (c : Dev nD) (s : Fin 2) (r : ℕ) : sProp 𝕄 :=
  iprop(ownsTc c (kvSlot vB s) fullShare (khd (I c).v (hd c (hOf s r))) ∗ headPt c vA (hd c (hOf s r)) (lf (hOf s r)) (I c).v)

/-- The last three bits of an exchange semaphore's index, counted from 9: the other device. -/
def peer (n : ℕ) : Dev nD := ⟨(n - 9) % 8, Nat.mod_lt _ (by decide)⟩
/-- The slot of a copy semaphore. -/
def slotOf (n : ℕ) : Fin 2 := ⟨(n - 5) % 2, Nat.mod_lt _ (by decide)⟩

/-- What a DMA cell's raise hands over, by the semaphore's index. -/
def dmaPay (c : Dev nD) (n : ℕ) (r : ℕ) : sProp 𝕄 :=
  if n < 7 then kPay I c (slotOf n) r
  else if n < 9 then vPay I c (slotOf n) r
  else if n < 17 then iprop(emp)
  else if n < 25 then rsPay I c (peer n)
  else if n < 33 then agSendPay I c (peer n)
  else agRecvPay I c (peer n)

/-- Who raises a cell in a round. -/
def dutiesOf (g : GSem nD τ sig) (r : ℕ) : Finset (Dev nD) :=
  match g.2 with
  | .reg _ => if r = 0 then Finset.univ.erase g.1.1 else ∅
  | .dma n => if n.val < 5 then ∅ else if n.val < 9 then (if r < 4 then {0} else ∅)
      else if r = 0 ∧ peer n.val ≠ g.1.1 then {0} else ∅
/-- By how much. -/
def amountOf' (g : GSem nD τ sig) : ℕ :=
  match g.2 with
  | .reg _ => 1
  | .dma n => if n.val < 9 then NK else NB
/-- With what. -/
def payloadOf (g : GSem nD τ sig) (r : ℕ) (d : Dev nD) : sProp 𝕄 :=
  match g.2 with
  | .reg _ => barPay g.1.1 d
  | .dma n => dmaPay I g.1.1 n.val r

def Rd : Rounds.Schedule (GSem nD τ sig) (Dev nD) 𝕄 where
  duties := dutiesOf
  unitless _ := False
  amount g _ _ := amountOf' g
  payload := payloadOf I
  amount_pos g _ _ _ := by
    unfold amountOf'
    split
    · exact Nat.one_pos
    · split
      · exact NK_pos
      · exact NB_pos

instance headPt_storable (c : Dev nD) (a) (h : Fin 64) (q : PosShare TreeShare) (K) :
    BI.Storable (upEmb : UEmb _ 𝕄) (headPt (F := F) c a h q K) := by unfold headPt; infer_instance

instance kPay_storable (c : Dev nD) (s : Fin 2) (r : ℕ) : BI.Storable (upEmb : UEmb _ 𝕄) (kPay I c s r) := by
  unfold kPay
  have := headPt_storable c kA (hd c (hOf s r)) (lf (hOf s r)) (I c).k
  exact inferInstance
instance vPay_storable (c : Dev nD) (s : Fin 2) (r : ℕ) : BI.Storable (upEmb : UEmb _ 𝕄) (vPay I c s r) := by
  unfold vPay
  have := headPt_storable c vA (hd c (hOf s r)) (lf (hOf s r)) (I c).v
  infer_instance

instance Rd_storable (g : GSem nD τ sig) (r : ℕ) (d : Dev nD) : BI.Storable (upEmb : UEmb _ 𝕄) ((Rd I).payload g r d) := by
  show BI.Storable upEmb (payloadOf I g r d)
  unfold payloadOf
  split
  · unfold barPay ownsEx; infer_instance
  · unfold dmaPay rsPay agSendPay agRecvPay ownsEx
    (repeat' split) <;> infer_instance

/-! ## The table, cell by cell -/

theorem Rd_duties (g r) : (Rd I).duties g r = dutiesOf g r := rfl
theorem Rd_amount (g r d) : (Rd I).amount g r d = amountOf' g := rfl

theorem duties_bar (c : Dev nD) : (Rd I).duties (barCell c) 0 = Finset.univ.erase c := rfl
theorem duties_kv (c : Dev nD) (b s : Fin 2) (r : ℕ) (h : r < 4) : (Rd I).duties (dmaCell c (kvS b s)) r = {0} := by
  rw [Rd_duties]
  unfold dutiesOf kvS
  have := b.isLt; have := s.isLt
  dsimp only
  rw [if_neg (by omega), if_pos (by omega), if_pos h]

theorem peer_ex (b : Fin 4) (p : Dev nD) : peer (9 + 8 * b.val + p.val) = p := by
  have h : p.val < 8 := p.isLt
  apply Fin.ext; show (9 + 8 * b.val + p.val - 9) % 8 = p.val; omega
theorem slot_kv (b s : Fin 2) : slotOf (5 + 2 * b.val + s.val) = s := by
  have h : s.val < 2 := s.isLt
  apply Fin.ext; show (5 + 2 * b.val + s.val - 5) % 2 = s.val; omega

theorem duties_ex (c : Dev nD) (b : Fin 4) (p : Dev nD) (h : p ≠ c) : (Rd I).duties (dmaCell c (exS b p)) 0 = {0} := by
  rw [Rd_duties]
  unfold dutiesOf exS
  dsimp only
  rw [if_neg (by omega), if_neg (by omega), if_pos ⟨rfl, by rw [peer_ex]; exact h⟩]

theorem duties_ex_later (c : Dev nD) (b : Fin 4) (p : Dev nD) (r : ℕ) (h : 1 ≤ r) : (Rd I).duties (dmaCell c (exS b p)) r = ∅ := by
  rw [Rd_duties]
  unfold dutiesOf exS
  dsimp only
  rw [if_neg (by omega), if_neg (by omega), if_neg (fun h' => by omega)]
theorem duties_ex_self (c : Dev nD) (b : Fin 4) (r : ℕ) : (Rd I).duties (dmaCell c (exS b c)) r = ∅ := by
  rw [Rd_duties]
  unfold dutiesOf exS
  dsimp only
  rw [if_neg (by omega), if_neg (by omega), if_neg (fun h' => h'.2 (by rw [peer_ex]))]
theorem duties_kv_later (c : Dev nD) (b s : Fin 2) (r : ℕ) (h : 4 ≤ r) : (Rd I).duties (dmaCell c (kvS b s)) r = ∅ := by
  rw [Rd_duties]
  unfold dutiesOf kvS
  have := b.isLt; have := s.isLt
  dsimp only
  rw [if_neg (by omega), if_pos (by omega), if_neg (by omega)]
theorem duties_bar_later (c : Dev nD) (r : ℕ) (h : 1 ≤ r) : (Rd I).duties (barCell c) r = ∅ := by
  rw [Rd_duties]
  unfold dutiesOf
  dsimp only
  rw [if_neg (by omega)]

theorem amount_bar (c d : Dev nD) (r : ℕ) : (Rd I).amount (barCell c) r d = 1 := rfl
theorem amount_kvS (c : Dev nD) (b s : Fin 2) (r : ℕ) (d : Dev nD) : (Rd I).amount (dmaCell c (kvS b s)) r d = NK := by
  rw [Rd_amount]
  unfold amountOf' kvS
  have := b.isLt; have := s.isLt
  dsimp only
  rw [if_pos (by omega)]
theorem amount_ex (c : Dev nD) (b : Fin 4) (p : Dev nD) (r : ℕ) (d : Dev nD) : (Rd I).amount (dmaCell c (exS b p)) r d = NB := by
  rw [Rd_amount]
  unfold amountOf' exS
  dsimp only
  rw [if_neg (by omega)]

theorem expect_bar (c : Dev nD) : (Rd I).expect (barCell c) 0 = 7 := by
  unfold Schedule.expect Schedule.amountOf
  rw [duties_bar, Finset.sum_congr rfl (fun d _ => amount_bar I c d 0), Finset.sum_const, Finset.card_erase_of_mem (Finset.mem_univ c)]
  rfl
theorem expect_kv (c : Dev nD) (b s : Fin 2) (r : ℕ) (h : r < 4) : (Rd I).expect (dmaCell c (kvS b s)) r = NK := by
  unfold Schedule.expect Schedule.amountOf; rw [duties_kv I c b s r h, Finset.sum_singleton, amount_kvS]
theorem expect_ex (c : Dev nD) (b : Fin 4) (p : Dev nD) (h : p ≠ c) : (Rd I).expect (dmaCell c (exS b p)) 0 = NB := by
  unfold Schedule.expect Schedule.amountOf; rw [duties_ex I c b p h, Finset.sum_singleton, amount_ex]

theorem payload_bar (c d : Dev nD) (r : ℕ) : (Rd I).payload (barCell c) r d = barPay c d := rfl
theorem payload_k (c : Dev nD) (s : Fin 2) (r : ℕ) (d : Dev nD) : (Rd I).payload (dmaCell c (kvS 0 s)) r d = kPay I c s r := by
  show dmaPay I c (5 + 2 * 0 + s.val) r = _
  have := s.isLt
  unfold dmaPay
  rw [if_pos (by omega)]; exact congrArg (fun s => kPay I c s r) (slot_kv 0 s)
theorem payload_v (c : Dev nD) (s : Fin 2) (r : ℕ) (d : Dev nD) : (Rd I).payload (dmaCell c (kvS 1 s)) r d = vPay I c s r := by
  show dmaPay I c (5 + 2 * 1 + s.val) r = _
  have := s.isLt
  unfold dmaPay
  rw [if_neg (by omega), if_pos (by omega)]; exact congrArg (fun s => vPay I c s r) (slot_kv 1 s)
theorem payload_rsSend (c p : Dev nD) (r : ℕ) (d : Dev nD) : (Rd I).payload (dmaCell c (rsSend p)) r d = iprop(emp) := by
  show dmaPay I c (9 + 8 * 0 + p.val) r = _
  have h : p.val < 8 := p.isLt
  unfold dmaPay
  rw [if_neg (by omega), if_neg (by omega), if_pos (by omega)]
theorem payload_rsRecv (c p : Dev nD) (r : ℕ) (d : Dev nD) : (Rd I).payload (dmaCell c (rsRecv p)) r d = rsPay I c p := by
  show dmaPay I c (9 + 8 * 1 + p.val) r = _
  have h : p.val < 8 := p.isLt
  unfold dmaPay
  rw [if_neg (by omega), if_neg (by omega), if_neg (by omega), if_pos (by omega)]; exact congrArg (rsPay I c) (peer_ex 1 p)
theorem payload_agSend (c p : Dev nD) (r : ℕ) (d : Dev nD) : (Rd I).payload (dmaCell c (agSend p)) r d = agSendPay I c p := by
  show dmaPay I c (9 + 8 * 2 + p.val) r = _
  have h : p.val < 8 := p.isLt
  unfold dmaPay
  rw [if_neg (by omega), if_neg (by omega), if_neg (by omega), if_neg (by omega), if_pos (by omega)]; exact congrArg (agSendPay I c) (peer_ex 2 p)
theorem payload_agRecv (c p : Dev nD) (r : ℕ) (d : Dev nD) : (Rd I).payload (dmaCell c (agRecv p)) r d = agRecvPay I c p := by
  show dmaPay I c (9 + 8 * 3 + p.val) r = _
  have h : p.val < 8 := p.isLt
  unfold dmaPay
  rw [if_neg (by omega), if_neg (by omega), if_neg (by omega), if_neg (by omega), if_neg (by omega)]; exact congrArg (agRecvPay I c) (peer_ex 3 p)

/-- What a wait on an exchange cell hands over. -/
theorem rest_ex (c : Dev nD) (b : Fin 4) (p : Dev nD) (h : p ≠ c) (P : sProp 𝕄) (hP : (Rd I).payload (dmaCell c (exS b p)) 0 0 = P) :
    bigSep ((Rd I).duties (dmaCell c (exS b p)) 0 \ ∅) (fun u => (Rd I).payload (dmaCell c (exS b p)) 0 u) = P := by
  rw [Finset.sdiff_empty, duties_ex I c b p h, bigSep_singleton, hP]
theorem rest_kv (c : Dev nD) (b s : Fin 2) (r : ℕ) (h : r < 4) (P : sProp 𝕄) (hP : (Rd I).payload (dmaCell c (kvS b s)) r 0 = P) :
    bigSep ((Rd I).duties (dmaCell c (kvS b s)) r \ ∅) (fun u => (Rd I).payload (dmaCell c (kvS b s)) r u) = P := by
  rw [Finset.sdiff_empty, duties_kv I c b s r h, bigSep_singleton, hP]
theorem rest_bar (c : Dev nD) :
    bigSep ((Rd I).duties (barCell c) 0 \ ∅) (fun u => (Rd I).payload (barCell c) 0 u) = bigSep (Finset.univ.erase c) fun d => barPay c d := by
  rw [Finset.sdiff_empty, duties_bar]; rfl

/-! ## Levels and debts -/

def L (g : GSem nD τ sig) : Finset Unit := if g.1.2 = .tc then {()} else ∅
/-- The order in which a device waits: the barrier, then the blocks, then the finished rows; every other cell below. -/
def lv (g : GSem nD τ sig) (_ : Unit) : ℕ :=
  match g.2 with
  | .reg _ => 1
  | .dma n => if n.val < 17 then 0 else if n.val < 25 then 2 else if n.val < 33 then 0 else 3

theorem L_of_ne (g : GSem nD τ sig) (h : g.1.2 ≠ .tc) : L g = ∅ := if_neg h
theorem L_tc (c : Dev nD) (sm : SemLoc sig) : L ((c : Thread nD τ), sm) = {()} := if_pos rfl

/-- What the cells in a debt's support satisfy. -/
def Above (n : ℕ) (O : CellTallies nD τ sig Unit) : Prop := ∀ (g : GSem nD τ sig) (u : Unit), 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  have : 0 < O g u + O' g u := hg
  rcases Nat.eq_zero_or_pos (O g u) with e | e
  · exact h' g u (by omega)
  · exact h g u e
theorem above_sum {n : ℕ} {ι : Type} (s : Finset ι) (T : ι → CellTallies nD τ sig Unit) (h : ∀ i ∈ s, Above n (T i)) : Above n (∑ i ∈ s, T i) := by
  classical
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))
theorem above_tally {n : ℕ} (c : Dev nD) (sm : SemLoc sig) (k : ℕ) (h : n < lv ((c : Thread nD τ), sm) ()) :
    Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)

theorem mayWait (c : Dev nD) (sm : SemLoc sig) (O : CellTallies nD τ sig Unit) (h : Above (lv ((c : Thread nD τ), sm) ()) O) :
    (levAts L lv : sProp 𝕄) ⊢ MayWait (c : Thread nD τ) sm () O :=
  Pipeline.mayWait_of_levAts (by rw [L_tc]; exact Finset.mem_singleton_self _)
    (fun g u hg => ⟨by rw [L, if_pos (h g u hg).1]; exact Finset.mem_singleton_self _, (h g u hg).2⟩)

/-- The debt to the peers from `k` on. -/
def owedFrom (c : Dev nD) (T : Dev nD → CellTallies nD τ sig Unit) (k : ℕ) : CellTallies nD τ sig Unit :=
  ∑ p ∈ Finset.univ.filter (fun p : Dev nD => p ≠ c ∧ k ≤ p.val), T p

theorem owedFrom_self (c : Dev nD) (T) : owedFrom c T c.val = owedFrom c T (c.val + 1) := by
  unfold owedFrom
  congr 1; ext p
  simp only [Finset.mem_filter, Finset.mem_univ, true_and]
  constructor
  · rintro ⟨h, h'⟩; exact ⟨h, by have := Fin.val_ne_of_ne h; omega⟩
  · rintro ⟨h, h'⟩; exact ⟨h, by omega⟩
theorem owedFrom_succ (c p : Dev nD) (T) (h : p ≠ c) : owedFrom c T p.val = owedFrom c T (p.val + 1) + T p := by
  unfold owedFrom
  rw [show (Finset.univ.filter fun q : Dev nD => q ≠ c ∧ p.val ≤ q.val) = insert p (Finset.univ.filter fun q : Dev nD => q ≠ c ∧ p.val + 1 ≤ q.val) from ?_,
    Finset.sum_insert, add_comm]
  · simp
  · ext q
    simp only [Finset.mem_filter, Finset.mem_univ, true_and, Finset.mem_insert]
    constructor
    · rintro ⟨h1, h2⟩
      by_cases e : q = p
      · exact .inl e
      · exact .inr ⟨h1, by have := Fin.val_ne_of_ne e; omega⟩
    · rintro (rfl | ⟨h1, h2⟩)
      · exact ⟨h, Nat.le_refl _⟩
      · exact ⟨h1, by omega⟩
theorem owedFrom_end (c : Dev nD) (T) : owedFrom c T 8 = 0 := by
  unfold owedFrom
  rw [Finset.filter_false_of_mem, Finset.sum_empty]
  intro p _ h
  have : p.val < 8 := p.isLt
  omega

abbrev barT (p : Dev nD) : CellTallies nD τ sig Unit := tallyAt (barCell p) () 1
abbrev rsT (c p : Dev nD) : CellTallies nD τ sig Unit := tallyAt (dmaCell p (rsRecv c)) () NB
abbrev agT (c p : Dev nD) : CellTallies nD τ sig Unit := tallyAt (dmaCell p (agRecv c)) () NB

/-- What a device owes before its `k`-th signal, its `k`-th block, its `k`-th copy of the finished rows. -/
def OA (c : Dev nD) (k : ℕ) : CellTallies nD τ sig Unit := owedFrom c (agT c) k
def OR (c : Dev nD) (k : ℕ) : CellTallies nD τ sig Unit := OA c 0 + owedFrom c (rsT c) k
def OB (c : Dev nD) (k : ℕ) : CellTallies nD τ sig Unit := OR c 0 + owedFrom c barT k

theorem lv_rs (c p : Dev nD) : lv (dmaCell c (rsRecv p)) () = 2 := by revert c p; decide
theorem lv_ag (c p : Dev nD) : lv (dmaCell c (agRecv p)) () = 3 := by revert c p; decide

theorem above_OA (c : Dev nD) (k : ℕ) : Above 2 (OA c k) := above_sum _ _ fun p _ => above_tally _ _ _ (by rw [lv_ag]; decide)
theorem Above.mono {n n' : ℕ} {O : CellTallies nD τ sig Unit} (h : Above n' O) (hn : n ≤ n') : Above n O :=
  fun g u hg => ⟨(h g u hg).1, lt_of_le_of_lt hn (h g u hg).2⟩
theorem above_OR (c : Dev nD) (k : ℕ) : Above 1 (OR c k) :=
  above_add ((above_OA c 0).mono (by decide)) (above_sum _ _ fun p _ => above_tally _ _ _ (by rw [lv_rs]; decide))
theorem above_OB (c : Dev nD) (k : ℕ) : Above 0 (OB c k) :=
  above_add ((above_OR c 0).mono (by decide)) (above_sum _ _ fun p _ => above_tally _ _ _ (by show 0 < 1; decide))

theorem OB_end (c : Dev nD) : OB c 8 = OR c 0 := by rw [OB, owedFrom_end, add_zero]
theorem OR_end (c : Dev nD) : OR c 8 = OA c 0 := by rw [OR, owedFrom_end, add_zero]
theorem OA_end (c : Dev nD) : OA c 8 = 0 := owedFrom_end c _
theorem OB_succ (c p : Dev nD) (h : p ≠ c) : OB c p.val = OB c (p.val + 1) + barT p := by rw [OB, OB, owedFrom_succ c p _ h, add_assoc]
theorem OR_succ (c p : Dev nD) (h : p ≠ c) : OR c p.val = OR c (p.val + 1) + rsT c p := by rw [OR, OR, owedFrom_succ c p _ h, add_assoc]
theorem OA_succ (c p : Dev nD) (h : p ≠ c) : OA c p.val = OA c (p.val + 1) + agT c p := owedFrom_succ c p _ h
theorem OB_self (c : Dev nD) : OB c c.val = OB c (c.val + 1) := by rw [OB, OB, owedFrom_self]
theorem OR_self (c : Dev nD) : OR c c.val = OR c (c.val + 1) := by rw [OR, OR, owedFrom_self]
theorem OA_self (c : Dev nD) : OA c c.val = OA c (c.val + 1) := owedFrom_self c _

end Cert.KernelIdeal.Run
-- ==== Proof.Steps.lean ====
/- The steps of the exchange: loads and stores of owned memrefs, and one lemma per kind of step that a device takes with a
   peer — signal, send, wait. -/
module

public import proofs.«01_k».proof.Proof.Schedule

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

abbrev 𝒱₀ : Variants := Variants.none

/-- A program of device `c` establishes `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- One step, then the rest. -/
theorem wp_step {c : Dev nD} {α β : Type} {P P' : sProp 𝕄} {p : Prog (TpuEff nD τ sig (Elt F) Λ₀ .tc) α} {Q : α → sProp 𝕄}
    {k : α → Prog (TpuEff nD τ sig (Elt F) Λ₀ .tc) β} {Φ : β → sProp 𝕄} {R : sProp 𝕄}
    (h : P ⊢ WP c p Q) (hP : P' ⊢ iprop(P ∗ R)) (hk : ∀ a, iprop(Q a ∗ R) ⊢ WP c (k a) Φ) : P' ⊢ WP c (p >>= k) Φ := by
  unfold WP
  rw [wp_bind]
  refine hP.trans ((sep_mono_left h).trans ((wp_frame_r _ _ _).trans (wp_mono _ _ _ hk)))

/-- One member of a family. -/
theorem bigSep_at {J : Type} [DecidableEq J] {s : Finset J} {i : J} (h : i ∈ s) {Φ : J → sProp 𝕄} : (bigSep s Φ : sProp 𝕄) ⊢ Φ i :=
  bigSep_elim h
theorem bigSep_ins {J : Type} [DecidableEq J] {s : Finset J} {i : J} (h : i ∉ s) {Φ : J → sProp 𝕄} :
    (bigSep (insert i s) Φ : sProp 𝕄) = iprop(Φ i ∗ bigSep s Φ) :=
  bigSep_insert h

/-! ## Loads and stores -/

section Mem

variable (c : Dev nD) {cs : CoreSpace} {s : Shape} {e : EltTy}

/-- A load of a slice owned at a share yields what it holds. -/
theorem load_slice (m : Memref sig .tc cs s e) (r : Rect s) (hr : ∀ a, r.stride a = 1) (q : PosShare TreeShare)
    (X : r.shape.Idx → Elt F e) (hl : m.view.LoadsAt r) :
    (ownsTc c (m.slice r hr) q X : sProp 𝕄)
      ⊢ WP c (Prog.lift (.load m r hl)) (fun v => iprop(⌜v = X⌝ ∗ ownsTc c (m.slice r hr) q X)) := by
  unfold ownsTc owns
  iintro ⟨%f, %hf, H⟩
  iapply (wp_load_rect 𝒱₀ (c : Thread nD τ) none Set.univ (m := m) (r := r) (hl := hl) (f := f) (q := q) (S := (m.slice r hr).view.set) subset_rfl) $$ [H]
  · iexact H
  iintro H
  rw [wp_ret]
  imodintro
  isplitr; · ipureintro; exact hf
  iexists f
  isplitr; · ipureintro; exact hf
  iexact H

/-- A store into a slice owned in full. -/
theorem store_slice (m : Memref sig .tc cs s e) (r : Rect s) (hr : ∀ a, r.stride a = 1)
    (X w : r.shape.Idx → Elt F e) (hx : (m.access r).Stores Finset.univ) (hm) :
    (ownsTc c (m.slice r hr) fullShare X : sProp 𝕄)
      ⊢ WP c (Prog.lift (.store m r w Finset.univ hx hm)) (fun _ => ownsTc c (m.slice r hr) fullShare w) := by
  unfold ownsTc owns
  iintro ⟨%f, %hf, H⟩
  iapply (wp_store 𝒱₀ (c : Thread nD τ) none Set.univ (m := m) (r := r) (w := w) (Mk := Finset.univ) (hx := hx) (hm := hm) (f := f) (S := (m.slice r hr).view.set)
    (Finset.map_subset_map.mpr (Finset.subset_univ _) |>.trans subset_rfl)) $$ [H]
  · iexact H
  iintro H
  rw [wp_ret]
  imodintro
  iexists _
  isplitr; · ipureintro; exact View.read_write_univ f w
  iexact H

/-- A load of a rectangle of an owned memref. -/
theorem load_part (m : Memref sig .tc cs s e) (r : Rect s) (q : PosShare TreeShare)
    (X : s.Idx → Elt F e) (hl : m.view.LoadsAt r) :
    (ownsTc c m q X : sProp 𝕄)
      ⊢ WP c (Prog.lift (.load m r hl)) (fun v => iprop(⌜v = fun j => X (r.emb j)⌝ ∗ ownsTc c m q X)) := by
  unfold ownsTc owns
  iintro ⟨%f, %hf, H⟩
  iapply (wp_load_rect 𝒱₀ (c : Thread nD τ) none Set.univ (m := m) (r := r) (hl := hl) (f := f) (q := q) (S := m.view.set)
    (View.set_slice_subset _ _)) $$ [H]
  · iexact H
  iintro H
  rw [wp_ret]
  imodintro
  isplitr; · ipureintro; subst hf; rfl
  iexists f
  isplitr; · ipureintro; exact hf
  iexact H

theorem emb_zero {s : Shape} {off : Fin s.rank → ℕ} (h : ∀ a, off a = 0) (inb) (j : s.Idx) : (Rect.unit (s := s) off s.size inb).emb j = j := by
  funext a; apply Fin.ext
  rw [Rect.emb_apply]
  show off a + 1 * _ = _
  rw [h, Nat.zero_add, Nat.one_mul]

/-- A load of all of an owned memref. -/
theorem load_all (m : Memref sig .tc cs s e) (off : Fin s.rank → ℕ) (h : ∀ a, off a = 0) (inb) (q : PosShare TreeShare)
    (X : s.Idx → Elt F e) (hl : m.view.LoadsAt (Rect.unit (s := s) off s.size inb)) :
    (ownsTc c m q X : sProp 𝕄)
      ⊢ WP c (Prog.lift (.load m (Rect.unit (s := s) off s.size inb).toLoadRect hl)) (fun v => iprop(⌜v = X⌝ ∗ ownsTc c m q X)) := by
  refine (load_part c m _ q X hl).trans (wp_mono _ _ _ fun v => sep_mono_left (BI.pure_mono fun hv => hv.trans ?_))
  funext j; exact congrArg X (emb_zero h inb j)

/-- A store over all of a memref owned in full. -/
theorem store_all (m : Memref sig .tc cs s e) (off : Fin s.rank → ℕ) (h : ∀ a, off a = 0) (inb)
    (X w : s.Idx → Elt F e) (hx) (hm) :
    (ownsTc c m fullShare X : sProp 𝕄)
      ⊢ WP c (Prog.lift (.store m (Rect.unit (s := s) off s.size inb) w Finset.univ hx hm)) (fun _ => ownsTc c m fullShare w) := by
  unfold ownsTc owns
  iintro ⟨%f, %hf, H⟩
  iapply (wp_store 𝒱₀ (c : Thread nD τ) none Set.univ (m := m) (r := Rect.unit (s := s) off s.size inb) (w := w) (Mk := Finset.univ) (hx := hx) (hm := hm) (f := f) (S := m.view.set)
    (View.set_slice_subset _ _)) $$ [H]
  · iexact H
  iintro H
  rw [wp_ret]
  imodintro
  iexists _
  isplitr
  · ipureintro
    funext j
    have := congrFun (View.read_write_univ (v := m.access (Rect.unit (s := s) off s.size inb)) f w) j
    rw [← this]
    show _ = m.view.read (Elt F) _ ((Rect.unit (s := s) off s.size inb).emb j)
    rw [emb_zero h inb j]
  iexact H

end Mem

/-- A store into rows of the output buffer. -/
theorem store_out (c : Dev nD) (r : Rect S512x1024) (X : Vec F S512x1024 .f32) (w : r.shape.Idx → Elt F .f32) (hx) (hm) :
    (ownsTc c oW fullShare X : sProp 𝕄)
      ⊢ WP c (Prog.lift (.store oW r w Finset.univ hx hm)) (fun _ => ownsTc c oW fullShare ((oW.access r).write (Elt F) X w Finset.univ)) := by
  unfold ownsTc owns
  iintro ⟨%f, %hf, H⟩
  iapply (wp_store 𝒱₀ (c : Thread nD τ) none Set.univ (m := oW) (r := r) (w := w) (Mk := Finset.univ) (hx := hx) (hm := hm) (f := f) (S := oW.view.set)
    (View.set_slice_subset _ _)) $$ [H]
  · iexact H
  iintro H
  rw [wp_ret]
  imodintro
  iexists (oW.access r).write (Elt F) f w Finset.univ
  isplitr
  · ipureintro; subst hf; rfl
  iexact H

/-! ## What every device may consult -/

variable (I : Dev nD → Inp F)

/-- All cells' invariants under one map of names. -/
def Inv (κ : GSem nD τ sig → ℕ) : sProp 𝕄 :=
  iprop((bigSep Finset.univ fun d : Dev nD => cellInv ER (Rd I) (κ (barCell d)) (barCell d))
    ∗ bigSep Finset.univ fun x : Dev nD × DmaSem sig => cellInv ER (Rd I) (κ (dmaCell x.1 x.2)) (dmaCell x.1 x.2))

instance Inv_persistent (κ : GSem nD τ sig → ℕ) : BI.Persistent (Inv I κ) := by unfold Inv; infer_instance

theorem inv_bar (κ : GSem nD τ sig → ℕ) (d : Dev nD) : Inv I κ ⊢ (cellInv ER (Rd I) (κ (barCell d)) (barCell d) : sProp 𝕄) := by
  unfold Inv; iintro ⟨H, -⟩; ihave H' := (bigSep_at (F := F) (Finset.mem_univ d)) $$ H; iexact H'
theorem inv_dma (κ : GSem nD τ sig → ℕ) (d : Dev nD) (n : DmaSem sig) :
    Inv I κ ⊢ (cellInv ER (Rd I) (κ (dmaCell d n)) (dmaCell d n) : sProp 𝕄) := by
  unfold Inv; iintro ⟨-, H⟩; ihave H' := (bigSep_at (F := F) (Finset.mem_univ (d, n))) $$ H; iexact H'

/-- The invariants, the levels, and that the barrier cells and the device's exchange cells are open. -/
def Ctx (κ : GSem nD τ sig → ℕ) (c : Dev nD) : sProp 𝕄 :=
  iprop(Inv I κ ∗ levAts L lv ∗ (bigSep Finset.univ fun d : Dev nD => reached ER (barCell d) 0)
    ∗ bigSep Finset.univ fun x : Fin 4 × Dev nD => reached ER (dmaCell c (exS x.1 x.2)) 0)

instance Ctx_persistent (κ : GSem nD τ sig → ℕ) (c : Dev nD) : BI.Persistent (Ctx I κ c) := by unfold Ctx; infer_instance

theorem ctx_bar (κ : GSem nD τ sig → ℕ) (c d : Dev nD) : Ctx I κ c ⊢ (cellInv ER (Rd I) (κ (barCell d)) (barCell d) : sProp 𝕄) := by
  unfold Ctx; iintro ⟨H, -⟩; iapply (inv_bar I κ d); iexact H
theorem ctx_dma (κ : GSem nD τ sig → ℕ) (c d : Dev nD) (n : DmaSem sig) :
    Ctx I κ c ⊢ (cellInv ER (Rd I) (κ (dmaCell d n)) (dmaCell d n) : sProp 𝕄) := by
  unfold Ctx; iintro ⟨H, -⟩; iapply (inv_dma I κ d n); iexact H
theorem ctx_lev (κ : GSem nD τ sig → ℕ) (c : Dev nD) : Ctx I κ c ⊢ (levAts L lv : sProp 𝕄) := by
  unfold Ctx; iintro ⟨-, H, -⟩; iexact H
theorem ctx_rbar (κ : GSem nD τ sig → ℕ) (c d : Dev nD) : Ctx I κ c ⊢ (reached ER (barCell d) 0 : sProp 𝕄) := by
  unfold Ctx; iintro ⟨-, -, H, -⟩; ihave H' := (bigSep_at (F := F) (Finset.mem_univ d)) $$ H; iexact H'
theorem ctx_rex (κ : GSem nD τ sig → ℕ) (c : Dev nD) (b : Fin 4) (p : Dev nD) : Ctx I κ c ⊢ (reached ER (dmaCell c (exS b p)) 0 : sProp 𝕄) := by
  unfold Ctx; iintro ⟨-, -, -, H⟩; ihave H' := (bigSep_at (F := F) (Finset.mem_univ ((b, p) : Fin 4 × Dev nD))) $$ H; iexact H'

/-- What device `c` owes. -/
def Ow (c : Dev nD) (O : CellTallies nD τ sig Unit) : sProp 𝕄 := iprop(∃ W, owes (c : Thread nD τ) O W)

/-! ## Walking the peers -/

/-- Before the turn of device `k`: the peers below it are served, the others are not. -/
def fam (c : Dev nD) (Pre Post : Dev nD → sProp 𝕄) (k : ℕ) : sProp 𝕄 :=
  bigSep (Finset.univ.erase c) fun p => if p.val < k then Post p else Pre p

theorem fam_zero (c : Dev nD) (Pre Post : Dev nD → sProp 𝕄) : (bigSep (Finset.univ.erase c) Pre) = fam c Pre Post 0 :=
  bigSep_congr fun p _ => (if_neg (Nat.not_lt_zero _)).symm
theorem fam_end (c : Dev nD) (Pre Post : Dev nD → sProp 𝕄) : fam c Pre Post 8 = bigSep (Finset.univ.erase c) Post :=
  bigSep_congr fun p _ => if_pos p.isLt
theorem fam_self (c : Dev nD) (Pre Post : Dev nD → sProp 𝕄) : fam c Pre Post c.val = fam c Pre Post (c.val + 1) :=
  bigSep_congr fun p hp => by
    have := Fin.val_ne_of_ne (Finset.ne_of_mem_erase hp)
    by_cases h : p.val < c.val
    · rw [if_pos h, if_pos (by omega)]
    · rw [if_neg h, if_neg (by omega)]
theorem fam_take (c p : Dev nD) (h : p ≠ c) (Pre Post : Dev nD → sProp 𝕄) :
    fam c Pre Post p.val ⊢ iprop(Pre p ∗ (Post p -∗ fam c Pre Post (p.val + 1))) := by
  unfold fam
  have hm : p ∈ Finset.univ.erase c := Finset.mem_erase.mpr ⟨h, Finset.mem_univ p⟩
  rw [← Finset.insert_erase hm, bigSep_ins (Finset.notMem_erase p _), bigSep_ins (Finset.notMem_erase p _), if_neg (Nat.lt_irrefl _),
    if_pos (Nat.lt_succ_self _)]
  have hr : (bigSep ((Finset.univ.erase c).erase p) fun q => if q.val < p.val then Post q else Pre q)
      = bigSep ((Finset.univ.erase c).erase p) fun q => if q.val < p.val + 1 then Post q else Pre q :=
    bigSep_congr fun q hq => by
      have := Fin.val_ne_of_ne (Finset.ne_of_mem_erase hq)
      by_cases h : q.val < p.val
      · rw [if_pos h, if_pos (by omega)]
      · rw [if_neg h, if_neg (by omega)]
  rw [hr]
  iintro ⟨H, H'⟩
  isplitl [H]; · iexact H
  iintro Hp
  isplitl [Hp]; · iexact Hp
  iexact H'

/-- One turn, where the step is made exactly when the device in turn is not the device itself. -/
theorem turn {c : Dev nD} {Γ : sProp 𝕄} [BI.Persistent Γ] {Pre Post : Dev nD → sProp 𝕄} {St : ℕ → sProp 𝕄} {R : sProp 𝕄} (p : Dev nD)
    {cond : Prop} [Decidable cond] (hc : cond ↔ p ≠ c) {α : Type} {A : cond → Prog (TpuEff nD τ sig (Elt F) Λ₀ .tc) α}
    {Φ : α → sProp 𝕄} {K : Prog (TpuEff nD τ sig (Elt F) Λ₀ .tc) α}
    (hself : St c.val ⊢ St (c.val + 1))
    (hA : ∀ h : cond, p ≠ c → iprop(((Post p ∗ St (p.val + 1)) -∗ WP c K Φ) ∗ Γ ∗ Pre p ∗ St p.val) ⊢ WP c (A h) Φ)
    (hK : iprop(Γ ∗ fam c Pre Post (p.val + 1) ∗ St (p.val + 1) ∗ R) ⊢ WP c K Φ) :
    iprop(Γ ∗ fam c Pre Post p.val ∗ St p.val ∗ R) ⊢ WP c (if h : cond then A h else K) Φ := by
  by_cases h : cond
  · rw [dif_pos h]
    refine (?_ : _ ⊢ iprop(((Post p ∗ St (p.val + 1)) -∗ WP c K Φ) ∗ Γ ∗ Pre p ∗ St p.val)).trans (hA h (hc.mp h))
    iintro ⟨#HΓ, Hf, HS, HR⟩
    ihave Hf' := (fam_take c p (hc.mp h) Pre Post) $$ Hf
    icases Hf' with ⟨Hp, Hf⟩
    isplitl [Hf HR]
    · iintro ⟨Hp, HS⟩
      iapply hK
      isplitr; · iexact HΓ
      isplitl [Hf Hp]; · iapply Hf; iexact Hp
      isplitl [HS]; · iexact HS
      iexact HR
    isplitr; · iexact HΓ
    isplitl [Hp]; · iexact Hp
    iexact HS
  · rw [dif_neg h]
    have e : p = c := not_not.mp fun h' => h (hc.mpr h')
    subst e
    refine (?_ : _ ⊢ iprop(Γ ∗ fam p Pre Post (p.val + 1) ∗ St (p.val + 1) ∗ R)).trans hK
    rw [fam_self]
    iintro ⟨#HΓ, Hf, HS, HR⟩
    isplitr; · iexact HΓ
    isplitl [Hf]; · iexact Hf
    isplitl [HS]; · iapply hself; iexact HS
    iexact HR

end Cert.KernelIdeal.Run
-- ==== Proof.Exchange.lean ====
/- One lemma per kind of step that a device takes with a peer: the barrier's signal, the sending of a block, the wait for a
   block and its addition, the sending of the finished rows, the wait for a peer's, and the two waits that end the sends. -/
module

public import proofs.«01_k».proof.Proof.Steps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F) (κ : GSem nD τ sig → ℕ) (c : Dev nD)

/-- `turn` where the branch does not read the condition. -/
theorem turn' {c : Dev nD} {Γ : sProp 𝕄} [BI.Persistent Γ] {Pre Post : Dev nD → sProp 𝕄} {St : ℕ → sProp 𝕄} {R : sProp 𝕄} (p : Dev nD)
    {cond : Prop} [Decidable cond] (hc : cond ↔ p ≠ c) {α : Type} {A : Prog (TpuEff nD τ sig (Elt F) Λ₀ .tc) α}
    {Φ : α → sProp 𝕄} {K : Prog (TpuEff nD τ sig (Elt F) Λ₀ .tc) α}
    (hself : St c.val ⊢ St (c.val + 1))
    (hA : p ≠ c → iprop(((Post p ∗ St (p.val + 1)) -∗ WP c K Φ) ∗ Γ ∗ Pre p ∗ St p.val) ⊢ WP c A Φ)
    (hK : iprop(Γ ∗ fam c Pre Post (p.val + 1) ∗ St (p.val + 1) ∗ R) ⊢ WP c K Φ) :
    iprop(Γ ∗ fam c Pre Post p.val ∗ St p.val ∗ R) ⊢ WP c (if cond then A else K) Φ :=
  turn p hc (A := fun _ => A) hself (fun _ => hA) hK

/-! ## The barrier -/

/-- Before device `c` signals `p`. -/
def Pre0 (p : Dev nD) : sProp 𝕄 := iprop(dutyTok ER (barCell p) 0 c ∗ ownsEx (F := F) c (slotM p) fullShare)
/-- After. -/
def Post0 (_ : Dev nD) : sProp 𝕄 := iprop(emp)

theorem signal_turn (p : Dev nD) {cond : Prop} [Decidable cond] (hc : cond ↔ p ≠ c) {dst : Dev nD} (hdev : dst = p)
    {α : Type} {Φ : α → sProp 𝕄} {K : Prog (TpuEff nD τ sig (Elt F) Λ₀ .tc) α} {R : sProp 𝕄}
    (hK : iprop(Ctx I κ c ∗ fam c (Pre0 c) Post0 (p.val + 1) ∗ Ow c (OB c (p.val + 1)) ∗ R) ⊢ WP c K Φ) :
    iprop(Ctx I κ c ∗ fam c (Pre0 c) Post0 p.val ∗ Ow c (OB c p.val) ∗ R)
      ⊢ WP c (if cond then (semSignalWord dst barS 1#32 >>= fun _ => K) else K) Φ := by
  refine turn' (St := fun k => Ow c (OB c k)) p hc (by rw [OB_self]) (fun hp => ?_) hK
  subst hdev
  unfold Pre0 Ow Post0 semSignalWord
  rw [Prog.bind_op]
  iintro ⟨Hk, #HΓ, ⟨Htok, Hs⟩, ⟨%W, HO⟩⟩
  iapply (Rounds.wp_signal 𝒱₀ ER (Rd I) (c : Thread nD τ) none (dst := (dst : Thread nD τ)) (sem := barS) (r := 0) (d := c) (κ := κ (barCell dst))
    (by rw [duties_bar]; exact Finset.mem_erase.mpr ⟨hp.symm, Finset.mem_univ _⟩) (amount_bar I dst c 0) () (OB c (dst.val + 1)) (OB_succ c dst hp)) $$ [HO Htok Hs]
  · isplitr; · iapply (ctx_bar I κ c dst); iexact HΓ
    isplitl [HO]; · iexact HO
    isplitl [Htok]; · iexact Htok
    isplitl [Hs]
    · rw [payload_bar]; unfold barPay
      isplitl [Hs]; · iexact Hs
      isplitr
      · iapply (ctx_rex I κ c 1 dst); iexact HΓ
      · iapply (ctx_rex I κ c 3 dst); iexact HΓ
    · iapply (ctx_rbar I κ c dst); iexact HΓ
  iintro HO
  rw [Prog.bind_ret]
  iapply Hk
  isplitr; · iempintro
  iexists W; iexact HO

/-- The wait on the barrier, for all seven peers. -/
theorem barrier_wait :
    iprop(Ctx I κ c ∗ cred (tallyAt (barCell c) () 7) ∗ atPos ER (barCell c) 0 ∅ 0 ∗ Ow c (OB c 8))
      ⊢ WP c (semWaitWord barS 7#32) (fun _ => iprop((bigSep (Finset.univ.erase c) fun d => barPay (F := F) c d)
          ∗ atPos ER (barCell c) 1 ∅ 0 ∗ Ow c (OR c 0))) := by
  rw [OB_end]
  unfold Ow semWaitWord
  iintro ⟨#HΓ, Hc, Hat, ⟨%W, HO⟩⟩
  iapply (Rounds.wp_wait_rest_token 𝒱₀ ER (Rd I) (c : Thread nD τ) none (κ := κ (barCell c))
      (wpE_semWait_eq 𝒱₀ (c : Thread nD τ) none Set.univ) (Set.mem_univ _) () (O := OR c 0) (W := W) (R := 0) (m := 0) (T := ∅)
      ((Nat.zero_add 7).trans (expect_bar I c).symm)) $$ [Hc HO Hat]
  · isplitr; · iapply (ctx_bar I κ c c); iexact HΓ
    isplitl [Hc]; · iexact Hc
    isplitl [HO]; · iexact HO
    isplitr
    · iapply (mayWait c (.reg barS) (OR c 0) (above_OR c 0)); iapply (ctx_lev I κ c); iexact HΓ
    iexact Hat
  iintro ⟨HO, Hat, -, Hpay⟩
  rw [wp_ret]
  imodintro
  isplitl [Hpay]; · iapply (Entails.of_eq (rest_bar I c)); iexact Hpay
  isplitl [Hat]; · iexact Hat
  iexists _; iexact HO

/-! ## The wait on an exchange cell -/

theorem ex_wait (b : Fin 4) (p : Dev nD) (hp : p ≠ c) (O : CellTallies nD τ sig Unit) (hO : Above (lv (dmaCell c (exS b p)) ()) O ∨ O = 0) {sem : DmaSem sig}
    (hs : sem = exS b p) {src dst : Memref sig .tc .vmem S64x1024 .bf16} (hd : dst.view.dmaCredit = NB) {h1 h2} :
    iprop(Ctx I κ c ∗ (cred (tallyAt (dmaCell c (exS b p)) () NB) ∗ atPos ER (dmaCell c (exS b p)) 0 ∅ 0) ∗ Ow c O)
      ⊢ WP c (Prog.lift (.waitDma2 sem src dst h1 h2)) (fun _ => iprop((Rd I).payload (dmaCell c (exS b p)) 0 0
          ∗ atPos ER (dmaCell c (exS b p)) 1 ∅ 0 ∗ Ow c O)) := by
  subst hs
  unfold Ow
  iintro ⟨#HΓ, ⟨Hc, Hat⟩, ⟨%W, HO⟩⟩
  iapply (Rounds.wp_wait_rest_token 𝒱₀ ER (Rd I) (c : Thread nD τ) none (κ := κ (dmaCell c (exS b p)))
      (wpE_waitDma2_eq (src := src) (dst := dst) 𝒱₀ (c : Thread nD τ) none Set.univ) (Set.mem_univ _) () (O := O) (W := W) (R := 0) (m := 0) (T := ∅)
      ((Nat.zero_add _).trans (hd.trans (expect_ex I c b p hp).symm))) $$ [Hc HO Hat]
  · isplitr; · iapply (ctx_dma I κ c c _); iexact HΓ
    isplitl [Hc]; · rw [hd]; iexact Hc
    isplitl [HO]; · iexact HO
    isplitr
    · rcases hO with hO | hO
      · iapply (mayWait c (.dma (exS b p)) O hO); iapply (ctx_lev I κ c); iexact HΓ
      · subst hO; rw [MayWait_zero]; iempintro
    iexact Hat
  iintro ⟨HO, Hat, -, Hpay⟩
  rw [wp_ret]
  imodintro
  isplitl [Hpay]; · iapply (Entails.of_eq (rest_ex I c b p hp _ rfl)); iexact Hpay
  isplitl [Hat]; · iexact Hat
  iexists _; iexact HO

/-! ## The blocks -/

/-- Before device `c` sends `p` its block: `p`'s slot, the block, the two duties. -/
def Pre1 (p : Dev nD) : sProp 𝕄 :=
  iprop(ownsEx (F := F) p (slotM c) fullShare ∗ reached ER (dmaCell p (rsRecv c)) 0 ∗ ownsTc c (stM p) fullShare (rowsOf (stage0 I c) p)
    ∗ dutyTok ER (dmaCell c (rsSend p)) 0 0 ∗ dutyTok ER (dmaCell p (rsRecv c)) 0 0)
def Post1 (p : Dev nD) : sProp 𝕄 := cred (tallyAt (dmaCell c (rsSend p)) () NB)

/-- The copy that device `c` starts to `p`. -/
def rsSendOp (p : Dev nD) (A : Prog (TpuEff nD τ sig (Elt F) Λ₀ .tc) PUnit) : Prop :=
  ∃ hsc h1 h2 h3, A = Prog.lift (.enqueueDma (stM p) (.remote (Dev.tc p) (slotM c) (.dma (rsSend p)) hsc) (.dma (rsRecv c)) h1 h2 h3)

theorem rsSendOp_intro (p : Dev nD) {dst : Dev nD} (hdev : dst = p) {src dm : Memref sig .tc .vmem S64x1024 .bf16} (hsrc : src = stM p) (hdm : dm = slotM c)
    {sS sR : DmaSem sig} (hsS : sS = rsSend p) (hsR : sR = rsRecv c) {hsc h1 h2 h3} :
    rsSendOp (F := F) c p (Prog.lift (.enqueueDma src (.remote (Dev.tc dst) dm (.dma sS) hsc) (.dma sR) h1 h2 h3)) := by
  subst hdev hsrc hdm hsS hsR
  exact ⟨hsc, h1, h2, h3, rfl⟩

theorem rsSend_turn (p : Dev nD) {cond : Prop} [Decidable cond] (hc : cond ↔ p ≠ c) {A : cond → Prog (TpuEff nD τ sig (Elt F) Λ₀ .tc) PUnit}
    (hA : ∀ h, rsSendOp c p (A h))
    {α : Type} {Φ : α → sProp 𝕄} {K : Prog (TpuEff nD τ sig (Elt F) Λ₀ .tc) α} {R : sProp 𝕄}
    (hK : iprop(Ctx I κ c ∗ fam c (Pre1 I c) (Post1 c) (p.val + 1) ∗ Ow c (OR c (p.val + 1)) ∗ R) ⊢ WP c K Φ) :
    iprop(Ctx I κ c ∗ fam c (Pre1 I c) (Post1 c) p.val ∗ Ow c (OR c p.val) ∗ R)
      ⊢ WP c (if h : cond then (A h >>= fun _ => K) else K) Φ := by
  refine turn (St := fun k => Ow c (OR c k)) p hc (by rw [OR_self]) (fun h hp => ?_) hK
  obtain ⟨hsc, h1, h2, h3, e⟩ := hA h
  rw [e]
  unfold Pre1 Ow Post1 ownsEx ownsTc owns
  rw [Prog.bind_lift]
  iintro ⟨Hk, #HΓ, ⟨⟨%X, ⟨%fd, %hfd, Hd⟩⟩, #Hr, ⟨%fs, %hfs, Hs⟩, Ht1, Ht2⟩, ⟨%W, HO⟩⟩
  iapply (Rounds.wp_send_landing_pointsTo 𝒱₀ ER (Rd I) (c : Thread nD τ) none (c' := (p : Thread nD τ)) (src := stM p) (dst := slotM c)
      (sS := .dma (rsSend p)) (sem := .dma (rsRecv c)) (q := fullShare) (fs := fs) (κ₁ := κ (dmaCell c (rsSend p))) (κ₂ := κ (dmaCell p (rsRecv c)))
      (r₁ := 0) (r₂ := 0) (d₁ := 0) (d₂ := 0) (fd := fd)
      (by rw [duties_ex I c 0 p hp]; exact Finset.mem_singleton_self _) (by rw [duties_ex I p 1 c hp.symm]; exact Finset.mem_singleton_self _)
      () () NB (amount_slot c _) (amount_ex I c 0 p 0 0) (amount_ex I p 1 c 0 0) (OR c (p.val + 1)) (OR_succ c p hp) (W := W)
      (by rw [payload_rsSend])
      (by
        rw [payload_rsRecv]
        unfold rsPay ownsEx ownsTc owns
        iintro ⟨H1, H2⟩
        isplitl [H1]
        · iexists ((slotM c).view.write (Elt F) fd ((stM p).view.read (Elt F) fs) Finset.univ)
          isplitr; · ipureintro; exact (View.read_write_univ _ _).trans hfs
          iexact H1
        iexists _; iexists fs
        isplitr; · ipureintro; rfl
        iexact H2)) $$ [Hs Hd HO Ht1 Ht2]
  · isplitr; · iapply (ctx_dma I κ c c _); iexact HΓ
    isplitr; · iapply (ctx_dma I κ c p _); iexact HΓ
    isplitl [Hs]; · iexact Hs
    isplitl [Hd]; · iexact Hd
    isplitl [HO]; · iexact HO
    isplitl [Ht1]; · iexact Ht1
    isplitr; · iapply (ctx_rex I κ c 0 p); iexact HΓ
    isplitl [Ht2]; · iexact Ht2
    iexact Hr
  iintro ⟨Hc, HO⟩
  iapply Hk
  isplitl [Hc]; · iexact Hc
  iexists W; iexact HO

/-- Before device `c` waits for the block of `s`. -/
def Pre2 (s : Dev nD) : sProp 𝕄 := iprop(cred (tallyAt (dmaCell c (rsRecv s)) () NB) ∗ atPos ER (dmaCell c (rsRecv s)) 0 ∅ 0)
/-- After: the slot, and `s`'s rows that `c` will fill. -/
def Post2 (s : Dev nD) : sProp 𝕄 :=
  iprop(atPos ER (dmaCell c (rsRecv s)) 1 ∅ 0 ∗ ownsEx (F := F) c (slotM s) fullShare ∗ ownsEx (F := F) s (stM c) fullShare)
/-- What runs along: the debt, and the sum so far in the output buffer's rows. -/
def St2 (k : ℕ) : sProp 𝕄 := iprop(Ow c (OA c 0) ∗ ownsTc c oW fullShare (outF I c k))

/-- The wait for the block of `s` and its addition to the rows of `c`. -/
theorem rsRecv_step (s : Dev nD) (hp : s ≠ c) {sem : DmaSem sig} (hs : sem = rsRecv s)
    {src dst : Memref sig .tc .vmem S64x1024 .bf16} (hd : dst.view.dmaCredit = NB) {off : Fin 2 → ℕ} (hoff : off = ![64 * c.val, 0]) {off3 : Fin 3 → ℕ} (hoff3 : off3 = ![s.val, 0, 0])
    {inb : ∀ a, off a + S64x1024.size a ≤ S512x1024.size a} {inb3 : ∀ a, off3 a + S1x64x1024.size a ≤ S8x64x1024.size a}
    {pay : Vec F S64x1024 .f32 → Vec F S1x64x1024 .bf16 → Vec F S64x1024 .f32} (hpay : pay = k0_pay5) {h1 h2 hl hl3 hl' hx hm}
    {α : Type} {Φ : α → sProp 𝕄} {K : Prog (TpuEff nD τ sig (Elt F) Λ₀ .tc) α} :
    iprop(((Post2 (F := F) c s ∗ St2 I c (s.val + 1)) -∗ WP c K Φ) ∗ Ctx I κ c ∗ Pre2 c s ∗ St2 I c s.val)
      ⊢ WP c (Prog.lift (.waitDma2 sem src dst h1 h2) >>= fun _ =>
          Prog.lift (.load oW (Rect.unit (s := S512x1024) off S64x1024.size inb).toLoadRect hl) >>= fun v254 =>
          Prog.lift (.load rvW (Rect.unit (s := S8x64x1024) off3 S1x64x1024.size inb3).toLoadRect hl3) >>= fun v256 =>
          Prog.lift (.load oW (Rect.unit (s := S512x1024) off S64x1024.size inb).toLoadRect hl') >>= fun _ =>
          Prog.lift (.store oW (Rect.unit (s := S512x1024) off S64x1024.size inb) (pay v254 v256) Finset.univ hx hm) >>= fun _ => K) Φ := by
  subst hoff hoff3 hpay
  unfold Pre2 Post2 St2
  refine wp_step (ex_wait I κ c 1 s hp (OA c 0) (.inl (by rw [lv_rs]; exact above_OA c 0)) hs hd) (R := iprop(ownsTc c oW fullShare (outF I c s.val)
    ∗ ((((atPos ER (dmaCell c (rsRecv s)) 1 ∅ 0 ∗ ownsEx (F := F) c (slotM s) fullShare ∗ ownsEx (F := F) s (stM c) fullShare)
      ∗ (Ow c (OA c 0) ∗ ownsTc c oW fullShare (outF I c (s.val + 1)))) -∗ WP c K Φ)))) ?_ fun _ => ?_
  · iintro ⟨Hk, #HΓ, Hp, HO, Ho⟩
    isplitl [Hp HO]
    · isplitr; · iexact HΓ
      isplitl [Hp]; · iexact Hp
      iexact HO
    isplitl [Ho]; · iexact Ho
    iexact Hk
  rw [payload_rsRecv]
  unfold rsPay
  refine wp_step (load_part c oW (rowR c) fullShare (outF I c s.val) hl) (R := iprop((ownsTc c (slotM s) fullShare (rowsOf (stage0 I s) c) ∗ ownsEx (F := F) s (stM c) fullShare)
    ∗ (atPos ER (dmaCell c (exS 1 s)) 1 ∅ 0 ∗ Ow c (OA c 0)) ∗ ((((atPos ER (dmaCell c (rsRecv s)) 1 ∅ 0 ∗ ownsEx (F := F) c (slotM s) fullShare ∗ ownsEx (F := F) s (stM c) fullShare)
      ∗ (Ow c (OA c 0) ∗ ownsTc c oW fullShare (outF I c (s.val + 1)))) -∗ WP c K Φ)))) ?_ fun v254 => ?_
  · iintro ⟨⟨Hpay, Hat, HO⟩, Ho, Hk⟩
    isplitl [Ho]; · iexact Ho
    isplitl [Hpay]; · iexact Hpay
    isplitl [Hat HO]
    · isplitl [Hat]; · iexact Hat
      iexact HO
    iexact Hk
  rw [slotM_eq]
  refine wp_step (load_slice c rvW (slotR s) (fun _ => rfl) fullShare (shapeCast S1x64x1024 (rowsOf (stage0 I s) c) casts_1) hl3) (R := iprop((⌜v254 = fun j => outF I c s.val ((rowR c).emb j)⌝ ∗ ownsTc c oW fullShare (outF I c s.val)) ∗ ownsEx (F := F) s (stM c) fullShare
    ∗ (atPos ER (dmaCell c (exS 1 s)) 1 ∅ 0 ∗ Ow c (OA c 0)) ∗ ((((atPos ER (dmaCell c (rsRecv s)) 1 ∅ 0 ∗ ownsEx (F := F) c (slotM s) fullShare ∗ ownsEx (F := F) s (stM c) fullShare)
      ∗ (Ow c (OA c 0) ∗ ownsTc c oW fullShare (outF I c (s.val + 1)))) -∗ WP c K Φ)))) ?_ fun v256 => ?_
  · iintro ⟨Ho, ⟨Hsl, Hst⟩, Hat, Hk⟩
    isplitl [Hsl]; · iexact Hsl
    isplitl [Ho]; · iexact Ho
    isplitl [Hst]; · iexact Hst
    isplitl [Hat]; · iexact Hat
    iexact Hk
  refine wp_step (load_part c oW (rowR c) fullShare (outF I c s.val) hl') (R := iprop(⌜v254 = fun j => outF I c s.val ((rowR c).emb j)⌝ ∗ (⌜v256 = shapeCast S1x64x1024 (rowsOf (stage0 I s) c) casts_1⌝ ∗ ownsTc c (slotA s) fullShare (shapeCast S1x64x1024 (rowsOf (stage0 I s) c) casts_1)) ∗ ownsEx (F := F) s (stM c) fullShare
    ∗ (atPos ER (dmaCell c (exS 1 s)) 1 ∅ 0 ∗ Ow c (OA c 0)) ∗ ((((atPos ER (dmaCell c (rsRecv s)) 1 ∅ 0 ∗ ownsEx (F := F) c (slotM s) fullShare ∗ ownsEx (F := F) s (stM c) fullShare)
      ∗ (Ow c (OA c 0) ∗ ownsTc c oW fullShare (outF I c (s.val + 1)))) -∗ WP c K Φ)))) ?_ fun _ => ?_
  · iintro ⟨Hsl, ⟨Hv, Ho⟩, Hr⟩
    isplitl [Ho]; · iexact Ho
    isplitl [Hv]; · iexact Hv
    isplitl [Hsl]; · iexact Hsl
    iexact Hr
  iintro ⟨⟨-, Ho⟩, %hv, ⟨%hv', Hsl⟩, Hst, ⟨Hat, HO⟩, Hk⟩
  subst hv hv'
  have hw : (oW.access (rowR c)).write (Elt F) (outF I c s.val) (k0_pay5 (fun j => outF I c s.val ((rowR c).emb j)) (shapeCast S1x64x1024 (rowsOf (stage0 I s) c) casts_1)) Finset.univ
      = outF I c (s.val + 1) := by
    rw [outF_succ I c s hp, ← outF_rows I c s.val]; rfl
  unfold WP
  rw [wp_bind]
  iapply (wp_wand _ _ _) $$ [Ho]
  · iapply (store_out c (rowR c) (outF I c s.val) _ hx hm); iexact Ho
  iintro %_ Ho
  iapply Hk
  isplitl [Hat Hsl Hst]
  · isplitl [Hat]; · iexact Hat
    isplitl [Hsl]
    · iexists _; iapply (Entails.of_eq (slotM_eq c s fullShare _).symm); iexact Hsl
    iexact Hst
  isplitl [HO]; · iexact HO
  rw [← hw]; iexact Ho

theorem rsRecv_turn (s : Dev nD) {cond : Prop} [Decidable cond] (hc : cond ↔ s ≠ c)
    {α : Type} {Φ : α → sProp 𝕄} {A : cond → Prog (TpuEff nD τ sig (Elt F) Λ₀ .tc) α} {K : Prog (TpuEff nD τ sig (Elt F) Λ₀ .tc) α} {R : sProp 𝕄}
    (hA : ∀ h : cond, s ≠ c → iprop(((Post2 (F := F) c s ∗ St2 I c (s.val + 1)) -∗ WP c K Φ) ∗ Ctx I κ c ∗ Pre2 c s ∗ St2 I c s.val) ⊢ WP c (A h) Φ)
    (hK : iprop(Ctx I κ c ∗ fam c (Pre2 c) (Post2 c) (s.val + 1) ∗ St2 I c (s.val + 1) ∗ R) ⊢ WP c K Φ) :
    iprop(Ctx I κ c ∗ fam c (Pre2 c) (Post2 c) s.val ∗ St2 I c s.val ∗ R) ⊢ WP c (if h : cond then A h else K) Φ :=
  turn (St := St2 I c) s hc (by unfold St2; rw [outF_self]) hA hK

/-! ## The finished rows -/

/-- Before device `c` sends `p` its finished rows: the rows at the share lent for it, `p`'s rows to fill, the two duties. -/
def Pre3 (p : Dev nD) : sProp 𝕄 :=
  iprop(ownsTc c (stM c) (lf p) (red I c) ∗ ownsEx (F := F) p (stM c) fullShare ∗ reached ER (dmaCell p (agRecv c)) 0
    ∗ dutyTok ER (dmaCell c (agSend p)) 0 0 ∗ dutyTok ER (dmaCell p (agRecv c)) 0 0)
def Post3 (p : Dev nD) : sProp 𝕄 := cred (tallyAt (dmaCell c (agSend p)) () NB)

/-- The copy that device `c` starts to `p`. -/
def agSendOp (p : Dev nD) (A : Prog (TpuEff nD τ sig (Elt F) Λ₀ .tc) PUnit) : Prop :=
  ∃ hsc h1 h2 h3, A = Prog.lift (.enqueueDma (stM c) (.remote (Dev.tc p) (stM c) (.dma (agSend p)) hsc) (.dma (agRecv c)) h1 h2 h3)

theorem agSendOp_intro (p : Dev nD) {dst : Dev nD} (hdev : dst = p) {src dm : Memref sig .tc .vmem S64x1024 .bf16} (hsrc : src = stM c) (hdm : dm = stM c)
    {sS sR : DmaSem sig} (hsS : sS = agSend p) (hsR : sR = agRecv c) {hsc h1 h2 h3} :
    agSendOp (F := F) c p (Prog.lift (.enqueueDma src (.remote (Dev.tc dst) dm (.dma sS) hsc) (.dma sR) h1 h2 h3)) := by
  subst hdev hsrc hdm hsS hsR
  exact ⟨hsc, h1, h2, h3, rfl⟩

theorem agSend_turn (p : Dev nD) {cond : Prop} [Decidable cond] (hc : cond ↔ p ≠ c) {A : cond → Prog (TpuEff nD τ sig (Elt F) Λ₀ .tc) PUnit}
    (hA : ∀ h, agSendOp c p (A h))
    {α : Type} {Φ : α → sProp 𝕄} {K : Prog (TpuEff nD τ sig (Elt F) Λ₀ .tc) α} {R : sProp 𝕄}
    (hK : iprop(Ctx I κ c ∗ fam c (Pre3 I c) (Post3 c) (p.val + 1) ∗ Ow c (OA c (p.val + 1)) ∗ R) ⊢ WP c K Φ) :
    iprop(Ctx I κ c ∗ fam c (Pre3 I c) (Post3 c) p.val ∗ Ow c (OA c p.val) ∗ R)
      ⊢ WP c (if h : cond then (A h >>= fun _ => K) else K) Φ := by
  refine turn (St := fun k => Ow c (OA c k)) p hc (by rw [OA_self]) (fun h hp => ?_) hK
  obtain ⟨hsc, h1, h2, h3, e⟩ := hA h
  rw [e]
  unfold Pre3 Ow Post3 ownsEx ownsTc owns
  rw [Prog.bind_lift]
  iintro ⟨Hk, #HΓ, ⟨⟨%fs, %hfs, Hs⟩, ⟨%X, ⟨%fd, %hfd, Hd⟩⟩, #Hr, Ht1, Ht2⟩, ⟨%W, HO⟩⟩
  iapply (Rounds.wp_send_pointsTo 𝒱₀ ER (Rd I) (c : Thread nD τ) none (c' := (p : Thread nD τ)) (src := stM c) (dst := stM c)
      (sS := .dma (agSend p)) (sem := .dma (agRecv c)) (q := lf p) (fs := fs) (κ₁ := κ (dmaCell c (agSend p))) (κ₂ := κ (dmaCell p (agRecv c)))
      (r₁ := 0) (r₂ := 0) (d₁ := 0) (d₂ := 0) (fd := fd)
      (by rw [duties_ex I c 2 p hp]; exact Finset.mem_singleton_self _) (by rw [duties_ex I p 3 c hp.symm]; exact Finset.mem_singleton_self _)
      () () NB (amount_st c _) (amount_ex I c 2 p 0 0) (amount_ex I p 3 c 0 0) (OA c (p.val + 1)) (OA_succ c p hp) (W := W)
      (by
        rw [payload_agSend]
        unfold agSendPay ownsTc owns
        iintro H1
        iexists fs
        isplitr; · ipureintro; exact hfs
        iexact H1)
      (by
        rw [payload_agRecv]
        unfold agRecvPay ownsTc owns
        iintro H1
        iexists ((stM c).view.write (Elt F) fd ((stM c).view.read (Elt F) fs) Finset.univ)
        isplitr; · ipureintro; exact (View.read_write_univ _ _).trans hfs
        iexact H1)) $$ [Hs Hd HO Ht1 Ht2]
  · isplitr; · iapply (ctx_dma I κ c c _); iexact HΓ
    isplitr; · iapply (ctx_dma I κ c p _); iexact HΓ
    isplitl [Hs]; · iexact Hs
    isplitl [Hd]; · iexact Hd
    isplitl [HO]; · iexact HO
    isplitl [Ht1]; · iexact Ht1
    isplitr; · iapply (ctx_rex I κ c 2 p); iexact HΓ
    isplitl [Ht2]; · iexact Ht2
    iexact Hr
  iintro ⟨Hc, HO⟩
  iapply Hk
  isplitl [Hc]; · iexact Hc
  iexists W; iexact HO

/-- Before device `c` waits for the finished rows of `s`. -/
def Pre4 (s : Dev nD) : sProp 𝕄 := iprop(cred (tallyAt (dmaCell c (agRecv s)) () NB) ∗ atPos ER (dmaCell c (agRecv s)) 0 ∅ 0)
def Post4 (s : Dev nD) : sProp 𝕄 := iprop(agRecvPay I c s ∗ atPos ER (dmaCell c (agRecv s)) 1 ∅ 0)

theorem agRecv_turn (s : Dev nD) {cond : Prop} [Decidable cond] (hc : cond ↔ s ≠ c) {sem : DmaSem sig} (hs : sem = agRecv s)
    {src dst : Memref sig .tc .vmem S64x1024 .bf16} (hd : dst.view.dmaCredit = NB) {h1 h2}
    {α : Type} {Φ : α → sProp 𝕄} {K : Prog (TpuEff nD τ sig (Elt F) Λ₀ .tc) α} {R : sProp 𝕄}
    (hK : iprop(Ctx I κ c ∗ fam c (Pre4 c) (Post4 I c) (s.val + 1) ∗ Ow c 0 ∗ R) ⊢ WP c K Φ) :
    iprop(Ctx I κ c ∗ fam c (Pre4 c) (Post4 I c) s.val ∗ Ow c 0 ∗ R)
      ⊢ WP c (if cond then (Prog.lift (.waitDma2 sem src dst h1 h2) >>= fun _ => K) else K) Φ := by
  refine turn' (St := fun _ => Ow c 0) s hc (BI.Entails.refl _) (fun hp => ?_) hK
  unfold Pre4 Post4
  refine wp_step (ex_wait I κ c 3 s hp 0 (.inr rfl) hs hd) (R := iprop((((agRecvPay I c s ∗ atPos ER (dmaCell c (agRecv s)) 1 ∅ 0) ∗ Ow c 0) -∗ WP c K Φ))) ?_ fun _ => ?_
  · iintro ⟨Hk, #HΓ, Hp, HO⟩
    isplitl [Hp HO]
    · isplitr; · iexact HΓ
      isplitl [Hp]; · iexact Hp
      iexact HO
    iexact Hk
  rw [payload_agRecv]
  iintro ⟨⟨Hpay, Hat, HO⟩, Hk⟩
  iapply Hk
  isplitr [HO]
  · isplitl [Hpay]; · iexact Hpay
    iexact Hat
  iexact HO

/-! ## The ends of the sends -/

/-- Before device `c` waits for its two sends to `p` to end. -/
def Pre5 (p : Dev nD) : sProp 𝕄 :=
  iprop((cred (tallyAt (dmaCell c (rsSend p)) () NB) ∗ atPos ER (dmaCell c (rsSend p)) 0 ∅ 0)
    ∗ (cred (tallyAt (dmaCell c (agSend p)) () NB) ∗ atPos ER (dmaCell c (agSend p)) 0 ∅ 0))
def Post5 (p : Dev nD) : sProp 𝕄 :=
  iprop(atPos ER (dmaCell c (rsSend p)) 1 ∅ 0 ∗ atPos ER (dmaCell c (agSend p)) 1 ∅ 0 ∗ agSendPay I c p)

theorem drain_turn (p : Dev nD) {cond : Prop} [Decidable cond] (hc : cond ↔ p ≠ c) {sem sem' : DmaSem sig} (hs : sem = rsSend p) (hs' : sem' = agSend p)
    {src dst src' dst' : Memref sig .tc .vmem S64x1024 .bf16} (hd : dst.view.dmaCredit = NB) (hd' : dst'.view.dmaCredit = NB) {h1 h2 h3 h4}
    {α : Type} {Φ : α → sProp 𝕄} {K : Prog (TpuEff nD τ sig (Elt F) Λ₀ .tc) α} {R : sProp 𝕄}
    (hK : iprop(Ctx I κ c ∗ fam c (Pre5 c) (Post5 I c) (p.val + 1) ∗ Ow c 0 ∗ R) ⊢ WP c K Φ) :
    iprop(Ctx I κ c ∗ fam c (Pre5 c) (Post5 I c) p.val ∗ Ow c 0 ∗ R)
      ⊢ WP c (if cond then (Prog.lift (.waitDma2 sem src dst h1 h2) >>= fun _ => Prog.lift (.waitDma2 sem' src' dst' h3 h4) >>= fun _ => K) else K) Φ := by
  refine turn' (St := fun _ => Ow c 0) p hc (BI.Entails.refl _) (fun hp => ?_) hK
  unfold Pre5 Post5
  refine wp_step (ex_wait I κ c 0 p hp 0 (.inr rfl) hs hd) (R := iprop(Ctx I κ c ∗ (cred (tallyAt (dmaCell c (agSend p)) () NB) ∗ atPos ER (dmaCell c (agSend p)) 0 ∅ 0)
      ∗ (((atPos ER (dmaCell c (rsSend p)) 1 ∅ 0 ∗ atPos ER (dmaCell c (agSend p)) 1 ∅ 0 ∗ agSendPay I c p) ∗ Ow c 0) -∗ WP c K Φ))) ?_ fun _ => ?_
  · iintro ⟨Hk, #HΓ, ⟨Hp, Hp'⟩, HO⟩
    isplitl [Hp HO]
    · isplitr; · iexact HΓ
      isplitl [Hp]; · iexact Hp
      iexact HO
    isplitr; · iexact HΓ
    isplitl [Hp']; · iexact Hp'
    iexact Hk
  refine wp_step (ex_wait I κ c 2 p hp 0 (.inr rfl) hs' hd') (R := iprop(atPos ER (dmaCell c (rsSend p)) 1 ∅ 0
      ∗ (((atPos ER (dmaCell c (rsSend p)) 1 ∅ 0 ∗ atPos ER (dmaCell c (agSend p)) 1 ∅ 0 ∗ agSendPay I c p) ∗ Ow c 0) -∗ WP c K Φ))) ?_ fun _ => ?_
  · iintro ⟨⟨-, Hat, HO⟩, #HΓ, Hp, Hk⟩
    isplitl [Hp HO]
    · isplitr; · iexact HΓ
      isplitl [Hp]; · iexact Hp
      iexact HO
    isplitl [Hat]; · iexact Hat
    iexact Hk
  rw [payload_agSend]
  iintro ⟨⟨Hpay, Hat', HO⟩, Hat, Hk⟩
  iapply Hk
  isplitr [HO]
  · isplitl [Hat]; · iexact Hat
    isplitl [Hat']; · iexact Hat'
    iexact Hpay
  iexact HO

end Cert.KernelIdeal.Run
-- ==== Proof.Last.lean ====
/- The parts of the body that only the last grid point runs, each as the step it takes from one state to the next. -/
module

public import proofs.«01_k».proof.Proof.Exchange

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F) (κ : GSem nD τ sig → ℕ) (c : Dev nD)
variable (i : grid0.Coords) (w : Memref sig .tc .vmem S1024x128 .f32) (hw : w.IsWhole) (h4 : k0_cond4 i = 1#1)

/-- Device number `p`. -/
abbrev dv (p : ℕ) (h : p < nD := by decide) : Dev nD := ⟨p, h⟩

/-- The scratch that holds the attention's output. -/
abbrev oS : Memref sig .tc .vmem S512x1024 .bf16 := Memref.whole cc0_scratch1
/-- The block of the output projection. -/
abbrev woB : Memref sig .tc .vmem S1024x1024 .f32 := Memref.whole cc0_stg2_0

theorem zero2 : ∀ a, (![0, 0] : Fin 2 → ℕ) a = 0 := by decide

/-! ## Families over the peers -/

theorem bigSep_self (P : Dev nD → sProp 𝕄) : bigSep Finset.univ P = iprop(P c ∗ bigSep (Finset.univ.erase c) P) := by
  conv_lhs => rw [← Finset.insert_erase (Finset.mem_univ c)]
  exact bigSep_ins (Finset.notMem_erase c _)

theorem bigSep_zip {ι : Type} {S : Finset ι} {P Q R : ι → sProp 𝕄} (h : ∀ i ∈ S, iprop(P i ∗ Q i) ⊢ R i) :
    iprop(bigSep S P ∗ bigSep S Q) ⊢ bigSep S R := by
  refine (Entails.of_eq (bigSep_sep' S P Q).symm).trans ?_
  exact bigSep_mono h

theorem bigSep_unzip {ι : Type} {S : Finset ι} {P Q R : ι → sProp 𝕄} (h : ∀ i ∈ S, R i ⊢ iprop(P i ∗ Q i)) :
    bigSep S R ⊢ iprop(bigSep S P ∗ bigSep S Q) := by
  refine (?_ : _ ⊢ iprop(bigSep S P ∗ bigSep S Q))
  refine (bigSep_mono h).trans ?_
  exact Entails.of_eq (bigSep_sep' S P Q)

/-! ## The barrier -/

theorem part2_spec :
    iprop(Ctx I κ c ∗ fam c (Pre0 c) Post0 0 ∗ Ow c (OB c 0) ∗ (cred (tallyAt (barCell c) () 7) ∗ atPos ER (barCell c) 0 ∅ 0)
        ∗ ownsTc c oS fullShare (oval I c) ∗ ownsTc c woB fullShare (I c).wo)
      ⊢ WP c (k0_part2 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          (pw c) h4)
        (fun r => iprop(⌜r = ⟨oval I c, k0_pay2 (I c).wo⟩⌝ ∗ (bigSep (Finset.univ.erase c) fun d => barPay (F := F) c d) ∗ Ow c (OR c 0) ∗ atPos ER (barCell c) 1 ∅ 0
          ∗ ownsTc c oS fullShare (oval I c) ∗ ownsTc c woB fullShare (I c).wo)) := by
  rw [k0_part2_eq_skeleton]; unfold k0_part2_skel
  refine signal_turn I κ c (dv 0) (pw_ne c (dv 0)) (Fin.ext k0_dev1_eq) ?_
  refine signal_turn I κ c (dv 1) (pw_ne c (dv 1)) (Fin.ext k0_dev2_eq) ?_
  refine signal_turn I κ c (dv 2) (pw_ne c (dv 2)) (Fin.ext k0_dev3_eq) ?_
  refine signal_turn I κ c (dv 3) (pw_ne c (dv 3)) (Fin.ext k0_dev4_eq) ?_
  refine signal_turn I κ c (dv 4) (pw_ne c (dv 4)) (Fin.ext k0_dev5_eq) ?_
  refine signal_turn I κ c (dv 5) (pw_ne c (dv 5)) (Fin.ext k0_dev6_eq) ?_
  refine signal_turn I κ c (dv 6) (pw_ne c (dv 6)) (Fin.ext k0_dev7_eq) ?_
  refine signal_turn I κ c (dv 7) (pw_ne c (dv 7)) (Fin.ext k0_dev8_eq) ?_
  refine wp_step (barrier_wait I κ c) (R := iprop(ownsTc c oS fullShare (oval I c) ∗ ownsTc c woB fullShare (I c).wo)) ?_ fun _ => ?_
  · iintro ⟨#HΓ, -, HO, ⟨Hc, Hat⟩, Hr⟩
    isplitr [Hr]
    · isplitr; · iexact HΓ
      isplitl [Hc]; · iexact Hc
      isplitl [Hat]; · iexact Hat
      iexact HO
    iexact Hr
  refine wp_step (load_all c oS _ zero2 _ fullShare (oval I c) _) (R := iprop(((bigSep (Finset.univ.erase c) fun d => barPay (F := F) c d)
      ∗ atPos ER (barCell c) 1 ∅ 0 ∗ Ow c (OR c 0)) ∗ ownsTc c woB fullShare (I c).wo)) ?_ fun v => ?_
  · iintro ⟨Hp, Ho, Hw⟩
    isplitl [Ho]; · iexact Ho
    isplitl [Hp]; · iexact Hp
    iexact Hw
  refine wp_step (load_all c woB _ zero2 _ fullShare (I c).wo _) (R := iprop(((bigSep (Finset.univ.erase c) fun d => barPay (F := F) c d)
      ∗ atPos ER (barCell c) 1 ∅ 0 ∗ Ow c (OR c 0)) ∗ ⌜v = oval I c⌝ ∗ ownsTc c oS fullShare (oval I c))) ?_ fun v' => ?_
  · iintro ⟨Ho, Hp, Hw⟩
    isplitl [Hw]; · iexact Hw
    isplitl [Hp]; · iexact Hp
    iexact Ho
  iintro ⟨⟨%hv', Hw⟩, ⟨Hp, Hat, HO⟩, %hv, Ho⟩
  subst hv hv'
  rw [Prog.pure_eq_ret]
  unfold WP
  rw [wp_ret]
  imodintro
  isplitr; · ipureintro; rfl
  isplitl [Hp]; · iexact Hp
  isplitl [HO]; · iexact HO
  isplitl [Hat]; · iexact Hat
  isplitl [Ho]; · iexact Ho
  iexact Hw

/-! ## The blocks -/

/-- The duties of the sends of blocks. -/
def tok1 (p : Dev nD) : sProp 𝕄 := iprop(dutyTok ER (dmaCell c (rsSend p)) 0 0 ∗ dutyTok ER (dmaCell p (rsRecv c)) 0 0)

/-- Peer `d`'s cell for the finished rows of `c` is open. -/
def agRc (d : Dev nD) : sProp 𝕄 := reached ER (dmaCell d (agRecv c)) 0

/-- What the barrier brought and the rounded partial product are what the sends need. -/
theorem rs_ready :
    iprop((bigSep (Finset.univ.erase c) fun d => barPay (F := F) c d) ∗ (bigSep (Finset.univ.erase c) (tok1 (F := F) c)) ∗ ownsTc c stW fullShare (stage0 I c))
      ⊢ iprop(fam c (Pre1 I c) (Post1 c) 0 ∗ ownsTc c (stM c) fullShare (rowsOf (stage0 I c) c)
          ∗ bigSep (Finset.univ.erase c) (agRc (F := F) c)) := by
  rw [← fam_zero]
  iintro ⟨Hb, Ht, Hs⟩
  ihave Hs := (stage_rows c fullShare (stage0 I c)) $$ Hs
  ihave Hs := (Entails.of_eq (bigSep_self c _)) $$ Hs
  icases Hs with ⟨Hc, Hs⟩
  ihave Hb := (bigSep_unzip (S := Finset.univ.erase c) (R := fun d => barPay (F := F) c d)
    (P := fun d => iprop(ownsEx (F := F) d (slotM c) fullShare ∗ reached ER (dmaCell d (rsRecv c)) 0)) (Q := agRc (F := F) c)
    (fun d _ => by
      unfold barPay agRc
      iintro ⟨H1, H2, H3⟩
      isplitr [H3]
      · isplitl [H1]; · iexact H1
        iexact H2
      iexact H3)) $$ Hb
  icases Hb with ⟨Hb, Hr⟩
  isplitl [Hb Ht Hs]
  · iapply (bigSep_zip (S := Finset.univ.erase c) (P := fun d => iprop(ownsEx (F := F) d (slotM c) fullShare ∗ reached ER (dmaCell d (rsRecv c)) 0))
      (Q := fun d => iprop(tok1 (F := F) c d ∗ ownsTc c (stM d) fullShare (rowsOf (stage0 I c) d)))
      (fun d _ => by
        unfold Pre1 tok1
        iintro ⟨⟨H1, H2⟩, ⟨H3, H4⟩, H5⟩
        isplitl [H1]; · iexact H1
        isplitl [H2]; · iexact H2
        isplitl [H5]; · iexact H5
        isplitl [H3]; · iexact H3
        iexact H4))
    isplitl [Hb]; · iexact Hb
    iapply (bigSep_zip (S := Finset.univ.erase c) (P := tok1 (F := F) c) (Q := fun d => ownsTc c (stM d) fullShare (rowsOf (stage0 I c) d))
      (fun d _ => BI.Entails.refl _))
    isplitl [Ht]; · iexact Ht
    iexact Hs
  isplitl [Hc]; · iexact Hc
  iexact Hr

theorem stM_of {off : Fin 2 → ℕ} (p : Dev nD) (h : off = ![64 * p.val, 0]) {inb hs} : stW.slice (Rect.unit (s := S512x1024) off S64x1024.size inb) hs = stM p := by
  subst h; rfl

theorem slotM_of {off : Fin 3 → ℕ} (p : Dev nD) (h : off = ![p.val, 0, 0]) {inb hs} :
    (rvW.slice (Rect.unit (s := S8x64x1024) off S1x64x1024.size inb) hs).squeeze S64x1024 squeezes_S1x64x1024_S64x1024 = slotM p := by
  subst h; rfl

theorem part_read {off : Fin 2 → ℕ} (h : off = ![64 * c.val, 0]) (inb) (X : Vec F S512x1024 .f32) :
    (fun j => X ((Rect.unit (s := S512x1024) off S64x1024.size inb).emb j)) = (oW.access (rowR c)).read (Elt F) X := by
  subst h; rfl

theorem load_rows (p : Dev nD) {off : Fin 2 → ℕ} (h : off = ![64 * p.val, 0]) {inb} (X : Vec F S64x1024 .bf16) (hl) :
    (ownsTc c (stM p) fullShare X : sProp 𝕄)
      ⊢ WP c (Prog.lift (.load stW (Rect.unit (s := S512x1024) off S64x1024.size inb).toLoadRect hl)) (fun _ => ownsTc c (stM p) fullShare X) := by
  subst h
  refine (load_slice c stW (rowR p) (fun _ => rfl) fullShare X hl).trans (wp_mono _ _ _ fun v => ?_)
  iintro ⟨-, H⟩
  iexact H

theorem store_rows (p : Dev nD) {off : Fin 2 → ℕ} (h : off = ![64 * p.val, 0]) {inb} (X w : Vec F S64x1024 .bf16) (hx hm) :
    (ownsTc c (stM p) fullShare X : sProp 𝕄)
      ⊢ WP c (Prog.lift (.store stW (Rect.unit (s := S512x1024) off S64x1024.size inb) w Finset.univ hx hm)) (fun _ => ownsTc c (stM p) fullShare w) := by
  subst h
  exact store_slice c stW (rowR p) (fun _ => rfl) X w hx hm

theorem part3_spec (k0_hw2 : k0_chk2 i (tw c)) :
    iprop(Ctx I κ c ∗ (bigSep (Finset.univ.erase c) fun d => barPay (F := F) c d) ∗ (bigSep (Finset.univ.erase c) (tok1 (F := F) c)) ∗ Ow c (OR c 0)
        ∗ ownsEx (F := F) c oW fullShare ∗ ownsEx (F := F) c stW fullShare)
      ⊢ WP c (k0_part3 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          (tw c) k0_hw2 (pw c) h4 (oval I c) (k0_pay2 (I c).wo))
        (fun _ => iprop(fam c (Pre1 I c) (Post1 c) 7 ∗ Ow c (OR c 7) ∗ ownsTc c oW fullShare (outF I c 0)
          ∗ ownsTc c (stM c) fullShare (rowsOf (stage0 I c) c) ∗ bigSep (Finset.univ.erase c) (agRc (F := F) c))) := by
  rw [k0_part3_eq_skeleton]; unfold k0_part3_skel
  iintro ⟨#HΓ, Hb, Ht, HO, ⟨%X, Ho⟩, ⟨%Y, Hs⟩⟩
  unfold WP
  rw [wp_bind]
  iapply (wp_wand _ _ _) $$ [Ho]
  · iapply (load_all c oW _ zero2 _ fullShare X _); iexact Ho
  iintro %_ ⟨-, Ho⟩
  rw [wp_bind]
  iapply (wp_wand _ _ _) $$ [Ho]
  · iapply (store_all c oW _ zero2 _ X _ _ _); iexact Ho
  iintro %_ Ho
  rw [wp_bind]
  iapply (wp_wand _ _ _) $$ [Ho]
  · iapply (load_all c oW _ zero2 _ fullShare _ _); iexact Ho
  iintro %v106 ⟨%hv, Ho⟩
  subst hv
  rw [wp_bind]
  iapply (wp_wand _ _ _) $$ [Hs]
  · iapply (load_all c stW _ zero2 _ fullShare Y _); iexact Hs
  iintro %_ ⟨-, Hs⟩
  rw [wp_bind]
  iapply (wp_wand _ _ _) $$ [Hs]
  · iapply (store_all c stW _ zero2 _ Y _ _ _); iexact Hs
  iintro %_ Hs
  ihave H := (rs_ready I c) $$ [Hb Ht Hs]
  · isplitl [Hb]; · iexact Hb
    isplitl [Ht]; · iexact Ht
    iexact Hs
  icases H with ⟨Hf, Hr⟩
  iapply (?_ : iprop(Ctx I κ c ∗ fam c (Pre1 I c) (Post1 c) 0 ∗ Ow c (OR c 0) ∗ (ownsTc c oW fullShare (outF I c 0)
    ∗ ownsTc c (stM c) fullShare (rowsOf (stage0 I c) c) ∗ bigSep (Finset.univ.erase c) (agRc (F := F) c))) ⊢ _)
  rotate_left
  · isplitr; · iexact HΓ
    isplitl [Hf]; · iexact Hf
    isplitl [HO]; · iexact HO
    isplitl [Ho]; · iexact Ho
    iexact Hr
  refine rsSend_turn I κ c (dv 0) (cond13_tw c) (fun h => rsSendOp_intro c (dv 0) (Fin.ext k0_dev9_eq) rfl (slotM_of c (off15_tw c)) rfl (rsRecv_eq _ c (off14_tw c) _)) ?_
  refine rsSend_turn I κ c (dv 1) (cond14_tw c) (fun h => rsSendOp_intro c (dv 1) (Fin.ext k0_dev10_eq) rfl (slotM_of c (off17_tw c)) rfl (rsRecv_eq _ c (off16_tw c) _)) ?_
  refine rsSend_turn I κ c (dv 2) (cond15_tw c) (fun h => rsSendOp_intro c (dv 2) (Fin.ext k0_dev11_eq) rfl (slotM_of c (off19_tw c)) rfl (rsRecv_eq _ c (off18_tw c) _)) ?_
  refine rsSend_turn I κ c (dv 3) (cond16_tw c) (fun h => rsSendOp_intro c (dv 3) (Fin.ext k0_dev12_eq) rfl (slotM_of c (off21_tw c)) rfl (rsRecv_eq _ c (off20_tw c) _)) ?_
  refine rsSend_turn I κ c (dv 4) (cond17_tw c) (fun h => rsSendOp_intro c (dv 4) (Fin.ext k0_dev13_eq) rfl (slotM_of c (off23_tw c)) rfl (rsRecv_eq _ c (off22_tw c) _)) ?_
  refine rsSend_turn I κ c (dv 5) (cond18_tw c) (fun h => rsSendOp_intro c (dv 5) (Fin.ext k0_dev14_eq) rfl (slotM_of c (off25_tw c)) rfl (rsRecv_eq _ c (off24_tw c) _)) ?_
  refine rsSend_turn I κ c (dv 6) (cond19_tw c) (fun h => rsSendOp_intro c (dv 6) (Fin.ext k0_dev15_eq) rfl (slotM_of c (off27_tw c)) rfl (rsRecv_eq _ c (off26_tw c) _)) ?_
  iintro ⟨-, H⟩
  rw [Prog.pure_eq_ret]
  unfold WP
  rw [wp_ret]
  imodintro
  iexact H

theorem part4_spec (k0_hw2 : k0_chk2 i (tw c)) (x : BitVec 32) :
    iprop(Ctx I κ c ∗ fam c (Pre1 I c) (Post1 c) 7 ∗ Ow c (OR c 7) ∗ (ownsTc c oW fullShare (outF I c 0) ∗ bigSep (Finset.univ.erase c) (Pre2 (F := F) c)))
      ⊢ WP c (k0_part4 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          (tw c) k0_hw2 (pw c) h4 x)
        (fun r => iprop(⌜r = k0_pay13 (acc I c 8)⌝ ∗ bigSep (Finset.univ.erase c) (Post1 (F := F) c) ∗ bigSep (Finset.univ.erase c) (Post2 (F := F) c)
          ∗ Ow c (OA c 0) ∗ ownsTc c oW fullShare (outF I c 8))) := by
  rw [k0_part4_eq_skeleton]; unfold k0_part4_skel
  refine rsSend_turn I κ c (dv 7) (cond20_tw c) (fun h => rsSendOp_intro c (dv 7) (Fin.ext k0_dev16_eq) rfl (slotM_of c (off29_tw c)) rfl (rsRecv_eq _ c (off28_tw c) _)) ?_
  refine (?_ : _ ⊢ iprop(Ctx I κ c ∗ fam c (Pre2 c) (Post2 c) 0 ∗ St2 I c 0 ∗ bigSep (Finset.univ.erase c) (Post1 (F := F) c))).trans ?_
  · iintro ⟨#HΓ, Hf, HO, Ho, Hp⟩
    isplitr; · iexact HΓ
    isplitl [Hp]; · iapply (Entails.of_eq (fam_zero c (Pre2 c) (Post2 c))); iexact Hp
    isplitl [HO Ho]
    · unfold St2
      isplitl [HO]; · rw [← OR_end]; iexact HO
      iexact Ho
    iapply (Entails.of_eq (fam_end c (Pre1 I c) (Post1 c))); iexact Hf
  refine rsRecv_turn I κ c (dv 0) (cond21_tw c) (fun h hp => rsRecv_step I κ c (dv 0) hp (rsRecv_eq _ (dv 0) rfl _) (by exact rfl) (off30_tw c) rfl rfl) ?_
  refine rsRecv_turn I κ c (dv 1) (cond22_tw c) (fun h hp => rsRecv_step I κ c (dv 1) hp (rsRecv_eq _ (dv 1) rfl _) (by exact rfl) (off31_tw c) rfl rfl) ?_
  refine rsRecv_turn I κ c (dv 2) (cond23_tw c) (fun h hp => rsRecv_step I κ c (dv 2) hp (rsRecv_eq _ (dv 2) rfl _) (by exact rfl) (off32_tw c) rfl rfl) ?_
  refine rsRecv_turn I κ c (dv 3) (cond24_tw c) (fun h hp => rsRecv_step I κ c (dv 3) hp (rsRecv_eq _ (dv 3) rfl _) (by exact rfl) (off33_tw c) rfl rfl) ?_
  refine rsRecv_turn I κ c (dv 4) (cond25_tw c) (fun h hp => rsRecv_step I κ c (dv 4) hp (rsRecv_eq _ (dv 4) rfl _) (by exact rfl) (off34_tw c) rfl rfl) ?_
  refine rsRecv_turn I κ c (dv 5) (cond26_tw c) (fun h hp => rsRecv_step I κ c (dv 5) hp (rsRecv_eq _ (dv 5) rfl _) (by exact rfl) (off35_tw c) rfl rfl) ?_
  refine rsRecv_turn I κ c (dv 6) (cond27_tw c) (fun h hp => rsRecv_step I κ c (dv 6) hp (rsRecv_eq _ (dv 6) rfl _) (by exact rfl) (off36_tw c) rfl rfl) ?_
  refine rsRecv_turn I κ c (dv 7) (cond28_tw c) (fun h hp => rsRecv_step I κ c (dv 7) hp (rsRecv_eq _ (dv 7) rfl _) (by exact rfl) (off37_tw c) rfl rfl) ?_
  unfold St2
  iintro ⟨-, Hf, ⟨HO, Ho⟩, Hp⟩
  unfold WP
  rw [wp_bind]
  iapply (wp_wand _ _ _) $$ [Ho]
  · iapply (load_part c oW _ fullShare (outF I c 8) _); iexact Ho
  iintro %v ⟨%hv, Ho⟩
  rw [Prog.pure_eq_ret, wp_ret]
  imodintro
  isplitr
  · ipureintro
    rw [hv, ← outF_rows I c 8]
    exact congrArg k0_pay13 (part_read c (off38_tw c) _ _)
  isplitl [Hp]; · iexact Hp
  isplitl [Hf]; · iapply (Entails.of_eq (fam_end c (Pre2 c) (Post2 c))); iexact Hf
  isplitl [HO]; · iexact HO
  iexact Ho

/-! ## The finished rows -/

/-- What the sends of the finished rows use besides the rows. -/
def tok3 (p : Dev nD) : sProp 𝕄 :=
  iprop(ownsEx (F := F) p (stM c) fullShare ∗ agRc (F := F) c p ∗ dutyTok ER (dmaCell c (agSend p)) 0 0 ∗ dutyTok ER (dmaCell p (agRecv c)) 0 0)

theorem ag_ready :
    iprop(ownsTc c (stM c) fullShare (red I c) ∗ bigSep (Finset.univ.erase c) (tok3 (F := F) c))
      ⊢ iprop(fam c (Pre3 I c) (Post3 c) 0 ∗ ownsTc c (stM c) (lf c) (red I c)) := by
  rw [← fam_zero, owns_leaves, bigSep_self c]
  iintro ⟨⟨Hc, Hs⟩, Ht⟩
  isplitl [Hs Ht]
  · iapply (bigSep_zip (S := Finset.univ.erase c) (P := fun p => ownsTc c (stM c) (lf p) (red I c)) (Q := tok3 (F := F) c)
      (fun d _ => by unfold Pre3 tok3 agRc; exact BI.Entails.refl _))
    isplitl [Hs]; · iexact Hs
    iexact Ht
  iexact Hc

theorem part5_spec (k0_hw2 : k0_chk2 i (tw c)) :
    iprop(Ctx I κ c ∗ Ow c (OA c 0) ∗ ownsEx (F := F) c (stM c) fullShare ∗ bigSep (Finset.univ.erase c) (tok3 (F := F) c))
      ⊢ WP c (k0_part5 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          (tw c) k0_hw2 (pw c) h4 (k0_pay13 (acc I c 8)))
        (fun r => iprop(⌜r = ⟨Scalar.extui (Scalar.cmpi .ne (pw c) 0#32), 0#32⟩⌝ ∗ bigSep (Finset.univ.erase c) (Post3 (F := F) c)
          ∗ Ow c 0 ∗ ownsTc c (stM c) (lf c) (red I c))) := by
  rw [k0_part5_eq_skeleton]; unfold k0_part5_skel
  iintro ⟨#HΓ, HO, ⟨%X, Hs⟩, Ht⟩
  unfold WP
  rw [wp_bind]
  iapply (wp_wand _ _ _) $$ [Hs]
  · iapply (load_rows c c (off38_tw c) X _); iexact Hs
  iintro %_ Hs
  rw [wp_bind]
  iapply (wp_wand _ _ _) $$ [Hs]
  · iapply (store_rows c c (off38_tw c) X _ _ _); iexact Hs
  iintro %_ Hs
  ihave H := (ag_ready I c) $$ [Ht Hs]
  · isplitl [Hs]; · iexact Hs
    iexact Ht
  icases H with ⟨Hf, Hr⟩
  iapply (?_ : iprop(Ctx I κ c ∗ fam c (Pre3 I c) (Post3 c) 0 ∗ Ow c (OA c 0) ∗ ownsTc c (stM c) (lf c) (red I c)) ⊢ _)
  rotate_left
  · isplitr; · iexact HΓ
    isplitl [Hf]; · iexact Hf
    isplitl [HO]; · iexact HO
    iexact Hr
  refine agSend_turn I κ c (dv 0) (cond29_tw c) (fun h => agSendOp_intro c (dv 0) (Fin.ext k0_dev17_eq) (stM_of c (off40_tw c)) (stM_of c (off40_tw c)) rfl (agRecv_eq _ c (off39_tw c) _)) ?_
  refine agSend_turn I κ c (dv 1) (cond30_tw c) (fun h => agSendOp_intro c (dv 1) (Fin.ext k0_dev18_eq) (stM_of c (off42_tw c)) (stM_of c (off42_tw c)) rfl (agRecv_eq _ c (off41_tw c) _)) ?_
  refine agSend_turn I κ c (dv 2) (cond31_tw c) (fun h => agSendOp_intro c (dv 2) (Fin.ext k0_dev19_eq) (stM_of c (off44_tw c)) (stM_of c (off44_tw c)) rfl (agRecv_eq _ c (off43_tw c) _)) ?_
  refine agSend_turn I κ c (dv 3) (cond32_tw c) (fun h => agSendOp_intro c (dv 3) (Fin.ext k0_dev20_eq) (stM_of c (off46_tw c)) (stM_of c (off46_tw c)) rfl (agRecv_eq _ c (off45_tw c) _)) ?_
  refine agSend_turn I κ c (dv 4) (cond33_tw c) (fun h => agSendOp_intro c (dv 4) (Fin.ext k0_dev21_eq) (stM_of c (off48_tw c)) (stM_of c (off48_tw c)) rfl (agRecv_eq _ c (off47_tw c) _)) ?_
  refine agSend_turn I κ c (dv 5) (cond34_tw c) (fun h => agSendOp_intro c (dv 5) (Fin.ext k0_dev22_eq) (stM_of c (off50_tw c)) (stM_of c (off50_tw c)) rfl (agRecv_eq _ c (off49_tw c) _)) ?_
  refine agSend_turn I κ c (dv 6) (cond35_tw c) (fun h => agSendOp_intro c (dv 6) (Fin.ext k0_dev23_eq) (stM_of c (off52_tw c)) (stM_of c (off52_tw c)) rfl (agRecv_eq _ c (off51_tw c) _)) ?_
  refine agSend_turn I κ c (dv 7) (cond36_tw c) (fun h => agSendOp_intro c (dv 7) (Fin.ext k0_dev24_eq) (stM_of c (off54_tw c)) (stM_of c (off54_tw c)) rfl (agRecv_eq _ c (off53_tw c) _)) ?_
  iintro ⟨-, Hf, HO, Hr⟩
  rw [Prog.pure_eq_ret]
  unfold WP
  rw [wp_ret]
  imodintro
  isplitr; · ipureintro; rfl
  isplitl [Hf]; · iapply (Entails.of_eq (fam_end c (Pre3 I c) (Post3 c))); iexact Hf
  isplitl [HO]; · rw [← OA_end c]; iexact HO
  iexact Hr

/-! ## The result -/

/-- The cell for the finished rows of `s`, after its wait. -/
def atAg (s : Dev nD) : sProp 𝕄 := atPos ER (dmaCell c (agRecv s)) 1 ∅ 0

/-- The finished rows of all devices, the own ones at the share kept back. -/
def Rows : sProp 𝕄 := iprop(ownsTc c (stM c) (lf c) (red I c) ∗ bigSep (Finset.univ.erase c) (fun s => ownsTc c (stM s) fullShare (red I s)))
/-- What is left of the peers' rows when one share of them is lent. -/
def Rest : sProp 𝕄 := bigSep (Finset.univ.erase c) (fun s => bigSep (Finset.univ.erase c) fun p : Dev nD => ownsTc c (stM s) (lf p) (red I s))

theorem rows_open : Rows I c ⊢ iprop(ownsTc c stW (lf c) (ST I) ∗ Rest I c) := by
  unfold Rows Rest
  iintro ⟨Hc, Hs⟩
  ihave Hs := (bigSep_unzip (S := Finset.univ.erase c) (R := fun s => ownsTc c (stM s) fullShare (red I s))
    (P := fun s => ownsTc c (stM s) (lf c) (red I s)) (Q := fun s => bigSep (Finset.univ.erase c) fun p : Dev nD => ownsTc c (stM s) (lf p) (red I s))
    (fun s _ => by rw [owns_leaves, bigSep_self c])) $$ Hs
  icases Hs with ⟨H1, H2⟩
  isplitr [H2]
  · iapply (stage_join c (lf c) (ST I))
    unfold ST
    simp only [rowsOf_glue]
    iapply (Entails.of_eq (bigSep_self c (fun s => ownsTc c (stM s) (lf c) (red I s))).symm)
    isplitl [Hc]; · iexact Hc
    iexact H1
  iexact H2

theorem rows_close : iprop(ownsTc c stW (lf c) (ST I) ∗ Rest I c) ⊢ Rows I c := by
  unfold Rows Rest
  iintro ⟨H, H2⟩
  ihave H := (stage_rows c (lf c) (ST I)) $$ H
  unfold ST
  simp only [rowsOf_glue]
  ihave H := (Entails.of_eq (bigSep_self c (fun s => ownsTc c (stM s) (lf c) (red I s)))) $$ H
  icases H with ⟨Hc, H1⟩
  isplitl [Hc]; · iexact Hc
  iapply (bigSep_zip (S := Finset.univ.erase c) (R := fun s => ownsTc c (stM s) fullShare (red I s))
    (P := fun s => ownsTc c (stM s) (lf c) (red I s)) (Q := fun s => bigSep (Finset.univ.erase c) fun p : Dev nD => ownsTc c (stM s) (lf p) (red I s))
    (fun s _ => by rw [owns_leaves, bigSep_self c]))
  isplitl [H1]; · iexact H1
  iexact H2

theorem part6_spec :
    iprop(Ctx I κ c ∗ bigSep (Finset.univ.erase c) (Pre4 (F := F) c) ∗ Ow c 0 ∗ (ownsTc c (stM c) (lf c) (red I c) ∗ ownsEx (F := F) c oW fullShare
        ∗ bigSep (Finset.univ.erase c) (Pre5 (F := F) c)))
      ⊢ WP c (k0_part6 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          (pw c) (Scalar.extui (Scalar.cmpi .ne (pw c) 0#32)) 0#32)
        (fun r => iprop(⌜r = Scalar.cmpi .ne (pw c) 1#32⌝ ∗ fam c (Pre5 (F := F) c) (Post5 I c) 1 ∗ Ow c 0
          ∗ (ownsTc c oW fullShare (outv I) ∗ Rows I c ∗ bigSep (Finset.univ.erase c) (atAg (F := F) c)))) := by
  rw [k0_part6_eq_skeleton]; unfold k0_part6_skel
  refine (?_ : _ ⊢ iprop(Ctx I κ c ∗ fam c (Pre4 c) (Post4 I c) 0 ∗ Ow c 0 ∗ (ownsTc c (stM c) (lf c) (red I c) ∗ ownsEx (F := F) c oW fullShare
        ∗ bigSep (Finset.univ.erase c) (Pre5 (F := F) c)))).trans ?_
  · rw [fam_zero]
  refine agRecv_turn I κ c (dv 0) (pw_ne c (dv 0)) (agRecv_eq _ (dv 0) rfl _) (by exact rfl) ?_
  refine agRecv_turn I κ c (dv 1) (pw_ne c (dv 1)) (agRecv_eq _ (dv 1) rfl _) (by exact rfl) ?_
  refine agRecv_turn I κ c (dv 2) (pw_ne c (dv 2)) (agRecv_eq _ (dv 2) rfl _) (by exact rfl) ?_
  refine agRecv_turn I κ c (dv 3) (pw_ne c (dv 3)) (agRecv_eq _ (dv 3) rfl _) (by exact rfl) ?_
  refine agRecv_turn I κ c (dv 4) (pw_ne c (dv 4)) (agRecv_eq _ (dv 4) rfl _) (by exact rfl) ?_
  refine agRecv_turn I κ c (dv 5) (pw_ne c (dv 5)) (agRecv_eq _ (dv 5) rfl _) (by exact rfl) ?_
  refine agRecv_turn I κ c (dv 6) (pw_ne c (dv 6)) (agRecv_eq _ (dv 6) rfl _) (by exact rfl) ?_
  refine agRecv_turn I κ c (dv 7) (pw_ne c (dv 7)) (agRecv_eq _ (dv 7) rfl _) (by exact rfl) ?_
  iintro ⟨#HΓ, Hf, HO, Hc, ⟨%X, Ho⟩, Hd⟩
  ihave Hf := (Entails.of_eq (fam_end c (Pre4 c) (Post4 I c))) $$ Hf
  ihave Hf := (bigSep_unzip (S := Finset.univ.erase c) (R := Post4 I c) (P := fun s => ownsTc c (stM s) fullShare (red I s))
    (Q := atAg (F := F) c) (fun s _ => by unfold Post4 atAg agRecvPay; exact BI.Entails.refl _)) $$ Hf
  icases Hf with ⟨Hs, Hat⟩
  ihave Hs := (rows_open I c) $$ [Hc Hs]
  · unfold Rows
    isplitl [Hc]; · iexact Hc
    iexact Hs
  icases Hs with ⟨Hs, Hr⟩
  unfold WP
  rw [wp_bind]
  iapply (wp_wand _ _ _) $$ [Hs]
  · iapply (load_all c stW _ zero2 _ (lf c) (ST I) _); iexact Hs
  iintro %v ⟨%hv, Hs⟩
  subst hv
  rw [wp_bind]
  iapply (wp_wand _ _ _) $$ [Ho]
  · iapply (load_all c oW _ zero2 _ fullShare X _); iexact Ho
  iintro %_ ⟨-, Ho⟩
  rw [wp_bind]
  iapply (wp_wand _ _ _) $$ [Ho]
  · iapply (store_all c oW _ zero2 _ X _ _ _); iexact Ho
  iintro %_ Ho
  iapply (?_ : iprop(Ctx I κ c ∗ fam c (Pre5 c) (Post5 I c) 0 ∗ Ow c 0
    ∗ (ownsTc c oW fullShare (outv I) ∗ Rows I c ∗ bigSep (Finset.univ.erase c) (atAg (F := F) c))) ⊢ _)
  rotate_left
  · isplitr; · iexact HΓ
    isplitl [Hd]; · iapply (Entails.of_eq (fam_zero c (Pre5 c) (Post5 I c))); iexact Hd
    isplitl [HO]; · iexact HO
    isplitl [Ho]; · iexact Ho
    isplitl [Hs Hr]
    · iapply (rows_close I c)
      isplitl [Hs]; · iexact Hs
      iexact Hr
    iexact Hat
  refine drain_turn I κ c (dv 0) (pw_ne c (dv 0)) rfl rfl (by exact rfl) (by exact rfl) ?_
  iintro ⟨-, H⟩
  rw [Prog.pure_eq_ret]
  unfold WP
  rw [wp_ret]
  imodintro
  isplitr; · ipureintro; rfl
  iexact H

end Cert.KernelIdeal.Run
-- ==== Proof.Ring.lean ====
/- The two-slot rings through which a device reads its heads of the keys and of the values: what is owned between two copies,
   the start of a copy, and the wait for one. One text serves both rings. -/
module

public import proofs.«01_k».proof.Proof.Last

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-- One of the two rings of device `c`: the array, the buffer, the semaphores' number, the array's contents and its heads. -/
structure Side (I : Dev nD → Inp F) (c : Dev nD) where
  A : Memref sig .tc .hbm S2048x64x128 .f32
  B : Memref sig .tc .vmem S2x2048x128 .f32
  b : Fin 2
  K : Buf (Elt F) (A.view.loc (c : Thread nD τ))
  Z : Fin 8 → Vec F S2048x128 .f32
  hZ : ∀ h, (kvHead A (hd c h)).view.read (Elt F) K = Z h
  hP : ∀ s r, (Rd I).payload (dmaCell c (kvS b s)) r 0
    = iprop(ownsTc c (kvSlot B s) fullShare (Z (hOf s r)) ∗ headPt c A (hd c (hOf s r)) (lf (hOf s r)) K)
  hN : ∀ s n, (kvSlot B s).view.amount (.dma n) = NK

variable (I : Dev nD → Inp F) (κ : GSem nD τ sig → ℕ) (c : Dev nD)

/-- The ring of the keys. -/
def kSide : Side I c where
  A := kA
  B := kB
  b := 0
  K := (I c).k
  Z := fun h => khd (I c).k (hd c h)
  hZ := fun _ => rfl
  hP := fun s r => payload_k I c s r 0
  hN := amount_k

/-- The ring of the values. -/
def vSide : Side I c where
  A := vA
  B := vB
  b := 1
  K := (I c).v
  Z := fun h => khd (I c).v (hd c h)
  hZ := fun h => khd_v (I c).v (hd c h)
  hP := fun s r => payload_v I c s r 0
  hN := amount_v

/-- The slot of head `h`, and its round there. -/
def sl (h : Fin 8) : Fin 2 := ⟨h.val % 2, Nat.mod_lt _ (by decide)⟩
def rd (h : Fin 8) : ℕ := h.val / 2

theorem rd_lt (h : Fin 8) : rd h < 4 := by unfold rd; omega
theorem hOf_sl (h : Fin 8) : hOf (sl h) (rd h) = h := by
  apply Fin.ext; show (2 * (h.val / 2) + h.val % 2) % 8 = h.val; omega

theorem lv_kv : ∀ (c : Dev nD) (b s : Fin 2), lv (dmaCell c (kvS b s)) () = 0 := by decide

/-- One place of a family changes. -/
theorem bigSep_upd {J : Type} [DecidableEq J] [Fintype J] (i : J) {P Q : J → sProp 𝕄} (h : ∀ j, j ≠ i → P j = Q j) :
    bigSep Finset.univ P ⊢ iprop(P i ∗ (Q i -∗ bigSep Finset.univ Q)) := by
  rw [← Finset.insert_erase (Finset.mem_univ i), bigSep_ins (Finset.notMem_erase i _), bigSep_ins (Finset.notMem_erase i _),
    bigSep_congr (s := Finset.univ.erase i) (fun j hj => h j (Finset.ne_of_mem_erase hj))]
  iintro ⟨H, Hr⟩
  isplitl [H]; · iexact H
  iintro H'
  isplitl [H']; · iexact H'
  iexact Hr

namespace Side

variable {I c} (S : Side I c)

/-- The semaphore of slot `s`. -/
abbrev cell (s : Fin 2) : GSem nD τ sig := dmaCell c (kvS S.b s)

/-- The array at the share that goes with head `h`. -/
def whole (h : Fin 8) : sProp 𝕄 := S.A.view.loc (c : Thread nD τ) ↦[S.A.view.set]{lf h} S.K
/-- The array without head `h`. -/
def rest (h : Fin 8) : sProp 𝕄 := S.A.view.loc (c : Thread nD τ) ↦[S.A.view.set \ (kvHead S.A (hd c h)).view.set]{lf h} S.K

/-- Before the copy of head `h` starts. -/
def pre (h : Fin 8) : sProp 𝕄 := iprop(S.whole h ∗ dutyTok ER (S.cell (sl h)) (rd h) 0)
/-- While it runs. -/
def fly (h : Fin 8) : sProp 𝕄 := iprop(cred (tallyAt (S.cell (sl h)) () NK) ∗ S.rest h)

/-- Heads below `lo` are read, those from `lo` to below `hi` on their way. -/
def st (lo hi : ℕ) (h : Fin 8) : sProp 𝕄 := if h.val < lo then S.whole h else if h.val < hi then S.fly h else S.pre h
def heads (lo hi : ℕ) : sProp 𝕄 := bigSep Finset.univ (S.st lo hi)

/-- Where the slots' semaphores stand after `t` waits. -/
def slotAt (s : Fin 2) (n : ℕ) : sProp 𝕄 := iprop(atPos ER (S.cell s) n ∅ 0 ∗ reached ER (S.cell s) n)
def pos (t : ℕ) : sProp 𝕄 := bigSep Finset.univ fun s : Fin 2 => S.slotAt s ((t + 1 - s.val) / 2)

/-- The slots that no copy fills and no head holds, after `t` waits. -/
def free (t : ℕ) : sProp 𝕄 := bigSep Finset.univ fun s : Fin 2 => if t = 0 ∨ 7 + s.val ≤ t then ownsEx (F := F) c (kvSlot S.B s) fullShare else iprop(emp)

theorem head_sub (h : Fin 64) : (kvHead S.A h).view.set ⊆ S.A.view.set := by
  unfold kvHead
  exact View.set_reshape_subset _ _ (View.set_slice_subset _ _)

theorem whole_open (h : Fin 8) : S.whole h ⊢ iprop(((kvHead S.A (hd c h)).view.loc (c : Thread nD τ) ↦[(kvHead S.A (hd c h)).view.set]{lf h} S.K) ∗ S.rest h) := by
  unfold whole rest
  exact (pointsTo_split_subset (S.head_sub _)).1
theorem whole_close (h : Fin 8) : iprop(headPt c S.A (hd c h) (lf h) S.K ∗ S.rest h) ⊢ S.whole h := by
  unfold whole rest headPt
  exact (pointsTo_split_subset (S.head_sub _)).2

/-- The start of the copy of head `h`. -/
theorem start (h : Fin 8) (lo : ℕ) (hlo : lo ≤ h.val) {src : Memref sig .tc .hbm S2048x128 .f32} (hsrc : src = kvHead S.A (hd c h))
    {dst : Memref sig .tc .vmem S2048x128 .f32} (hdst : dst = kvSlot S.B (sl h)) {sem : DmaSem sig} (hsem : sem = kvS S.b (sl h)) {h1 h2 h3} :
    iprop(Ctx I κ c ∗ reached ER (S.cell (sl h)) (rd h) ∗ ownsEx (F := F) c (kvSlot S.B (sl h)) fullShare ∗ S.heads lo h.val)
      ⊢ WP c (Prog.lift (.enqueueDma src (.here dst) (.dma sem) h1 h2 h3)) (fun _ => S.heads lo (h.val + 1)) := by
  subst hsrc hdst hsem
  unfold heads
  iintro ⟨#HΓ, #Hr, ⟨%X, Hs⟩, Hh⟩
  ihave Hh := (bigSep_upd (F := F) h (P := S.st lo h.val) (Q := S.st lo (h.val + 1)) (fun j hj => by
    have hv := Fin.val_ne_of_ne hj
    unfold st
    by_cases h1 : j.val < lo
    · rw [if_pos h1, if_pos h1]
    · rw [if_neg h1, if_neg h1]
      by_cases h2 : j.val < h.val
      · rw [if_pos h2, if_pos (by omega)]
      · rw [if_neg h2, if_neg (by omega)])) $$ Hh
  icases Hh with ⟨Hp, Hk⟩
  have e1 : S.st lo h.val h = iprop(S.whole h ∗ dutyTok ER (S.cell (sl h)) (rd h) 0) := by unfold st; rw [if_neg (by omega), if_neg (lt_irrefl _)]; rfl
  have e2 : S.st lo (h.val + 1) h = iprop(cred (tallyAt (S.cell (sl h)) () NK) ∗ S.rest h) := by unfold st; rw [if_neg (by omega), if_pos (by omega)]; rfl
  ihave Hp := (Entails.of_eq e1) $$ Hp
  icases Hp with ⟨Hw, Htok⟩
  ihave Hw := (S.whole_open h) $$ Hw
  icases Hw with ⟨Hd, Hrest⟩
  ihave Hs := (show ownsTc c (kvSlot S.B (sl h)) fullShare X ⊢ (iprop(∃ f, ⌜(kvSlot S.B (sl h)).view.read (Elt F) f = X⌝
    ∗ (kvSlot S.B (sl h)).view.loc (c : Thread nD τ) ↦[(kvSlot S.B (sl h)).view.set]{fullShare} f) : sProp 𝕄) from BI.Entails.refl _) $$ Hs
  icases Hs with ⟨%fd, -, Hs⟩
  iapply (Rounds.wp_copy_pointsTo 𝒱₀ ER (Rd I) (c : Thread nD τ) none (src := kvHead S.A (hd c h)) (dst := kvSlot S.B (sl h)) (sem := .dma (kvS S.b (sl h)))
      (q := lf h) (fs := S.K) (fd := fd) (r := rd h) (d := 0) (κ := κ (S.cell (sl h)))
      (by rw [duties_kv I c S.b (sl h) (rd h) (rd_lt h)]; exact Finset.mem_singleton_self _) () NK (S.hN _ _) (amount_kvS I c S.b (sl h) (rd h) 0)
      (by
        rw [S.hP, hOf_sl]
        unfold ownsTc owns headPt
        iintro ⟨H1, H2⟩
        isplitl [H1]
        · iexists ((kvSlot S.B (sl h)).view.write (Elt F) fd ((kvHead S.A (hd c h)).view.read (Elt F) S.K) Finset.univ)
          isplitr; · ipureintro; exact (View.read_write_univ _ _).trans (S.hZ h)
          iexact H1
        iexact H2)) $$ [Hd Hs Htok]
  · isplitr; · iapply (ctx_dma I κ c c _); iexact HΓ
    isplitl [Hd]; · iexact Hd
    isplitl [Hs]; · iexact Hs
    isplitl [Htok]; · iexact Htok
    iexact Hr
  iintro Hc
  rw [wp_ret]
  imodintro
  iapply Hk
  iapply (Entails.of_eq e2.symm)
  isplitl [Hc]; · iexact Hc
  iexact Hrest

/-- The wait for head `t`. -/
theorem wait (t : Fin 8) (hi : ℕ) (hhi : t.val < hi) {src : Memref sig .tc .hbm S2048x128 .f32}
    {dst : Memref sig .tc .vmem S2048x128 .f32} (hdst : dst = kvSlot S.B (sl t)) {sem : DmaSem sig} (hsem : sem = kvS S.b (sl t)) {h1 h2} :
    iprop(Ctx I κ c ∗ S.heads t.val hi ∗ S.pos t.val ∗ Ow c (OB c 0))
      ⊢ WP c (Prog.lift (.waitDma2 sem src dst h1 h2)) (fun _ => iprop(ownsTc c (kvSlot S.B (sl t)) fullShare (S.Z t) ∗ S.heads (t.val + 1) hi ∗ S.pos (t.val + 1) ∗ Ow c (OB c 0))) := by
  subst hdst hsem
  unfold heads pos slotAt Ow
  iintro ⟨#HΓ, Hh, Hp, ⟨%W, HO⟩⟩
  ihave Hh := (bigSep_upd (F := F) t (P := S.st t.val hi) (Q := S.st (t.val + 1) hi) (fun j hj => by
    have hv := Fin.val_ne_of_ne hj
    unfold st
    by_cases h1 : j.val < t.val
    · rw [if_pos h1, if_pos (by omega)]
    · rw [if_neg h1, if_neg (by omega : ¬ j.val < t.val + 1)])) $$ Hh
  icases Hh with ⟨Hf, Hk⟩
  ihave Hp := (bigSep_upd (F := F) (sl t) (P := fun s => iprop(atPos ER (S.cell s) ((t.val + 1 - s.val) / 2) ∅ 0 ∗ reached ER (S.cell s) ((t.val + 1 - s.val) / 2))) (Q := fun s => iprop(atPos ER (S.cell s) ((t.val + 1 + 1 - s.val) / 2) ∅ 0 ∗ reached ER (S.cell s) ((t.val + 1 + 1 - s.val) / 2))) (fun j hj => by
    have hv : j.val ≠ t.val % 2 := Fin.val_ne_of_ne hj
    have := j.isLt
    have e : (t.val + 1 - j.val) / 2 = (t.val + 1 + 1 - j.val) / 2 := by omega
    show iprop(atPos ER (S.cell j) ((t.val + 1 - j.val) / 2) ∅ 0 ∗ reached ER (S.cell j) ((t.val + 1 - j.val) / 2)) = _
    rw [e])) $$ Hp
  icases Hp with ⟨Hat, Hkp⟩
  have e1 : S.st t.val hi t = iprop(cred (tallyAt (S.cell (sl t)) () NK) ∗ S.rest t) := by unfold st; rw [if_neg (lt_irrefl _), if_pos hhi]; rfl
  have e2 : S.st (t.val + 1) hi t = S.whole t := by unfold st; rw [if_pos (by omega)]
  have e3 : (t.val + 1 - (sl t).val) / 2 = rd t := by show (t.val + 1 - t.val % 2) / 2 = t.val / 2; omega
  have e4 : (t.val + 1 + 1 - (sl t).val) / 2 = rd t + 1 := by show (t.val + 1 + 1 - t.val % 2) / 2 = t.val / 2 + 1; omega
  ihave Hf := (Entails.of_eq e1) $$ Hf
  ihave Hat := (Entails.of_eq (show iprop(atPos ER (S.cell (sl t)) ((t.val + 1 - (sl t).val) / 2) ∅ 0 ∗ reached ER (S.cell (sl t)) ((t.val + 1 - (sl t).val) / 2))
    = (iprop(atPos ER (S.cell (sl t)) (rd t) ∅ 0 ∗ reached ER (S.cell (sl t)) (rd t)) : sProp 𝕄) by rw [e3])) $$ Hat
  icases Hf with ⟨Hc, Hrest⟩
  icases Hat with ⟨Hat, -⟩
  iapply (Rounds.wp_wait_rest_token 𝒱₀ ER (Rd I) (c : Thread nD τ) none (κ := κ (S.cell (sl t)))
      (wpE_waitDma2_eq (src := src) (dst := kvSlot S.B (sl t)) 𝒱₀ (c : Thread nD τ) none Set.univ) (Set.mem_univ _) () (O := OB c 0) (W := W) (R := rd t) (m := 0) (T := ∅)
      ((Nat.zero_add _).trans ((S.hN (sl t) (kvS S.b (sl t))).trans (expect_kv I c S.b (sl t) (rd t) (rd_lt t)).symm))) $$ [Hc HO Hat]
  · isplitr; · iapply (ctx_dma I κ c c _); iexact HΓ
    isplitl [Hc]
    · have e : (kvSlot S.B (sl t)).view.dmaCredit = NK := S.hN (sl t) (kvS S.b (sl t))
      rw [e]; iexact Hc
    isplitl [HO]; · iexact HO
    isplitr
    · iapply (mayWait c (.dma (kvS S.b (sl t))) (OB c 0) (by rw [lv_kv]; exact above_OB c 0)); iapply (ctx_lev I κ c); iexact HΓ
    iexact Hat
  iintro ⟨HO, Hat, Hr, Hpay⟩
  rw [wp_ret]
  imodintro
  ihave Hpay := (Entails.of_eq (rest_kv I c S.b (sl t) (rd t) (rd_lt t) _ (S.hP _ _))) $$ Hpay
  have e5 : hOf (sl t) (rd t) = t := hOf_sl t
  ihave Hpay := (Entails.of_eq (show iprop(ownsTc c (kvSlot S.B (sl t)) fullShare (S.Z (hOf (sl t) (rd t))) ∗ headPt c S.A (hd c (hOf (sl t) (rd t))) (lf (hOf (sl t) (rd t))) S.K)
    = iprop(ownsTc c (kvSlot S.B (sl t)) fullShare (S.Z t) ∗ headPt c S.A (hd c t) (lf t) S.K) by rw [e5])) $$ Hpay
  icases Hpay with ⟨Hs, Hd⟩
  isplitl [Hs]; · iexact Hs
  isplitl [Hk Hd Hrest]
  · iapply Hk
    iapply (Entails.of_eq e2.symm)
    iapply (S.whole_close t)
    isplitl [Hd]; · iexact Hd
    iexact Hrest
  isplitl [Hkp Hat Hr]
  · iapply Hkp
    iapply (Entails.of_eq (show (iprop(atPos ER (S.cell (sl t)) (rd t + 1) ∅ 0 ∗ reached ER (S.cell (sl t)) (rd t + 1)) : sProp 𝕄)
      = iprop(atPos ER (S.cell (sl t)) ((t.val + 1 + 1 - (sl t).val) / 2) ∅ 0 ∗ reached ER (S.cell (sl t)) ((t.val + 1 + 1 - (sl t).val) / 2)) by rw [e4]))
    isplitl [Hat]; · iexact Hat
    iexact Hr
  iexists _; iexact HO

/-- After the wait for head `t` its slot's next round is reached. -/
theorem pos_reached (t : Fin 8) : S.pos (t.val + 1) ⊢ (reached ER (S.cell (sl t)) (rd t + 1) : sProp 𝕄) := by
  unfold pos slotAt
  iintro H
  ihave H' := (bigSep_at (F := F) (Finset.mem_univ (sl t)) (Φ := fun s => iprop(atPos ER (S.cell s) ((t.val + 1 + 1 - s.val) / 2) ∅ 0 ∗ reached ER (S.cell s) ((t.val + 1 + 1 - s.val) / 2)))) $$ H
  have e4 : (t.val + 1 + 1 - (sl t).val) / 2 = rd t + 1 := by show (t.val + 1 + 1 - t.val % 2) / 2 = t.val / 2 + 1; omega
  ihave H' := (Entails.of_eq (show iprop(atPos ER (S.cell (sl t)) ((t.val + 1 + 1 - (sl t).val) / 2) ∅ 0 ∗ reached ER (S.cell (sl t)) ((t.val + 1 + 1 - (sl t).val) / 2))
    = (iprop(atPos ER (S.cell (sl t)) (rd t + 1) ∅ 0 ∗ reached ER (S.cell (sl t)) (rd t + 1)) : sProp 𝕄) by rw [e4])) $$ H'
  icases H' with ⟨-, Hr⟩
  iexact Hr

/-- No slot is free while copies are still to start. -/
theorem free_mid (t : ℕ) (h0 : 0 < t) (h : t < 7) : (iprop(emp) : sProp 𝕄) ⊢ S.free t := by
  unfold free
  rw [Idealize.SL.BI.bigSep_fin_two]
  have e : ∀ s : Fin 2, ¬ (t = 0 ∨ 7 + s.val ≤ t) := fun s => by omega
  rw [if_neg (e 0), if_neg (e 1)]
  refine (?_ : (iprop(emp) : sProp 𝕄) ⊢ iprop(emp ∗ emp))
  iintro -
  isplitr <;> iempintro

/-- The slot of head 6 or 7, once read, stays free. -/
theorem free_late (t : Fin 8) (h : 6 ≤ t.val) : iprop(ownsEx (F := F) c (kvSlot S.B (sl t)) fullShare ∗ S.free t.val) ⊢ S.free (t.val + 1) := by
  unfold free
  iintro ⟨Hs, H⟩
  ihave H := (bigSep_upd (F := F) (sl t) (P := fun s : Fin 2 => if t.val = 0 ∨ 7 + s.val ≤ t.val then ownsEx (F := F) c (kvSlot S.B s) fullShare else iprop(emp))
    (Q := fun s : Fin 2 => if t.val + 1 = 0 ∨ 7 + s.val ≤ t.val + 1 then ownsEx (F := F) c (kvSlot S.B s) fullShare else iprop(emp)) (fun j hj => by
    have hv : j.val ≠ t.val % 2 := Fin.val_ne_of_ne hj
    have := j.isLt
    by_cases h1 : 7 + j.val ≤ t.val
    · rw [if_pos (.inr h1), if_pos (.inr (by omega))]
    · rw [if_neg (by omega), if_neg (by omega)])) $$ H
  icases H with ⟨-, Hk⟩
  iapply Hk
  have e : 7 + (sl t).val ≤ t.val + 1 := by show 7 + t.val % 2 ≤ _; omega
  rw [if_pos (.inr e)]
  iexact Hs

end Side

end Cert.KernelIdeal.Run
-- ==== Proof.Head.lean ====
/- One head of the attention: the parts of the body that every grid point runs. -/
module

public import proofs.«01_k».proof.Proof.Ring

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F) (κ : GSem nD τ sig → ℕ) (c : Dev nD)
variable (i : grid0.Coords) (w : Memref sig .tc .vmem S1024x128 .f32) (hw : w.IsWhole)

/-- The table of the device's word. -/
abbrev tbM : Memref sig .tc .smem S1 .i32 := Memref.whole main_v6
/-- The window of the input, and its rounded copy. -/
abbrev xM : Memref sig .tc .vmem S512x1024 .f32 := Memref.whole cc0_stg0_0
abbrev xbM : Memref sig .tc .vmem S512x1024 .bf16 := Memref.whole cc0_scratch0

/-- The head that grid point `i` computes. -/
def pt (i : grid0.Coords) : Fin 8 := ⟨(i 0).val, (i 0).isLt⟩

/-! ## A branch that a grid point may skip -/

theorem branch {c : Dev nD} {Γ : sProp 𝕄} [BI.Persistent Γ] {P0 P1 R : sProp 𝕄} {cond : Prop} [Decidable cond] {α : Type}
    {A : cond → Prog (TpuEff nD τ sig (Elt F) Λ₀ .tc) α} {Φ : α → sProp 𝕄} {K : Prog (TpuEff nD τ sig (Elt F) Λ₀ .tc) α}
    (hA : ∀ h : cond, iprop((P1 -∗ WP c K Φ) ∗ Γ ∗ P0) ⊢ WP c (A h) Φ)
    (h0 : ¬ cond → P0 ⊢ P1) (hK : iprop(Γ ∗ P1 ∗ R) ⊢ WP c K Φ) :
    iprop(Γ ∗ P0 ∗ R) ⊢ WP c (if h : cond then A h else K) Φ := by
  by_cases h : cond
  · rw [dif_pos h]
    refine (?_ : _ ⊢ iprop((P1 -∗ WP c K Φ) ∗ Γ ∗ P0)).trans (hA h)
    iintro ⟨#HΓ, H, HR⟩
    isplitl [HR]
    · iintro H
      iapply hK
      isplitr; · iexact HΓ
      isplitl [H]; · iexact H
      iexact HR
    isplitr; · iexact HΓ
    iexact H
  · rw [dif_neg h]
    refine (?_ : _ ⊢ iprop(Γ ∗ P1 ∗ R)).trans hK
    iintro ⟨#HΓ, H, HR⟩
    isplitr; · iexact HΓ
    isplitl [H]; · iapply (h0 h); iexact H
    iexact HR

/-- `branch`, where what follows is kept under a name. -/
theorem branch_named {c : Dev nD} {Γ : sProp 𝕄} [BI.Persistent Γ] {P0 P1 R : sProp 𝕄} {cond : Prop} [Decidable cond] {α : Type}
    {A : cond → Prog (TpuEff nD τ sig (Elt F) Λ₀ .tc) α} {Φ : α → sProp 𝕄} {K : Prog (TpuEff nD τ sig (Elt F) Λ₀ .tc) α}
    (hA : ∀ (h : cond) (N : sProp 𝕄), (iprop(N ∗ P1) ⊢ WP c K Φ) → iprop(N ∗ Γ ∗ P0) ⊢ WP c (A h) Φ)
    (h0 : ¬ cond → P0 ⊢ P1) (hK : iprop(Γ ∗ P1 ∗ R) ⊢ WP c K Φ) :
    iprop(Γ ∗ P0 ∗ R) ⊢ WP c (if h : cond then A h else K) Φ :=
  branch (fun h => hA h _ (by iintro ⟨Hk, H⟩; iapply Hk; iexact H)) h0 hK

/-! ## A ring between grid points -/

theorem kvHead_eq (a : Memref sig .tc .hbm S2048x64x128 .f32) (h : Fin 64) (off : Fin 3 → ℕ) (e : off = ![0, h.val, 0]) (inb) (hr) :
    (a.slice (Rect.unit (s := S2048x64x128) off S2048x1x128.size inb) hr).squeeze S2048x128 squeezes_S2048x1x128_S2048x128 = kvHead a h := by
  subst e; rfl
theorem kvSlot_of (b : Memref sig .tc .vmem S2x2048x128 .f32) (s : Fin 2) (off : Fin 3 → ℕ) (e : off = ![s.val, 0, 0]) (inb) (hr) :
    (b.slice (Rect.unit (s := S2x2048x128) off S1x2048x128.size inb) hr).squeeze S2048x128 squeezes_S1x2048x128_S2048x128 = kvSlot b s := by
  subst e; rfl

namespace Side

variable {I c} (S : Side I c)

/-- After the first point a slot stays free once the last head that uses it is read. -/
def late (t : ℕ) : sProp 𝕄 := if t = 0 then iprop(emp) else S.free t
/-- Before grid point `t`. -/
def ring (t : ℕ) : sProp 𝕄 := iprop(S.heads t (if t = 0 then 0 else min (t + 2) 8) ∗ S.pos t ∗ S.free t)
/-- With head `t`'s copy started. -/
def loaded (t : ℕ) : sProp 𝕄 := iprop(S.heads t (min (t + 2) 8) ∗ S.pos t ∗ S.late t)

theorem ring_loaded (t : ℕ) (h : t ≠ 0) : S.ring t ⊢ S.loaded t := by
  unfold ring loaded late
  rw [if_neg h, if_neg h]

theorem loaded_zero : iprop(S.heads 0 2 ∗ S.pos 0) ⊢ S.loaded 0 := by
  unfold loaded late
  rw [if_pos rfl]
  iintro ⟨Hh, Hp⟩
  isplitl [Hh]; · iexact Hh
  isplitl [Hp]; · iexact Hp
  iempintro

theorem ring_zero : S.ring 0 ⊢ iprop(S.heads 0 0 ∗ S.pos 0 ∗ (ownsEx (F := F) c (kvSlot S.B 0) fullShare ∗ ownsEx (F := F) c (kvSlot S.B 1) fullShare)
    ∗ reached ER (S.cell 0) 0 ∗ reached ER (S.cell 1) 0) := by
  have e : S.free 0 = iprop(ownsEx (F := F) c (kvSlot S.B 0) fullShare ∗ ownsEx (F := F) c (kvSlot S.B 1) fullShare) := by
    unfold free
    rw [Idealize.SL.BI.bigSep_fin_two, if_pos (.inl rfl), if_pos (.inl rfl)]
    rfl
  have e' : S.pos 0 = iprop((atPos ER (S.cell 0) 0 ∅ 0 ∗ reached ER (S.cell 0) 0) ∗ (atPos ER (S.cell 1) 0 ∅ 0 ∗ reached ER (S.cell 1) 0)) := by
    unfold pos
    rw [Idealize.SL.BI.bigSep_fin_two]
    rfl
  unfold ring
  rw [if_pos rfl, e, e']
  iintro ⟨H, ⟨⟨H1, #H2⟩, ⟨H3, #H4⟩⟩, Hf⟩
  isplitl [H]; · iexact H
  isplitl [H1 H3]
  · isplitl [H1]
    · isplitl [H1]; · iexact H1
      iexact H2
    isplitl [H3]; · iexact H3
    iexact H4
  isplitl [Hf]; · iexact Hf
  isplitr; · iexact H2
  iexact H4

/-- The copy of head `h` into its slot. -/
def fillOp (h : ℕ) (A : Prog (TpuEff nD τ sig (Elt F) Λ₀ .tc) PUnit) : Prop :=
  ∃ (hh : h < 8), ∃ h1 h2 h3, A = Prog.lift (.enqueueDma (kvHead S.A (hd c ⟨h, hh⟩)) (.here (kvSlot S.B (sl ⟨h, hh⟩))) (.dma (kvS S.b (sl ⟨h, hh⟩))) h1 h2 h3)

theorem fillOp_intro (h : Fin 8) {src : Memref sig .tc .hbm S2048x128 .f32} (hsrc : src = kvHead S.A (hd c h))
    {dst : Memref sig .tc .vmem S2048x128 .f32} (hdst : dst = kvSlot S.B (sl h)) {sem : DmaSem sig} (hsem : sem = kvS S.b (sl h)) {h1 h2 h3} :
    S.fillOp h.val (Prog.lift (.enqueueDma src (.here dst) (.dma sem) h1 h2 h3)) := by
  subst hsrc hdst hsem
  exact ⟨h.isLt, h1, h2, h3, rfl⟩

/-- The read slot is filled again while heads are left. -/
theorem refill_turn (t : Fin 8) {cond : Prop} [Decidable cond] (hc : cond ↔ t.val + 2 < 8) {A : cond → Prog (TpuEff nD τ sig (Elt F) Λ₀ .tc) PUnit}
    (hA : ∀ h, S.fillOp (t.val + 2) (A h)) {α : Type} {Φ : α → sProp 𝕄} {K : Prog (TpuEff nD τ sig (Elt F) Λ₀ .tc) α} {R : sProp 𝕄}
    (hK : iprop(Ctx I κ c ∗ S.ring (t.val + 1) ∗ R) ⊢ WP c K Φ) :
    iprop(Ctx I κ c ∗ (ownsEx (F := F) c (kvSlot S.B (sl t)) fullShare ∗ S.heads (t.val + 1) (min (t.val + 2) 8) ∗ S.pos (t.val + 1) ∗ S.late t.val) ∗ R)
      ⊢ WP c (if h : cond then (A h >>= fun _ => K) else K) Φ := by
  refine branch (fun h => ?_) (fun h => ?_) hK
  · obtain ⟨hh, h1, h2, h3, e⟩ := hA h
    rw [e]
    have ht := hc.mp h
    have es : sl ⟨t.val + 2, hh⟩ = sl t := Fin.ext (by show (t.val + 2) % 2 = t.val % 2; omega)
    have er : rd t + 1 = rd ⟨t.val + 2, hh⟩ := by show t.val / 2 + 1 = (t.val + 2) / 2; omega
    have em : min (t.val + 2) 8 = (⟨t.val + 2, hh⟩ : Fin 8).val := Nat.min_eq_left (by omega)
    have em' : min (t.val + 1 + 2) 8 = (⟨t.val + 2, hh⟩ : Fin 8).val + 1 := by show _ = t.val + 2 + 1; omega
    refine wp_step (S.start κ ⟨t.val + 2, hh⟩ (t.val + 1) (by show t.val + 1 ≤ t.val + 2; omega) rfl rfl rfl (h1 := h1) (h2 := h2) (h3 := h3))
      (R := iprop((S.ring (t.val + 1) -∗ WP c K Φ) ∗ S.pos (t.val + 1))) ?_ fun _ => ?_
    · rw [es, ← er, em]
      iintro ⟨Hk, #HΓ, Hs, Hh, Hp, -⟩
      ihave #Hr := (S.pos_reached t) $$ Hp
      isplitr [Hk Hp]
      · isplitr; · iexact HΓ
        isplitr; · iexact Hr
        isplitl [Hs]; · iexact Hs
        iexact Hh
      isplitl [Hk]; · iexact Hk
      iexact Hp
    · unfold ring
      rw [if_neg (by omega), em']
      iintro ⟨Hh, Hk, Hp⟩
      iapply Hk
      isplitl [Hh]; · iexact Hh
      isplitl [Hp]; · iexact Hp
      iapply (S.free_mid (t.val + 1) (by omega) (by omega))
      iempintro
  · have ht : ¬ t.val + 2 < 8 := fun h' => h (hc.mpr h')
    have em : min (t.val + 2) 8 = min (t.val + 1 + 2) 8 := by omega
    unfold ring late
    rw [if_neg (by omega), if_neg (by omega), em]
    iintro ⟨Hs, Hh, Hp, Hf⟩
    isplitl [Hh]; · iexact Hh
    isplitl [Hp]; · iexact Hp
    iapply (S.free_late t (by omega))
    isplitl [Hs]; · iexact Hs
    iexact Hf

/-- The wait for head `t`, whose copy has started. -/
theorem wait_loaded (t : Fin 8) {src : Memref sig .tc .hbm S2048x128 .f32}
    {dst : Memref sig .tc .vmem S2048x128 .f32} (hdst : dst = kvSlot S.B (sl t)) {sem : DmaSem sig} (hsem : sem = kvS S.b (sl t)) {h1 h2} :
    iprop(Ctx I κ c ∗ S.loaded t.val ∗ Ow c (OB c 0))
      ⊢ WP c (Prog.lift (.waitDma2 sem src dst h1 h2)) (fun _ => iprop((ownsTc c (kvSlot S.B (sl t)) fullShare (S.Z t)
        ∗ S.heads (t.val + 1) (min (t.val + 2) 8) ∗ S.pos (t.val + 1) ∗ S.late t.val) ∗ Ow c (OB c 0))) := by
  refine (?_ : _ ⊢ iprop((Ctx I κ c ∗ S.heads t.val (min (t.val + 2) 8) ∗ S.pos t.val ∗ Ow c (OB c 0)) ∗ S.late t.val)).trans ?_
  · unfold loaded
    iintro ⟨#HΓ, ⟨Hh, Hp, Hl⟩, HO⟩
    isplitr [Hl]
    · isplitr; · iexact HΓ
      isplitl [Hh]; · iexact Hh
      isplitl [Hp]; · iexact Hp
      iexact HO
    iexact Hl
  iintro ⟨H, Hl⟩
  unfold WP
  iapply (wp_wand _ _ _) $$ [H]
  · iapply (S.wait κ t (min (t.val + 2) 8) (by have := t.isLt; omega) hdst hsem); iexact H
  iintro %_ ⟨Hs, Hh, Hp, HO⟩
  isplitr [HO]
  · isplitl [Hs]; · iexact Hs
    isplitl [Hh]; · iexact Hh
    isplitl [Hp]; · iexact Hp
    iexact Hl
  iexact HO

/-- The load of a slot. -/
theorem load_slot (s : Fin 2) (Y : Vec F S2048x128 .f32) (off : Fin 3 → ℕ) (e : off = ![s.val, 0, 0]) (inb) (hl) :
    (ownsTc c (kvSlot S.B s) fullShare Y : sProp 𝕄)
      ⊢ WP c (Prog.lift (.load S.B (Rect.unit (s := S2x2048x128) off S1x2048x128.size inb).toLoadRect hl))
        (fun v => iprop(⌜v = shapeCast S1x2048x128 Y casts_2⌝ ∗ ownsTc c (kvSlot S.B s) fullShare Y)) := by
  subst e
  rw [kvSlot_eq]
  exact load_slice c S.B _ (fun _ => rfl) fullShare _ hl

end Side

/-! ## The attention's output, head by head -/

/-- The columns of head `h`. -/
abbrev colM (h : Fin 8) : Memref sig .tc .vmem S512x128 .bf16 := oS.slice (colR h) (fun _ => rfl)

/-- The columns below `t` hold their heads' outputs. -/
def outs (t : ℕ) : sProp 𝕄 :=
  bigSep Finset.univ fun h : Fin 8 => if h.val < t then ownsTc c (colM h) fullShare (att I c h) else ownsEx (F := F) c (colM h) fullShare

theorem outs_start (X : Vec F S512x1024 .bf16) : ownsTc c oS fullShare X ⊢ outs I c 0 := by
  unfold outs
  refine (owns_rects (c : Thread nD τ) oS fullShare colR (fun _ _ => rfl) (fun _ _ h => colR_disjoint h) colR_cover X).trans (bigSep_mono fun h _ => ?_)
  rw [if_neg (Nat.not_lt_zero _)]
  show (ownsTc c (colM h) fullShare (colsOf X h) : sProp 𝕄) ⊢ ownsEx (F := F) c (colM h) fullShare
  iintro H
  iexists _
  iexact H

theorem outs_end : outs I c 8 ⊢ ownsTc c oS fullShare (oval I c) := by
  unfold outs
  refine (bigSep_mono fun h _ => ?_).trans
    (owns_of_rects (c : Thread nD τ) oS fullShare colR (fun _ _ => rfl) (fun _ _ h => colR_disjoint h) colR_cover (oval I c))
  rw [if_pos h.isLt]
  show (ownsTc c (colM h) fullShare (att I c h) : sProp 𝕄) ⊢ ownsTc c (colM h) fullShare (colsOf (oval I c) h)
  rw [show colsOf (oval I c) h = att I c h from colsOf_glue _ h]

theorem outs_take (t : Fin 8) : outs I c t.val ⊢ iprop(ownsEx (F := F) c (colM t) fullShare ∗ (ownsTc c (colM t) fullShare (att I c t) -∗ outs I c (t.val + 1))) := by
  unfold outs
  refine (bigSep_upd (F := F) t (P := fun h : Fin 8 => if h.val < t.val then ownsTc c (colM h) fullShare (att I c h) else ownsEx (F := F) c (colM h) fullShare)
    (Q := fun h : Fin 8 => if h.val < t.val + 1 then ownsTc c (colM h) fullShare (att I c h) else ownsEx (F := F) c (colM h) fullShare) (fun j hj => by
    have hv := Fin.val_ne_of_ne hj
    by_cases h1 : j.val < t.val
    · rw [if_pos h1, if_pos (by omega)]
    · rw [if_neg h1, if_neg (by omega : ¬ j.val < t.val + 1)])).trans ?_
  rw [if_neg (lt_irrefl _), if_pos (Nat.lt_succ_self _)]

theorem load_cols (h : Fin 8) (off : Fin 2 → ℕ) (e : off = ![0, 128 * h.val]) (inb) (hl) :
    (ownsEx (F := F) c (colM h) fullShare : sProp 𝕄)
      ⊢ WP c (Prog.lift (.load oS (Rect.unit (s := S512x1024) off S512x128.size inb).toLoadRect hl)) (fun _ => ownsEx (F := F) c (colM h) fullShare) := by
  subst e
  iintro ⟨%X, H⟩
  unfold WP
  iapply (wp_wand _ _ _) $$ [H]
  · iapply (load_slice c oS (colR h) (fun _ => rfl) fullShare X hl); iexact H
  iintro %_ ⟨-, H⟩
  iexists X
  iexact H

theorem store_cols (h : Fin 8) (off : Fin 2 → ℕ) (e : off = ![0, 128 * h.val]) (inb) (x : Vec F S512x128 .bf16) (hx) (hm) :
    (ownsEx (F := F) c (colM h) fullShare : sProp 𝕄)
      ⊢ WP c (Prog.lift (.store oS (Rect.unit (s := S512x1024) off S512x128.size inb) x Finset.univ hx hm)) (fun _ => ownsTc c (colM h) fullShare x) := by
  subst e
  iintro ⟨%X, H⟩
  iapply (store_slice c oS (colR h) (fun _ => rfl) X x hx hm)
  iexact H

/-! ## The device's word -/

theorem read_word {inb : ∀ a, (![0] : Fin 1 → ℕ) a + S1.size a ≤ S1.size a} (h1) (hp) :
    (ownsTc c tbM fullShare (fun _ => tw c) : sProp 𝕄)
      ⊢ WP c (smemLoad tbM (Rect.unit (s := S1) ![0] S1.size inb) h1 hp) (fun v => iprop(⌜v = tw c⌝ ∗ ownsTc c tbM fullShare (fun _ => tw c))) := by
  unfold smemLoad smemLoadElt WP
  rw [← Prog.bind_lift, wp_bind]
  iintro H
  iapply (wp_wand _ _ _) $$ [H]
  · iapply (load_part c tbM (Rect.unit (s := S1) ![0] S1.size inb) fullShare (fun _ => tw c) (View.loadsAt_rect (View.loads_smem_one hp h1))); iexact H
  iintro %f ⟨%hf, H⟩
  subst hf
  rw [wp_ret]
  imodintro
  isplitr; · ipureintro; rfl
  iexact H

/-! ## The first part of a point -/

/-- The rounded input, once the first point has made it. -/
def XB (t : ℕ) : sProp 𝕄 := if t = 0 then ownsEx (F := F) c xbM fullShare else ownsTc c xbM fullShare (xb I c)

theorem part1_spec (h1 : k0_cond1 i = 1#1) (chk) (v19 : BitVec 32) :
    iprop(Ctx I κ c ∗ ((kSide I c).ring 0 ∗ (vSide I c).ring 0) ∗ ownsTc c xM fullShare (I c).x)
      ⊢ WP c (k0_part1 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          (tw c) chk v19 h1)
        (fun r => iprop(⌜r = k0_pay1 (I c).x⌝ ∗ ((kSide I c).loaded 0 ∗ (vSide I c).loaded 0) ∗ ownsTc c xM fullShare (I c).x)) := by
  have hi : (i 0).val = 0 := (cond1_iff i).mp h1
  have o1 : k0_off1 i (tw c) = ![0, (hd c 0).val, 0] := by rw [off1_tw, hi]; rfl
  have o2 : k0_off2 i (tw c) = ![0, (hd c 1).val, 0] := by rw [off2_tw, hi]; rfl
  rw [k0_part1_eq_skeleton]; unfold k0_part1_skel
  dsimp only
  iintro ⟨#HΓ, ⟨Hk, Hv⟩, Hx⟩
  ihave Hk := ((kSide I c).ring_zero) $$ Hk
  icases Hk with ⟨Hk, Hkp, ⟨Hk0, Hk1⟩, #Hkr0, #Hkr1⟩
  ihave Hv := ((vSide I c).ring_zero) $$ Hv
  icases Hv with ⟨Hv, Hvp, ⟨Hv0, Hv1⟩, #Hvr0, #Hvr1⟩
  unfold WP
  rw [wp_bind]
  iapply (wp_wand _ _ _) $$ [Hk Hk0]
  · iapply ((kSide I c).start κ 0 0 (Nat.le_refl 0) (kvHead_eq _ _ _ o1 _ _) (kvSlot_of _ _ _ rfl _ _) (kS_eq _ _ rfl _))
    isplitr; · iexact HΓ
    isplitr; · iexact Hkr0
    isplitl [Hk0]; · iexact Hk0
    iexact Hk
  iintro %_ Hk
  rw [wp_bind]
  iapply (wp_wand _ _ _) $$ [Hv Hv0]
  · iapply ((vSide I c).start κ 0 0 (Nat.le_refl 0) (kvHead_eq _ _ _ o1 _ _) (kvSlot_of _ _ _ rfl _ _) (vS_eq _ _ rfl _))
    isplitr; · iexact HΓ
    isplitr; · iexact Hvr0
    isplitl [Hv0]; · iexact Hv0
    iexact Hv
  iintro %_ Hv
  rw [wp_bind]
  iapply (wp_wand _ _ _) $$ [Hk Hk1]
  · iapply ((kSide I c).start κ 1 0 (Nat.zero_le _) (kvHead_eq _ _ _ o2 _ _) (kvSlot_of _ _ _ rfl _ _) (kS_eq _ _ rfl _))
    isplitr; · iexact HΓ
    isplitr; · iexact Hkr1
    isplitl [Hk1]; · iexact Hk1
    iexact Hk
  iintro %_ Hk
  rw [wp_bind]
  iapply (wp_wand _ _ _) $$ [Hv Hv1]
  · iapply ((vSide I c).start κ 1 0 (Nat.zero_le _) (kvHead_eq _ _ _ o2 _ _) (kvSlot_of _ _ _ rfl _ _) (vS_eq _ _ rfl _))
    isplitr; · iexact HΓ
    isplitr; · iexact Hvr1
    isplitl [Hv1]; · iexact Hv1
    iexact Hv
  iintro %_ Hv
  rw [wp_bind]
  iapply (wp_wand _ _ _) $$ [Hx]
  · iapply (load_all c xM _ zero2 _ fullShare (I c).x _); iexact Hx
  iintro %v ⟨%hv, Hx⟩
  subst hv
  rw [Prog.pure_eq_ret, wp_ret]
  imodintro
  isplitr; · ipureintro; rfl
  isplitr [Hx]
  · isplitl [Hk Hkp]
    · iapply ((kSide I c).loaded_zero)
      isplitl [Hk]; · iexact Hk
      iexact Hkp
    iapply ((vSide I c).loaded_zero)
    isplitl [Hv]; · iexact Hv
    iexact Hvp
  iexact Hx

theorem part7_spec :
    iprop(Ctx I κ c ∗ (((kSide I c).ring (pt i).val ∗ (vSide I c).ring (pt i).val) ∗ ownsTc c xM fullShare (I c).x ∗ XB I c (pt i).val)
        ∗ (ownsTc c tbM fullShare (fun _ => tw c) ∗ ownsTc c w fullShare (wqb (I c).wq (pt i))))
      ⊢ WP c (k0_part7 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
        (fun r => iprop(⌜∃ v19 v20, r = ⟨BitVec.ofNat 32 (i 0).val, tw c, chk2_tw i c, pw c, tw c, chk1_tw i c, v19, v20, qh I c (pt i)⟩⌝
          ∗ ((kSide I c).loaded (pt i).val ∗ (vSide I c).loaded (pt i).val) ∗ ownsTc c xM fullShare (I c).x ∗ ownsTc c xbM fullShare (xb I c)
          ∗ (ownsTc c tbM fullShare (fun _ => tw c) ∗ ownsTc c w fullShare (wqb (I c).wq (pt i))))) := by
  rw [k0_part7_eq_skeleton]; unfold k0_part7_skel
  dsimp only
  iintro ⟨#HΓ, H, ⟨Ht, Hw⟩⟩
  unfold WP
  rw [wp_bind]
  iapply (wp_wand _ _ _) $$ [Ht]
  · iapply (read_word c _ _); iexact Ht
  iintro %v ⟨%hv, Ht⟩
  subst hv
  rw [Prog.bind_lift, wp_assume_of _ _ _ _ (chk2_tw i c), wp_bind]
  iapply (wp_wand _ _ _) $$ [Ht]
  · iapply (read_word c _ _); iexact Ht
  iintro %v ⟨%hv, Ht⟩
  subst hv
  rw [Prog.bind_lift, wp_assume_of _ _ _ _ (chk1_tw i c)]
  iapply (?_ : iprop(Ctx I κ c ∗ (((kSide I c).ring (pt i).val ∗ (vSide I c).ring (pt i).val) ∗ ownsTc c xM fullShare (I c).x ∗ XB I c (pt i).val)
        ∗ (ownsTc c tbM fullShare (fun _ => tw c) ∗ ownsTc c w fullShare (wqb (I c).wq (pt i)))) ⊢ _)
  rotate_left
  · isplitr; · iexact HΓ
    isplitl [H]; · iexact H
    isplitl [Ht]; · iexact Ht
    iexact Hw
  refine branch_named (P1 := iprop(((kSide I c).loaded (pt i).val ∗ (vSide I c).loaded (pt i).val) ∗ ownsTc c xM fullShare (I c).x ∗ ownsTc c xbM fullShare (xb I c)))
    (fun h1 N hN => ?_) (fun h1 => ?_) ?_
  · have e : (pt i).val = 0 := (cond1_iff i).mp h1
    rw [e] at hN ⊢
    unfold XB
    rw [if_pos rfl]
    iintro ⟨Hk, #HΓ, Hr, Hx, ⟨%X, Hb⟩⟩
    unfold WP
    rw [wp_bind]
    iapply (wp_wand _ _ _) $$ [Hr Hx]
    · iapply (part1_spec I κ c i w hw h1 _ _)
      isplitr; · iexact HΓ
      isplitl [Hr]; · iexact Hr
      iexact Hx
    iintro %v ⟨%hv, Hr, Hx⟩
    subst hv
    rw [wp_bind]
    iapply (wp_wand _ _ _) $$ [Hb]
    · iapply (load_all c xbM _ zero2 _ fullShare X _); iexact Hb
    iintro %_ ⟨-, Hb⟩
    rw [wp_bind]
    iapply (wp_wand _ _ _) $$ [Hb]
    · iapply (store_all c xbM _ zero2 _ X _ _ _); iexact Hb
    iintro %_ Hb
    iapply hN
    isplitl [Hk]; · iexact Hk
    isplitl [Hr]; · iexact Hr
    isplitl [Hx]; · iexact Hx
    iexact Hb
  · have e : (pt i).val ≠ 0 := fun h => h1 ((cond1_iff i).mpr h)
    unfold XB
    rw [if_neg e]
    iintro ⟨⟨Hk, Hv⟩, H⟩
    isplitr [H]
    · isplitl [Hk]; · iapply ((kSide I c).ring_loaded _ e); iexact Hk
      iapply ((vSide I c).ring_loaded _ e); iexact Hv
    iexact H
  iintro ⟨-, ⟨Hr, Hx, Hb⟩, ⟨Ht, Hw⟩⟩
  unfold WP
  rw [wp_bind]
  iapply (wp_wand _ _ _) $$ [Hb]
  · iapply (load_all c xbM _ zero2 _ fullShare (xb I c) _); iexact Hb
  iintro %v ⟨%hv, Hb⟩
  subst hv
  rw [wp_bind]
  iapply (wp_wand _ _ _) $$ [Hw]
  · iapply (load_all c w _ zero2 _ fullShare (wqb (I c).wq (pt i)) _); iexact Hw
  iintro %v ⟨%hv, Hw⟩
  subst hv
  rw [Prog.pure_eq_ret, wp_ret]
  imodintro
  isplitr
  · ipureintro
    refine ⟨Scalar.addi (tw c) (BitVec.ofNat 32 (i 0).val), Scalar.remsi (BitVec.ofNat 32 (i 0).val) 2#32, ?_⟩
    rw [pos_tw c]
    rfl
  isplitl [Hr]; · iexact Hr
  isplitl [Hx]; · iexact Hx
  isplitl [Hb]; · iexact Hb
  isplitl [Ht]; · iexact Ht
  iexact Hw

/-! ## The second part of a point -/

theorem part8_spec (v0 : BitVec 32) (v19 v20 : BitVec 32) (chk) :
    iprop(Ctx I κ c ∗ ((kSide I c).loaded (pt i).val ∗ (vSide I c).loaded (pt i).val) ∗ Ow c (OB c 0) ∗ outs I c (pt i).val)
      ⊢ WP c (k0_part8 (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11
          v0 (tw c) chk v19 v20 (qh I c (pt i)))
        (fun _ => iprop(((kSide I c).ring ((pt i).val + 1) ∗ (vSide I c).ring ((pt i).val + 1)) ∗ Ow c (OB c 0) ∗ outs I c ((pt i).val + 1))) := by
  have o3 : k0_off3 i = ![(sl (pt i)).val] := k0_off3_eq i
  have o4 : k0_off4 i = ![(sl (pt i)).val, 0, 0] := k0_off4_eq i
  have o6 : k0_off6 i = ![(sl (pt i)).val, 0, 0] := k0_off6_eq i
  have o13 : k0_off13 i = ![0, 128 * (pt i).val] := k0_off13_eq i
  have es (hh : (pt i).val + 2 < 8) : (sl (pt i)).val = (sl ⟨(pt i).val + 2, hh⟩).val := by show (pt i).val % 2 = ((pt i).val + 2) % 2; omega
  rw [k0_part8_eq_skeleton]; unfold k0_part8_skel
  dsimp only
  iintro ⟨#HΓ, ⟨Hk, Hv⟩, HO, Ho⟩
  unfold WP
  rw [wp_bind]
  iapply (wp_wand _ _ _) $$ [Hk HO]
  · iapply ((kSide I c).wait_loaded κ (pt i) (kvSlot_of _ _ _ o4 _ _) (kS_eq _ _ o3 _))
    isplitr; · iexact HΓ
    isplitl [Hk]; · iexact Hk
    iexact HO
  iintro %_ ⟨⟨Hs, Hk⟩, HO⟩
  rw [wp_bind]
  iapply (wp_wand _ _ _) $$ [Hs]
  · iapply ((kSide I c).load_slot (sl (pt i)) _ _ o6 _ _); iexact Hs
  iintro %v ⟨%hv, Hs⟩
  subst hv
  iapply (?_ : iprop(Ctx I κ c ∗ (ownsEx (F := F) c (kvSlot (kSide I c).B (sl (pt i))) fullShare ∗ (kSide I c).heads ((pt i).val + 1) (min ((pt i).val + 2) 8)
      ∗ (kSide I c).pos ((pt i).val + 1) ∗ (kSide I c).late (pt i).val) ∗ ((vSide I c).loaded (pt i).val ∗ Ow c (OB c 0) ∗ outs I c (pt i).val)) ⊢ _)
  rotate_left
  · isplitr; · iexact HΓ
    isplitl [Hs Hk]
    · isplitl [Hs]; · iexists _; iexact Hs
      iexact Hk
    isplitl [Hv]; · iexact Hv
    isplitl [HO]; · iexact HO
    iexact Ho
  refine (kSide I c).refill_turn κ (pt i) (cond2_iff i) (fun h => (kSide I c).fillOp_intro ⟨(pt i).val + 2, (cond2_iff i).mp h⟩
    (kvHead_eq _ _ _ (off9_tw i c) _ _) (kvSlot_of _ _ _ ((k0_off8_eq i).trans (congrArg (fun n => ![n, 0, 0]) (es ((cond2_iff i).mp h)))) _ _) (kS_eq _ _ ((k0_off7_eq i).trans (congrArg (fun n => ![n]) (es ((cond2_iff i).mp h)))) _)) ?_
  iintro ⟨#HΓ, Hk, ⟨Hv, HO, Ho⟩⟩
  unfold WP
  rw [wp_bind]
  iapply (wp_wand _ _ _) $$ [Hv HO]
  · iapply ((vSide I c).wait_loaded κ (pt i) (kvSlot_of _ _ _ o4 _ _) (vS_eq _ _ o3 _))
    isplitr; · iexact HΓ
    isplitl [Hv]; · iexact Hv
    iexact HO
  iintro %_ ⟨⟨Hs, Hv⟩, HO⟩
  rw [wp_bind]
  iapply (wp_wand _ _ _) $$ [Hs]
  · iapply ((vSide I c).load_slot (sl (pt i)) _ _ o6 _ _); iexact Hs
  iintro %v ⟨%hv, Hs⟩
  subst hv
  iapply (?_ : iprop(Ctx I κ c ∗ (ownsEx (F := F) c (kvSlot (vSide I c).B (sl (pt i))) fullShare ∗ (vSide I c).heads ((pt i).val + 1) (min ((pt i).val + 2) 8)
      ∗ (vSide I c).pos ((pt i).val + 1) ∗ (vSide I c).late (pt i).val) ∗ ((kSide I c).ring ((pt i).val + 1) ∗ Ow c (OB c 0) ∗ outs I c (pt i).val)) ⊢ _)
  rotate_left
  · isplitr; · iexact HΓ
    isplitl [Hs Hv]
    · isplitl [Hs]; · iexists _; iexact Hs
      iexact Hv
    isplitl [Hk]; · iexact Hk
    isplitl [HO]; · iexact HO
    iexact Ho
  refine (vSide I c).refill_turn κ (pt i) (cond3_iff i) (fun h => (vSide I c).fillOp_intro ⟨(pt i).val + 2, (cond3_iff i).mp h⟩
    (kvHead_eq _ _ _ (off12_tw i c) _ _) (kvSlot_of _ _ _ ((k0_off11_eq i).trans (congrArg (fun n => ![n, 0, 0]) (es ((cond3_iff i).mp h)))) _ _) (vS_eq _ _ ((k0_off10_eq i).trans (congrArg (fun n => ![n]) (es ((cond3_iff i).mp h)))) _)) ?_
  iintro ⟨-, Hv, ⟨Hk, HO, Ho⟩⟩
  ihave Ho := (outs_take I c (pt i)) $$ Ho
  icases Ho with ⟨Ho, Hc⟩
  unfold WP
  rw [wp_bind]
  iapply (wp_wand _ _ _) $$ [Ho]
  · iapply (load_cols c (pt i) _ o13 _ _); iexact Ho
  iintro %_ Ho
  rw [wp_bind]
  iapply (wp_wand _ _ _) $$ [Ho]
  · iapply (store_cols c (pt i) _ o13 _ _ _ _); iexact Ho
  iintro %_ Ho
  rw [Prog.pure_eq_ret, wp_ret]
  imodintro
  isplitl [Hk Hv]
  · isplitl [Hk]; · iexact Hk
    iexact Hv
  isplitl [HO]; · iexact HO
  iapply Hc
  iexact Ho

end Cert.KernelIdeal.Run
-- ==== Proof.Body.lean ====
/- The whole body at one grid point: at the last point the exchange follows the head. -/
module

public import proofs.«01_k».proof.Proof.Head

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F) (κ : GSem nD τ sig → ℕ) (c : Dev nD)
variable (i : grid0.Coords) (w : Memref sig .tc .vmem S1024x128 .f32) (hw : w.IsWhole)

/-! ## What the exchange starts from and what it leaves -/

/-- The duty of the signal to `p`. -/
def tok0 (p : Dev nD) : sProp 𝕄 := dutyTok ER (barCell p) 0 c
/-- The duties of the finished rows' copy to `p`. -/
def tok2 (p : Dev nD) : sProp 𝕄 := iprop(dutyTok ER (dmaCell c (agSend p)) 0 0 ∗ dutyTok ER (dmaCell p (agRecv c)) 0 0)
/-- The cells of the two sends to `p`, before and after their waits, and of the block from `p`. -/
def rsAt0 (p : Dev nD) : sProp 𝕄 := atPos ER (dmaCell c (rsSend p)) 0 ∅ 0
def agAt0 (p : Dev nD) : sProp 𝕄 := atPos ER (dmaCell c (agSend p)) 0 ∅ 0
def rsAt1 (p : Dev nD) : sProp 𝕄 := atPos ER (dmaCell c (rsSend p)) 1 ∅ 0
def agAt1 (p : Dev nD) : sProp 𝕄 := atPos ER (dmaCell c (agSend p)) 1 ∅ 0
def rvAt1 (p : Dev nD) : sProp 𝕄 := atPos ER (dmaCell c (rsRecv p)) 1 ∅ 0

/-- Before the exchange. -/
def TalkIn : sProp 𝕄 :=
  iprop((cred (tallyAt (barCell c) () 7) ∗ atPos ER (barCell c) 0 ∅ 0)
    ∗ bigSep (Finset.univ.erase c) (tok0 (F := F) c) ∗ bigSep (Finset.univ.erase c) (tok1 (F := F) c) ∗ bigSep (Finset.univ.erase c) (Pre2 (F := F) c)
    ∗ bigSep (Finset.univ.erase c) (tok2 (F := F) c) ∗ bigSep (Finset.univ.erase c) (Pre4 (F := F) c)
    ∗ bigSep (Finset.univ.erase c) (rsAt0 (F := F) c) ∗ bigSep (Finset.univ.erase c) (agAt0 (F := F) c)
    ∗ ownsEx (F := F) c rvW fullShare ∗ ownsEx (F := F) c stW fullShare)

/-- After it. -/
def TalkOut : sProp 𝕄 :=
  iprop(atPos ER (barCell c) 1 ∅ 0
    ∗ bigSep (Finset.univ.erase c) (rvAt1 (F := F) c) ∗ bigSep (Finset.univ.erase c) (rsAt1 (F := F) c)
    ∗ bigSep (Finset.univ.erase c) (atAg (F := F) c) ∗ bigSep (Finset.univ.erase c) (agAt1 (F := F) c)
    ∗ ownsEx (F := F) c rvW fullShare ∗ ownsEx (F := F) c stW fullShare)

/-- The receive buffer goes out to the peers, all but the own slot. -/
theorem slots_out : iprop(bigSep (Finset.univ.erase c) (tok0 (F := F) c) ∗ ownsEx (F := F) c rvW fullShare)
    ⊢ iprop(fam c (Pre0 (F := F) c) Post0 0 ∗ ownsEx (F := F) c (slotM c) fullShare) := by
  rw [← fam_zero]
  iintro ⟨Ht, ⟨%X, Hs⟩⟩
  ihave Hs := (slot_split c X) $$ Hs
  ihave Hs := (Entails.of_eq (bigSep_self c _)) $$ Hs
  icases Hs with ⟨Hc, Hs⟩
  isplitr [Hc]
  · iapply (bigSep_zip (P := tok0 (F := F) c) (Q := fun s => ownsEx (F := F) c (slotM s) fullShare) (R := Pre0 (F := F) c)
      (fun p _ => by unfold tok0 Pre0; exact BI.Entails.refl _))
    isplitl [Ht]; · iexact Ht
    iexact Hs
  iexact Hc

/-- The received blocks' slots come back, and the peers' rows. -/
theorem slots_in : iprop(bigSep (Finset.univ.erase c) (Post2 (F := F) c) ∗ ownsEx (F := F) c (slotM c) fullShare)
    ⊢ iprop(bigSep (Finset.univ.erase c) (rvAt1 (F := F) c) ∗ ownsEx (F := F) c rvW fullShare
      ∗ bigSep (Finset.univ.erase c) fun s => ownsEx (F := F) s (stM c) fullShare) := by
  iintro ⟨H, Hc⟩
  ihave H := (bigSep_unzip (S := Finset.univ.erase c) (R := Post2 (F := F) c) (P := rvAt1 (F := F) c)
    (Q := fun s => iprop(ownsEx (F := F) c (slotM s) fullShare ∗ ownsEx (F := F) s (stM c) fullShare)) (fun s _ => by unfold Post2 rvAt1; exact BI.Entails.refl _)) $$ H
  icases H with ⟨Hat, H⟩
  ihave H := (bigSep_unzip (S := Finset.univ.erase c) (R := fun s => iprop(ownsEx (F := F) c (slotM s) fullShare ∗ ownsEx (F := F) s (stM c) fullShare))
    (P := fun s => ownsEx (F := F) c (slotM s) fullShare) (Q := fun s => ownsEx (F := F) s (stM c) fullShare) (fun s _ => BI.Entails.refl _)) $$ H
  icases H with ⟨Hs, Hr⟩
  isplitl [Hat]; · iexact Hat
  isplitl [Hs Hc]
  · iapply (slot_join c)
    iapply (Entails.of_eq (bigSep_self c (fun s => ownsEx (F := F) c (slotM s) fullShare)).symm)
    isplitl [Hc]; · iexact Hc
    iexact Hs
  iexact Hr

theorem tok3_of : iprop((bigSep (Finset.univ.erase c) fun s => ownsEx (F := F) s (stM c) fullShare) ∗ bigSep (Finset.univ.erase c) (agRc (F := F) c)
      ∗ bigSep (Finset.univ.erase c) (tok2 (F := F) c)) ⊢ bigSep (Finset.univ.erase c) (tok3 (F := F) c) := by
  iintro ⟨H1, H2, H3⟩
  iapply (bigSep_zip (P := fun s => ownsEx (F := F) s (stM c) fullShare) (Q := fun p => iprop(agRc (F := F) c p ∗ tok2 (F := F) c p)) (R := tok3 (F := F) c)
    (fun p _ => by unfold tok2 tok3; exact BI.Entails.refl _))
  isplitl [H1]; · iexact H1
  iapply (bigSep_zip (P := agRc (F := F) c) (Q := tok2 (F := F) c) (R := fun p => iprop(agRc (F := F) c p ∗ tok2 (F := F) c p)) (fun p _ => BI.Entails.refl _))
  isplitl [H2]; · iexact H2
  iexact H3

theorem pre5_of : iprop((bigSep (Finset.univ.erase c) (Post1 (F := F) c) ∗ bigSep (Finset.univ.erase c) (rsAt0 (F := F) c))
      ∗ (bigSep (Finset.univ.erase c) (Post3 (F := F) c) ∗ bigSep (Finset.univ.erase c) (agAt0 (F := F) c))) ⊢ bigSep (Finset.univ.erase c) (Pre5 (F := F) c) := by
  iintro ⟨⟨H1, H2⟩, ⟨H3, H4⟩⟩
  iapply (bigSep_zip (P := fun p => iprop(Post1 (F := F) c p ∗ rsAt0 (F := F) c p)) (Q := fun p => iprop(Post3 (F := F) c p ∗ agAt0 (F := F) c p)) (R := Pre5 (F := F) c)
    (fun p _ => by unfold Pre5 Post1 Post3 rsAt0 agAt0; exact BI.Entails.refl _))
  isplitl [H1 H2]
  · iapply (bigSep_zip (P := Post1 (F := F) c) (Q := rsAt0 (F := F) c) (R := fun p => iprop(Post1 (F := F) c p ∗ rsAt0 (F := F) c p)) (fun p _ => BI.Entails.refl _))
    isplitl [H1]; · iexact H1
    iexact H2
  iapply (bigSep_zip (P := Post3 (F := F) c) (Q := agAt0 (F := F) c) (R := fun p => iprop(Post3 (F := F) c p ∗ agAt0 (F := F) c p)) (fun p _ => BI.Entails.refl _))
  isplitl [H3]; · iexact H3
  iexact H4

/-- The staging rows come together again. -/
theorem rows_back : iprop(Rows I c ∗ bigSep (Finset.univ.erase c) (Post5 I c))
    ⊢ iprop(bigSep (Finset.univ.erase c) (rsAt1 (F := F) c) ∗ bigSep (Finset.univ.erase c) (agAt1 (F := F) c) ∗ ownsEx (F := F) c stW fullShare) := by
  unfold Rows
  iintro ⟨⟨Hc, Hs⟩, H⟩
  ihave H := (bigSep_unzip (S := Finset.univ.erase c) (R := Post5 I c) (P := rsAt1 (F := F) c) (Q := fun p => iprop(agAt1 (F := F) c p ∗ agSendPay I c p))
    (fun s _ => by unfold Post5 rsAt1 agAt1; exact BI.Entails.refl _)) $$ H
  icases H with ⟨H1, H⟩
  ihave H := (bigSep_unzip (S := Finset.univ.erase c) (R := fun p => iprop(agAt1 (F := F) c p ∗ agSendPay I c p)) (P := agAt1 (F := F) c) (Q := agSendPay I c)
    (fun s _ => BI.Entails.refl _)) $$ H
  icases H with ⟨H2, H⟩
  isplitl [H1]; · iexact H1
  isplitl [H2]; · iexact H2
  iexists (ST I)
  iapply (stage_join c fullShare (ST I))
  iapply (Entails.of_eq (bigSep_self c (fun p => ownsTc c (stM p) fullShare (rowsOf (ST I) p))).symm)
  isplitl [Hc H]
  · iapply (Entails.of_eq (show (bigSep Finset.univ fun p : Dev nD => ownsTc c (stM c) (lf p) (red I c)) = ownsTc c (stM c) fullShare (rowsOf (ST I) c) by
      unfold ST; rw [rowsOf_glue, owns_leaves]))
    iapply (Entails.of_eq (bigSep_self c (fun p => ownsTc c (stM c) (lf p) (red I c))).symm)
    isplitl [Hc]; · iexact Hc
    iexact H
  iapply (Entails.of_eq (show (bigSep (Finset.univ.erase c) fun s : Dev nD => ownsTc c (stM s) fullShare (red I s))
    = bigSep (Finset.univ.erase c) (fun p => ownsTc c (stM p) fullShare (rowsOf (ST I) p)) by
      unfold ST; exact bigSep_congr fun p _ => by rw [rowsOf_glue]))
  iexact Hs

/-! ## The body -/

/-- What the scratch and the rings hold before grid point `t`. -/
def Scr (t : ℕ) : sProp 𝕄 :=
  iprop(ownsTc c tbM fullShare (fun _ => tw c) ∗ ((kSide I c).ring t ∗ (vSide I c).ring t) ∗ XB I c t ∗ outs I c t)

/-- The windows that a point reads. -/
def Win (i : grid0.Coords) (w : Memref sig .tc .vmem S1024x128 .f32) : sProp 𝕄 :=
  iprop(ownsTc c xM fullShare (I c).x ∗ ownsTc c w fullShare (wqb (I c).wq (pt i)) ∗ ownsTc c woB fullShare (I c).wo)

theorem XB_succ (t : ℕ) : ownsTc c xbM fullShare (xb I c) ⊢ XB I c (t + 1) := by
  unfold XB
  rw [if_neg (Nat.succ_ne_zero t)]

/-- The outputs' columns together are the outputs. -/
theorem outs_of : ownsTc c oS fullShare (oval I c) ⊢ outs I c 8 := by
  unfold outs
  refine (owns_rects (c : Thread nD τ) oS fullShare colR (fun _ _ => rfl) (fun _ _ h => colR_disjoint h) colR_cover (oval I c)).trans (bigSep_mono fun h _ => ?_)
  rw [if_pos h.isLt]
  show (ownsTc c (colM h) fullShare (colsOf (oval I c) h) : sProp 𝕄) ⊢ ownsTc c (colM h) fullShare (att I c h)
  rw [show colsOf (oval I c) h = att I c h from colsOf_glue _ h]

theorem body_mid (h4 : ¬ k0_cond4 i = 1#1) :
    iprop(Ctx I κ c ∗ Scr I c (pt i).val ∗ Ow c (OB c 0) ∗ Win I c i w)
      ⊢ WP c (cc0_body (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
        (fun _ => iprop(Scr I c ((pt i).val + 1) ∗ Ow c (OB c 0) ∗ Win I c i w)) := by
  rw [cc0_body_eq_skeleton]; unfold cc0_body_skel Scr Win
  iintro ⟨#HΓ, ⟨Ht, Hr, Hb, Hs⟩, HO, ⟨Hx, Hw, Hwo⟩⟩
  unfold WP
  rw [wp_bind]
  iapply (wp_wand _ _ _) $$ [Ht Hr Hb Hx Hw]
  · iapply (part7_spec I κ c i w hw)
    isplitr; · iexact HΓ
    isplitr [Ht Hw]
    · isplitl [Hr]; · iexact Hr
      isplitl [Hx]; · iexact Hx
      iexact Hb
    isplitl [Ht]; · iexact Ht
    iexact Hw
  iintro %r ⟨⟨%v19, %v20, %hr⟩, Hr, Hx, Hb, ⟨Ht, Hw⟩⟩
  subst hr
  iapply (?_ : iprop(Ctx I κ c ∗ (((kSide I c).loaded (pt i).val ∗ (vSide I c).loaded (pt i).val) ∗ Ow c (OB c 0) ∗ outs I c (pt i).val)
    ∗ (ownsTc c xM fullShare (I c).x ∗ ownsTc c xbM fullShare (xb I c) ∗ ownsTc c tbM fullShare (fun _ => tw c) ∗ ownsTc c w fullShare (wqb (I c).wq (pt i))
      ∗ ownsTc c woB fullShare (I c).wo)) ⊢ _)
  rotate_left
  · isplitr; · iexact HΓ
    isplitl [Hr HO Hs]
    · isplitl [Hr]; · iexact Hr
      isplitl [HO]; · iexact HO
      iexact Hs
    isplitl [Hx]; · iexact Hx
    isplitl [Hb]; · iexact Hb
    isplitl [Ht]; · iexact Ht
    isplitl [Hw]; · iexact Hw
    iexact Hwo
  dsimp only
  rw [dif_neg h4]
  iintro ⟨#HΓ, ⟨Hr, HO, Hs⟩, ⟨Hx, Hb, Ht, Hw, Hwo⟩⟩
  rw [wp_bind]
  iapply (wp_wand _ _ _) $$ [Hr HO Hs]
  · iapply (part8_spec I κ c i w hw _ v19 v20 _)
    isplitr; · iexact HΓ
    isplitl [Hr]; · iexact Hr
    isplitl [HO]; · iexact HO
    iexact Hs
  iintro %_ ⟨Hr, HO, Hs⟩
  rw [Prog.pure_eq_ret, wp_ret]
  imodintro
  isplitl [Ht Hr Hb Hs]
  · isplitl [Ht]; · iexact Ht
    isplitl [Hr]; · iexact Hr
    isplitl [Hb]; · iapply (XB_succ I c); iexact Hb
    iexact Hs
  isplitl [HO]; · iexact HO
  isplitl [Hx]; · iexact Hx
  isplitl [Hw]; · iexact Hw
  iexact Hwo

theorem body_last (h4 : k0_cond4 i = 1#1) :
    iprop(Ctx I κ c ∗ (Scr I c 7 ∗ TalkIn (F := F) c) ∗ Ow c (OB c 0) ∗ Win I c i w ∗ ownsEx (F := F) c oW fullShare)
      ⊢ WP c (cc0_body (F := F) i (Memref.whole main_v6) (Memref.isWhole_whole _) (Memref.whole cc0_stg0_0) (Memref.isWhole_whole _) w hw (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
        (fun _ => iprop((Scr I c 8 ∗ TalkOut (F := F) c) ∗ Ow c 0 ∗ Win I c i w ∗ ownsTc c oW fullShare (outv I))) := by
  have e7 : (pt i).val = 7 := (cond4_iff i).mp h4
  rw [cc0_body_eq_skeleton]; unfold cc0_body_skel Scr Win
  iintro ⟨#HΓ, ⟨⟨Ht, Hr, Hb, Hs⟩, HT⟩, HO, ⟨Hx, Hw, Hwo⟩, Hout⟩
  unfold WP
  rw [wp_bind]
  iapply (wp_wand _ _ _) $$ [Ht Hr Hb Hx Hw]
  · iapply (part7_spec I κ c i w hw)
    rw [e7]
    isplitr; · iexact HΓ
    isplitr [Ht Hw]
    · isplitl [Hr]; · iexact Hr
      isplitl [Hx]; · iexact Hx
      iexact Hb
    isplitl [Ht]; · iexact Ht
    iexact Hw
  iintro %r ⟨⟨%v19, %v20, %hr⟩, Hr, Hx, Hb, ⟨Ht, Hw⟩⟩
  subst hr
  iapply (?_ : iprop(Ctx I κ c ∗ (((kSide I c).loaded (pt i).val ∗ (vSide I c).loaded (pt i).val) ∗ Ow c (OB c 0) ∗ outs I c (pt i).val)
    ∗ (ownsTc c xM fullShare (I c).x ∗ ownsTc c xbM fullShare (xb I c) ∗ ownsTc c tbM fullShare (fun _ => tw c) ∗ ownsTc c w fullShare (wqb (I c).wq (pt i))
      ∗ ownsTc c woB fullShare (I c).wo) ∗ TalkIn (F := F) c ∗ ownsEx (F := F) c oW fullShare) ⊢ _)
  rotate_left
  · isplitr; · iexact HΓ
    isplitl [Hr HO Hs]
    · isplitl [Hr]; · iexact Hr
      isplitl [HO]; · iexact HO
      iapply (Entails.of_eq (congrArg (outs I c) e7.symm)); iexact Hs
    isplitl [Hx Hb Ht Hw Hwo]
    · isplitl [Hx]; · iexact Hx
      isplitl [Hb]; · iexact Hb
      isplitl [Ht]; · iexact Ht
      isplitl [Hw]; · iexact Hw
      iexact Hwo
    isplitl [HT]; · iexact HT
    iexact Hout
  dsimp only
  rw [dif_pos h4]
  iintro ⟨#HΓ, ⟨Hr, HO, Hs⟩, ⟨Hx, Hb, Ht, Hw, Hwo⟩, HT, Hout⟩
  rw [wp_bind]
  iapply (wp_wand _ _ _) $$ [Hr HO Hs]
  · iapply (part8_spec I κ c i w hw _ v19 v20 _)
    isplitr; · iexact HΓ
    isplitl [Hr]; · iexact Hr
    isplitl [HO]; · iexact HO
    iexact Hs
  iintro %_ ⟨Hr, HO, Hs⟩
  ihave Hr := (Entails.of_eq (show iprop((kSide I c).ring ((pt i).val + 1) ∗ (vSide I c).ring ((pt i).val + 1)) = iprop((kSide I c).ring 8 ∗ (vSide I c).ring 8) by rw [e7])) $$ Hr
  ihave Hs := (Entails.of_eq (congrArg (fun n => outs I c (n + 1)) e7)) $$ Hs
  ihave Hs := (outs_end I c) $$ Hs
  ihave HT := (show TalkIn (F := F) c ⊢ iprop((cred (tallyAt (barCell c) () 7) ∗ atPos ER (barCell c) 0 ∅ 0)
    ∗ bigSep (Finset.univ.erase c) (tok0 (F := F) c) ∗ bigSep (Finset.univ.erase c) (tok1 (F := F) c) ∗ bigSep (Finset.univ.erase c) (Pre2 (F := F) c)
    ∗ bigSep (Finset.univ.erase c) (tok2 (F := F) c) ∗ bigSep (Finset.univ.erase c) (Pre4 (F := F) c)
    ∗ bigSep (Finset.univ.erase c) (rsAt0 (F := F) c) ∗ bigSep (Finset.univ.erase c) (agAt0 (F := F) c)
    ∗ ownsEx (F := F) c rvW fullShare ∗ ownsEx (F := F) c stW fullShare) from BI.Entails.refl _) $$ HT
  icases HT with ⟨Hbar, H0, H1, H2, H3, H4, H5, H6, Hrv, Hst⟩
  ihave H0 := (slots_out c) $$ [H0 Hrv]
  · isplitl [H0]; · iexact H0
    iexact Hrv
  icases H0 with ⟨H0, Hslot⟩
  rw [wp_bind]
  iapply (wp_wand _ _ _) $$ [H0 HO Hbar Hs Hwo]
  · iapply (part2_spec I κ c i w hw h4)
    isplitr; · iexact HΓ
    isplitl [H0]; · iexact H0
    isplitl [HO]; · iexact HO
    isplitl [Hbar]; · iexact Hbar
    isplitl [Hs]; · iexact Hs
    iexact Hwo
  iintro %r ⟨%hr, H0, HO, Hbar, Hs, Hwo⟩
  subst hr
  rw [wp_bind]
  iapply (wp_wand _ _ _) $$ [H0 H1 HO Hout Hst]
  · iapply (part3_spec I κ c i w hw h4 (chk2_tw i c))
    isplitr; · iexact HΓ
    isplitl [H0]; · iexact H0
    isplitl [H1]; · iexact H1
    isplitl [HO]; · iexact HO
    isplitl [Hout]; · iexact Hout
    iexact Hst
  iintro %c7 ⟨H1, HO, Hout, Hown, Hrc⟩
  rw [wp_bind]
  iapply (wp_wand _ _ _) $$ [H1 HO Hout H2]
  · iapply (part4_spec I κ c i w hw h4 (chk2_tw i c) c7)
    isplitr; · iexact HΓ
    isplitl [H1]; · iexact H1
    isplitl [HO]; · iexact HO
    isplitl [Hout]; · iexact Hout
    iexact H2
  iintro %r ⟨%hr, H1, H2, HO, Hout⟩
  subst hr
  ihave H2 := (slots_in c) $$ [H2 Hslot]
  · isplitl [H2]; · iexact H2
    iexact Hslot
  icases H2 with ⟨H2, Hrv, Hpr⟩
  ihave H3 := (tok3_of c) $$ [Hpr Hrc H3]
  · isplitl [Hpr]; · iexact Hpr
    isplitl [Hrc]; · iexact Hrc
    iexact H3
  rw [wp_bind]
  iapply (wp_wand _ _ _) $$ [HO Hown H3]
  · iapply (part5_spec I κ c i w hw h4 (chk2_tw i c))
    isplitr; · iexact HΓ
    isplitl [HO]; · iexact HO
    isplitl [Hown]; · iexists _; iexact Hown
    iexact H3
  iintro %r ⟨%hr, H3, HO, Hown⟩
  subst hr
  ihave H5 := (pre5_of c) $$ [H1 H5 H3 H6]
  · isplitl [H1 H5]
    · isplitl [H1]; · iexact H1
      iexact H5
    isplitl [H3]; · iexact H3
    iexact H6
  rw [wp_bind]
  iapply (wp_wand _ _ _) $$ [H4 HO Hown Hout H5]
  · iapply (part6_spec I κ c i w hw)
    isplitr; · iexact HΓ
    isplitl [H4]; · iexact H4
    isplitl [HO]; · iexact HO
    isplitl [Hown]; · iexact Hown
    isplitl [Hout]; · iexists _; iexact Hout
    iexact H5
  iintro %r ⟨%hr, H5, HO, ⟨Hout, Hrows, H4⟩⟩
  subst hr
  iapply (?_ : iprop(Ctx I κ c ∗ fam c (Pre5 (F := F) c) (Post5 I c) (dv 1).val ∗ Ow c 0
    ∗ ((ownsTc c tbM fullShare (fun _ => tw c) ∗ ((kSide I c).ring 8 ∗ (vSide I c).ring 8) ∗ ownsTc c xbM fullShare (xb I c) ∗ ownsTc c oS fullShare (oval I c))
      ∗ (ownsTc c xM fullShare (I c).x ∗ ownsTc c w fullShare (wqb (I c).wq (pt i)) ∗ ownsTc c woB fullShare (I c).wo)
      ∗ (ownsTc c oW fullShare (outv I) ∗ Rows I c ∗ bigSep (Finset.univ.erase c) (atAg (F := F) c))
      ∗ (atPos ER (barCell c) 1 ∅ 0 ∗ bigSep (Finset.univ.erase c) (rvAt1 (F := F) c) ∗ ownsEx (F := F) c rvW fullShare))) ⊢ _)
  rotate_left
  · isplitr; · iexact HΓ
    isplitl [H5]; · iexact H5
    isplitl [HO]; · iexact HO
    isplitl [Ht Hr Hb Hs]
    · isplitl [Ht]; · iexact Ht
      isplitl [Hr]; · iexact Hr
      isplitl [Hb]; · iexact Hb
      iexact Hs
    isplitl [Hx Hw Hwo]
    · isplitl [Hx]; · iexact Hx
      isplitl [Hw]; · iexact Hw
      iexact Hwo
    isplitl [Hout Hrows H4]
    · isplitl [Hout]; · iexact Hout
      isplitl [Hrows]; · iexact Hrows
      iexact H4
    isplitl [Hbar]; · iexact Hbar
    isplitl [H2]; · iexact H2
    iexact Hrv
  refine drain_turn I κ c (dv 1) (pw_ne c (dv 1)) (rsSend_eq _ (dv 1) rfl _) (agSend_eq _ (dv 1) rfl _) (by exact rfl) (by exact rfl) ?_
  refine drain_turn I κ c (dv 2) (pw_ne c (dv 2)) (rsSend_eq _ (dv 2) rfl _) (agSend_eq _ (dv 2) rfl _) (by exact rfl) (by exact rfl) ?_
  refine drain_turn I κ c (dv 3) (pw_ne c (dv 3)) (rsSend_eq _ (dv 3) rfl _) (agSend_eq _ (dv 3) rfl _) (by exact rfl) (by exact rfl) ?_
  refine drain_turn I κ c (dv 4) (pw_ne c (dv 4)) (rsSend_eq _ (dv 4) rfl _) (agSend_eq _ (dv 4) rfl _) (by exact rfl) (by exact rfl) ?_
  refine drain_turn I κ c (dv 5) (pw_ne c (dv 5)) (rsSend_eq _ (dv 5) rfl _) (agSend_eq _ (dv 5) rfl _) (by exact rfl) (by exact rfl) ?_
  refine drain_turn I κ c (dv 6) (pw_ne c (dv 6)) (rsSend_eq _ (dv 6) rfl _) (agSend_eq _ (dv 6) rfl _) (by exact rfl) (by exact rfl) ?_
  refine drain_turn I κ c (dv 7) (pw_ne c (dv 7)) (rsSend_eq _ (dv 7) rfl _) (agSend_eq _ (dv 7) rfl _) (by exact rfl) (by exact rfl) ?_
  iintro ⟨-, Hf, HO, ⟨Ht, Hr, Hb, Hs⟩, HW, ⟨Hout, Hrows, H4⟩, ⟨Hbar, H2, Hrv⟩⟩
  ihave Hf := (Entails.of_eq (fam_end c (Pre5 c) (Post5 I c))) $$ Hf
  ihave Hf := (rows_back I c) $$ [Hrows Hf]
  · isplitl [Hrows]; · iexact Hrows
    iexact Hf
  icases Hf with ⟨H5, H6, Hst⟩
  rw [Prog.pure_eq_ret]
  unfold WP
  rw [wp_ret]
  imodintro
  isplitr [HO HW Hout]
  · isplitl [Ht Hr Hb Hs]
    · isplitl [Ht]; · iexact Ht
      isplitl [Hr]; · iexact Hr
      isplitl [Hb]; · iapply (XB_succ I c 7); iexact Hb
      iapply (outs_of I c); iexact Hs
    iapply (show iprop(atPos ER (barCell c) 1 ∅ 0
      ∗ bigSep (Finset.univ.erase c) (rvAt1 (F := F) c) ∗ bigSep (Finset.univ.erase c) (rsAt1 (F := F) c)
      ∗ bigSep (Finset.univ.erase c) (atAg (F := F) c) ∗ bigSep (Finset.univ.erase c) (agAt1 (F := F) c)
      ∗ ownsEx (F := F) c rvW fullShare ∗ ownsEx (F := F) c stW fullShare) ⊢ TalkOut (F := F) c from BI.Entails.refl _)
    isplitl [Hbar]; · iexact Hbar
    isplitl [H2]; · iexact H2
    isplitl [H5]; · iexact H5
    isplitl [H4]; · iexact H4
    isplitl [H6]; · iexact H6
    isplitl [Hrv]; · iexact Hrv
    iexact Hst
  isplitl [HO]; · iexact HO
  isplitl [HW]; · iexact HW
  iexact Hout

end Cert.KernelIdeal.Run
-- ==== Proof.Gate.lean ====
/- The two ends of the kernel: how its semaphores and buffers are handed in, and how they come back. -/
module

public import proofs.«01_k».proof.Proof.Body

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F) (κ : GSem nD τ sig → ℕ) (c : Dev nD)

/-! ## Families with a fact at hand -/

theorem bigSep_carry {J : Type} [DecidableEq J] {S : Finset J} {R : sProp 𝕄} [BI.Persistent R] {P Q : J → sProp 𝕄}
    (h : ∀ j ∈ S, iprop(R ∗ P j) ⊢ Q j) : iprop(R ∗ bigSep S P) ⊢ bigSep S Q :=
  (sep_mono_left (BI.bigSep_of_persistent S R)).trans (bigSep_zip h)

theorem bigSep_carry_upd {J : Type} [DecidableEq J] {S : Finset J} {R : sProp 𝕄} [BI.Persistent R] {P Q : J → sProp 𝕄}
    (h : ∀ j ∈ S, iprop(R ∗ P j) ⊢ |={Set.univ}=> Q j) : iprop(R ∗ bigSep S P) ⊢ |={Set.univ}=> bigSep S Q :=
  (bigSep_carry h).trans (bigSep_fupd S Q)

theorem bigSep_four (P : Fin 4 → sProp 𝕄) : bigSep Finset.univ P = iprop(P 0 ∗ P 1 ∗ P 2 ∗ P 3) := by
  rw [show (Finset.univ : Finset (Fin 4)) = insert 0 (insert 1 (insert 2 {3})) from by decide,
    bigSep_ins (by decide), bigSep_ins (by decide), bigSep_ins (by decide), BI.bigSep_singleton]

/-! ## The kernel's own semaphores -/

/-- The four slots' semaphores and the four families of the exchange. -/
abbrev Own : Type := (Fin 2 × Fin 2) ⊕ (Fin 4 × Dev nD)

def osem : Own → SemLoc sig
  | .inl x => .dma (kvS x.1 x.2)
  | .inr x => .dma (exS x.1 x.2)

/-- The cell of an own semaphore on `c`. -/
def ownCell (k : Own) : GSem nD τ sig := ((c : Thread nD τ), osem k)

theorem inv_own (k : Own) : Inv I κ ⊢ (cellInv ER (Rd I) (κ (ownCell c k)) (ownCell c k) : sProp 𝕄) := by
  rcases k with x | x
  · exact inv_dma I κ c (kvS x.1 x.2)
  · exact inv_dma I κ c (exS x.1 x.2)

/-- The cells of the slots, just opened. -/
def kvOpen (x : Fin 2 × Fin 2) : sProp 𝕄 := iprop(atPos ER (dmaCell c (kvS x.1 x.2)) 0 ∅ 0 ∗ reached ER (dmaCell c (kvS x.1 x.2)) 0)
def exAt (x : Fin 4 × Dev nD) : sProp 𝕄 := atPos ER (dmaCell c (exS x.1 x.2)) 0 ∅ 0
def exReached (x : Fin 4 × Dev nD) : sProp 𝕄 := reached ER (dmaCell c (exS x.1 x.2)) 0
/-- The cells of `c`, just opened. -/
def Cells : sProp 𝕄 := iprop(bigSep Finset.univ (kvOpen (F := F) c) ∗ bigSep Finset.univ (exAt (F := F) c))

/-- An own cell opened. -/
def ownOpen (k : Own) : sProp 𝕄 := iprop(atPos ER (ownCell c k) 0 ∅ 0 ∗ reached ER (ownCell c k) 0)
def ownTok (k : Own) : sProp 𝕄 := openTok ER (ownCell c k)
def ownZero (k : Own) : sProp 𝕄 := semVal (ownCell c k) 0

theorem open_own (k : Own) : iprop(Inv I κ ∗ (ownTok (F := F) c k ∗ ownZero (F := F) c k)) ⊢ |={Set.univ}=> ownOpen (F := F) c k := by
  unfold ownTok ownZero ownOpen
  refine (?_ : _ ⊢ iprop(cellInv ER (Rd I) (κ (ownCell c k)) (ownCell c k) ∗ openTok ER (ownCell c k) ∗ semVal (ownCell c k) 0)).trans
    (Rounds.cell_open ER (Rd I) (Set.mem_univ _))
  iintro ⟨#H, Ht, Hs⟩
  isplitr
  · iapply (inv_own I κ c k); iexact H
  isplitl [Ht]; · iexact Ht
  iexact Hs

theorem ownSems0_eq : (Pipeline.ownSems0 osem c : sProp 𝕄) = bigSep Finset.univ (ownZero (F := F) c) := rfl

/-- All own cells opened. -/
theorem open_all : iprop(Inv I κ ∗ bigSep Finset.univ (ownTok (F := F) c) ∗ Pipeline.ownSems0 osem c)
    ⊢ |={Set.univ}=> iprop(Cells (F := F) c ∗ bigSep Finset.univ (exReached (F := F) c)) := by
  have e : bigSep Finset.univ (ownOpen (F := F) c)
      = iprop(bigSep Finset.univ (kvOpen (F := F) c) ∗ bigSep Finset.univ (fun x => ownOpen (F := F) c (.inr x))) := BI.bigSep_univ_sum _
  have h : iprop(Inv I κ ∗ bigSep Finset.univ (fun k => iprop(ownTok (F := F) c k ∗ ownZero (F := F) c k))) ⊢ |={Set.univ}=> bigSep Finset.univ (ownOpen (F := F) c) :=
    bigSep_carry_upd fun k _ => open_own I κ c k
  have h2 : bigSep Finset.univ (fun x => ownOpen (F := F) c (.inr x)) ⊢ iprop(bigSep Finset.univ (exAt (F := F) c) ∗ bigSep Finset.univ (exReached (F := F) c)) :=
    bigSep_unzip fun x _ => BI.Entails.refl _
  rw [ownSems0_eq]
  unfold Cells
  iintro ⟨#HI, Ht, Hz⟩
  imod h $$ [Ht Hz] with H
  · isplitr; · iexact HI
    iapply (bigSep_zip (F := F) (S := Finset.univ) (P := ownTok (F := F) c) (Q := ownZero (F := F) c) (fun k _ => BI.Entails.refl _))
    isplitl [Ht]; · iexact Ht
    iexact Hz
  ihave ⟨Hk, Hx⟩ := (Entails.of_eq e) $$ H
  ihave ⟨Hx, Hr⟩ := h2 $$ Hx
  imodintro
  isplitr [Hr]
  · isplitl [Hk]; · iexact Hk
    iexact Hx
  iexact Hr

/-! ## What is dealt at the launch -/

def crRs (s : Dev nD) : sProp 𝕄 := cred (tallyAt (dmaCell c (rsRecv s)) () NB)
def crAg (s : Dev nD) : sProp 𝕄 := cred (tallyAt (dmaCell c (agRecv s)) () NB)
/-- The duty of head `h`'s copy on side `b`. -/
def kvTok (b : Fin 2) (h : Fin 8) : sProp 𝕄 := dutyTok ER (dmaCell c (kvS b (sl h))) (rd h) 0

def Dealt : sProp 𝕄 :=
  iprop((cred (tallyAt (barCell c) () 7) ∗ atPos ER (barCell c) 0 ∅ 0)
    ∗ bigSep (Finset.univ.erase c) (tok0 (F := F) c) ∗ bigSep (Finset.univ.erase c) (tok1 (F := F) c) ∗ bigSep (Finset.univ.erase c) (tok2 (F := F) c)
    ∗ bigSep (Finset.univ.erase c) (crRs (F := F) c) ∗ bigSep (Finset.univ.erase c) (crAg (F := F) c)
    ∗ bigSep Finset.univ (kvTok (F := F) c 0) ∗ bigSep Finset.univ (kvTok (F := F) c 1))

/-- The cells that the device keeps for itself, which nothing signals. -/
def selfAt : sProp 𝕄 := iprop(exAt (F := F) c (0, c) ∗ exAt (F := F) c (1, c) ∗ exAt (F := F) c (2, c) ∗ exAt (F := F) c (3, c))

/-- The scratch buffers, at any contents. -/
def Rooms : sProp 𝕄 :=
  iprop(ownsEx (F := F) c xbM fullShare ∗ ownsEx (F := F) c oS fullShare ∗ ownsEx (F := F) c stW fullShare ∗ ownsEx (F := F) c rvW fullShare
    ∗ ownsEx (F := F) c kB fullShare ∗ ownsEx (F := F) c vB fullShare)

/-- One family of the exchange's cells. -/
def exPeers (b : Fin 4) : sProp 𝕄 := bigSep (Finset.univ.erase c) (fun p => exAt (F := F) c (b, p))

theorem exAt_split : bigSep Finset.univ (exAt (F := F) c)
    ⊢ iprop(selfAt (F := F) c ∗ exPeers (F := F) c 0 ∗ exPeers (F := F) c 1 ∗ exPeers (F := F) c 2 ∗ exPeers (F := F) c 3) := by
  have e : bigSep Finset.univ (exAt (F := F) c) = bigSep Finset.univ fun b : Fin 4 => bigSep Finset.univ fun p : Dev nD => exAt (F := F) c (b, p) :=
    BI.bigSep_univ_prod _
  rw [e, bigSep_four, bigSep_self c, bigSep_self c, bigSep_self c, bigSep_self c]
  unfold selfAt exPeers
  iintro ⟨⟨H0, K0⟩, ⟨H1, K1⟩, ⟨H2, K2⟩, ⟨H3, K3⟩⟩
  isplitl [H0 H1 H2 H3]
  · isplitl [H0]; · iexact H0
    isplitl [H1]; · iexact H1
    isplitl [H2]; · iexact H2
    iexact H3
  isplitl [K0]; · iexact K0
  isplitl [K1]; · iexact K1
  isplitl [K2]; · iexact K2
  iexact K3

/-! ## The ends of a ring -/

namespace Side

variable {I c} (S : Side I c)

/-- The whole array at the full share. -/
def all : sProp 𝕄 := S.A.view.loc (c : Thread nD τ) ↦[S.A.view.set]{fullShare} S.K

theorem all_leaves : S.all = bigSep Finset.univ fun h : Fin 8 => S.whole h := by
  unfold all whole
  exact ShareLeaves.pointsTo_leaves _ _ 3 fullShare

/-- The ring before the first point. -/
theorem begin : iprop(S.all ∗ (bigSep Finset.univ fun h : Fin 8 => dutyTok ER (S.cell (sl h)) (rd h) 0)
      ∗ (bigSep Finset.univ fun s : Fin 2 => iprop(atPos ER (S.cell s) 0 ∅ 0 ∗ reached ER (S.cell s) 0)) ∗ ownsEx (F := F) c S.B fullShare)
    ⊢ S.ring 0 := by
  have e1 : S.heads 0 0 = bigSep Finset.univ fun h : Fin 8 => iprop(S.whole h ∗ dutyTok ER (S.cell (sl h)) (rd h) 0) := by
    unfold heads
    exact bigSep_congr fun h _ => by simp [st, pre]
  have e2 : S.pos 0 = bigSep Finset.univ fun s : Fin 2 => iprop(atPos ER (S.cell s) 0 ∅ 0 ∗ reached ER (S.cell s) 0) := by
    unfold pos
    exact bigSep_congr fun s _ => by
      rw [show (0 + 1 - s.val) / 2 = 0 by omega]
      rfl
  have e3 : S.free 0 = bigSep Finset.univ fun s : Fin 2 => ownsEx (F := F) c (kvSlot S.B s) fullShare := by
    unfold free
    exact bigSep_congr fun s _ => by rw [if_pos (.inl rfl)]
  unfold ring
  rw [if_pos rfl, e1, e2, e3, S.all_leaves]
  iintro ⟨Ha, Ht, Hp, Hb⟩
  isplitl [Ha Ht]
  · iapply (bigSep_zip (F := F) (S := Finset.univ) (P := fun h : Fin 8 => S.whole h) (Q := fun h : Fin 8 => dutyTok ER (S.cell (sl h)) (rd h) 0) (fun k _ => BI.Entails.refl _))
    isplitl [Ha]; · iexact Ha
    iexact Ht
  isplitl [Hp]; · iexact Hp
  unfold ownsEx
  icases Hb with ⟨%X, Hb⟩
  iapply (kv_split c S.B X)
  iexact Hb

/-- The ring after the last point. -/
theorem finish : S.ring 8 ⊢ iprop(S.all ∗ (bigSep Finset.univ fun s : Fin 2 => atPos ER (S.cell s) 4 ∅ 0) ∗ ownsEx (F := F) c S.B fullShare) := by
  have e1 : S.heads 8 8 = S.all := by
    rw [S.all_leaves]
    unfold heads
    exact bigSep_congr fun h _ => by have := h.isLt; simp [st, this]
  have e2 : S.pos 8 = bigSep Finset.univ fun s : Fin 2 => iprop(atPos ER (S.cell s) 4 ∅ 0 ∗ reached ER (S.cell s) 4) := by
    unfold pos
    exact bigSep_congr fun s _ => by
      rw [show (8 + 1 - s.val) / 2 = 4 by omega]
      rfl
  have e3 : S.free 8 = bigSep Finset.univ fun s : Fin 2 => ownsEx (F := F) c (kvSlot S.B s) fullShare := by
    unfold free
    exact bigSep_congr fun s _ => by rw [if_pos (.inr (by omega))]
  unfold ring
  rw [if_neg (by decide : ¬ 8 = 0), show min (8 + 2) 8 = 8 from rfl, e1, e2, e3]
  iintro ⟨Ha, Hp, Hb⟩
  isplitl [Ha]; · iexact Ha
  isplitl [Hp]
  · ihave ⟨H, -⟩ := (bigSep_unzip (F := F) (S := Finset.univ) (P := fun s : Fin 2 => atPos ER (S.cell s) 4 ∅ 0)
      (Q := fun s : Fin 2 => reached ER (S.cell s) 4) (fun s _ => BI.Entails.refl _)) $$ Hp
    iexact H
  iapply (kv_join c S.B)
  iexact Hb

end Side

/-! ## In -/

theorem kvOpen_split : bigSep Finset.univ (kvOpen (F := F) c)
    = iprop((bigSep Finset.univ fun s : Fin 2 => kvOpen (F := F) c (0, s)) ∗ bigSep Finset.univ fun s : Fin 2 => kvOpen (F := F) c (1, s)) := by
  have e : bigSep Finset.univ (kvOpen (F := F) c) = bigSep Finset.univ fun b : Fin 2 => bigSep Finset.univ fun s : Fin 2 => kvOpen (F := F) c (b, s) :=
    BI.bigSep_univ_prod _
  rw [e, Idealize.SL.BI.bigSep_fin_two]
  rfl

theorem start_talk : iprop((cred (tallyAt (barCell c) () 7) ∗ atPos ER (barCell c) 0 ∅ 0)
    ∗ (bigSep (Finset.univ.erase c) (tok0 (F := F) c) ∗ bigSep (Finset.univ.erase c) (tok1 (F := F) c) ∗ bigSep (Finset.univ.erase c) (tok2 (F := F) c))
    ∗ (bigSep (Finset.univ.erase c) (crRs (F := F) c) ∗ bigSep (Finset.univ.erase c) (crAg (F := F) c))
    ∗ (exPeers (F := F) c 0 ∗ exPeers (F := F) c 1 ∗ exPeers (F := F) c 2 ∗ exPeers (F := F) c 3)
    ∗ (ownsEx (F := F) c rvW fullShare ∗ ownsEx (F := F) c stW fullShare)) ⊢ TalkIn (F := F) c := by
  have h2 : iprop(bigSep (Finset.univ.erase c) (crRs (F := F) c) ∗ exPeers (F := F) c 1) ⊢ bigSep (Finset.univ.erase c) (Pre2 (F := F) c) :=
    bigSep_zip fun s _ => BI.Entails.refl _
  have h4 : iprop(bigSep (Finset.univ.erase c) (crAg (F := F) c) ∗ exPeers (F := F) c 3) ⊢ bigSep (Finset.univ.erase c) (Pre4 (F := F) c) :=
    bigSep_zip fun s _ => BI.Entails.refl _
  unfold TalkIn
  iintro ⟨Hb, ⟨H0, H1, H2⟩, ⟨Hr, Ha⟩, ⟨E0, E1, E2, E3⟩, Hv, Hs⟩
  isplitl [Hb]; · iexact Hb
  isplitl [H0]; · iexact H0
  isplitl [H1]; · iexact H1
  isplitl [Hr E1]
  · iapply h2
    isplitl [Hr]; · iexact Hr
    iexact E1
  isplitl [H2]; · iexact H2
  isplitl [Ha E3]
  · iapply h4
    isplitl [Ha]; · iexact Ha
    iexact E3
  isplitl [E0]
  · iapply (show exPeers (F := F) c 0 ⊢ bigSep (Finset.univ.erase c) (rsAt0 (F := F) c) from BI.Entails.refl _); iexact E0
  isplitl [E2]
  · iapply (show exPeers (F := F) c 2 ⊢ bigSep (Finset.univ.erase c) (agAt0 (F := F) c) from BI.Entails.refl _); iexact E2
  isplitl [Hv]; · iexact Hv
  iexact Hs

/-- The first point's state. -/
theorem start : iprop(Dealt (F := F) c ∗ Cells (F := F) c ∗ ((kSide I c).all ∗ (vSide I c).all) ∗ ownsTc c tbM fullShare (fun _ => tw c) ∗ Rooms (F := F) c)
    ⊢ iprop(Scr I c 0 ∗ TalkIn (F := F) c ∗ selfAt (F := F) c) := by
  unfold Dealt Cells Rooms Scr
  rw [kvOpen_split]
  iintro ⟨⟨Hb, H0, H1, H2, Hr, Ha, Tk, Tv⟩, ⟨⟨Pk, Pv⟩, Px⟩, ⟨Hk, Hv⟩, Ht, ⟨Rx, Ro, Rs, Rv, Rkb, Rvb⟩⟩
  ihave ⟨Hself, Hex⟩ := (exAt_split (F := F) c) $$ Px
  isplitl [Ht Tk Tv Pk Pv Hk Hv Rx Ro Rkb Rvb]
  · isplitl [Ht]; · iexact Ht
    isplitl [Tk Tv Pk Pv Hk Hv Rkb Rvb]
    · isplitl [Tk Pk Hk Rkb]
      · iapply (Side.begin (kSide I c))
        isplitl [Hk]; · iexact Hk
        isplitl [Tk]; · iexact Tk
        isplitl [Pk]; · iexact Pk
        iexact Rkb
      iapply (Side.begin (vSide I c))
      isplitl [Hv]; · iexact Hv
      isplitl [Tv]; · iexact Tv
      isplitl [Pv]; · iexact Pv
      iexact Rvb
    isplitl [Rx]
    · iapply (show ownsEx (F := F) c xbM fullShare ⊢ XB I c 0 from BI.Entails.refl _); iexact Rx
    unfold ownsEx
    icases Ro with ⟨%X, Ro⟩
    iapply (outs_start I c X); iexact Ro
  isplitr [Hself]
  · iapply (start_talk (F := F) c)
    isplitl [Hb]; · iexact Hb
    isplitl [H0 H1 H2]
    · isplitl [H0]; · iexact H0
      isplitl [H1]; · iexact H1
      iexact H2
    isplitl [Hr Ha]
    · isplitl [Hr]; · iexact Hr
      iexact Ha
    isplitl [Hex]; · iexact Hex
    isplitl [Rv]; · iexact Rv
    iexact Rs
  iexact Hself

/-! ## Out -/

theorem close_cell (g : GSem nD τ sig) (R : ℕ) (hg : Inv I κ ⊢ (cellInv ER (Rd I) (κ g) g : sProp 𝕄)) (hR : ∀ r, R ≤ r → (Rd I).duties g r = ∅) :
    iprop(Inv I κ ∗ (atPos ER g R ∅ 0 : sProp 𝕄)) ⊢ |={Set.univ}=> (semVal g 0 : sProp 𝕄) := by
  refine (?_ : _ ⊢ iprop(cellInv ER (Rd I) (κ g) g ∗ (atPos ER g R ∅ 0 : sProp 𝕄))).trans (Rounds.cell_close ER (Rd I) (Set.mem_univ _) id hR)
  iintro ⟨#H, Hp⟩
  isplitr
  · iapply hg; iexact H
  iexact Hp

/-- One family of the exchange, closed: the peers' cells after their round and the own one before it. -/
theorem close_ex (b : Fin 4) : iprop(Inv I κ ∗ exAt (F := F) c (b, c) ∗ bigSep (Finset.univ.erase c) (fun p => (atPos ER (dmaCell c (exS b p)) 1 ∅ 0 : sProp 𝕄)))
    ⊢ |={Set.univ}=> bigSep Finset.univ (fun p : Dev nD => ownZero (F := F) c (.inr (b, p))) := by
  have h : iprop(Inv I κ ∗ bigSep (Finset.univ.erase c) (fun p => (atPos ER (dmaCell c (exS b p)) 1 ∅ 0 : sProp 𝕄)))
      ⊢ |={Set.univ}=> bigSep (Finset.univ.erase c) (fun p : Dev nD => ownZero (F := F) c (.inr (b, p))) :=
    bigSep_carry_upd fun p _ => close_cell I κ _ 1 (inv_dma I κ c _) (duties_ex_later I c b p)
  have h0 : iprop(Inv I κ ∗ exAt (F := F) c (b, c)) ⊢ |={Set.univ}=> ownZero (F := F) c (.inr (b, c)) :=
    close_cell I κ _ 0 (inv_dma I κ c _) fun r _ => duties_ex_self I c b r
  rw [bigSep_self c]
  iintro ⟨#HI, H0, H1⟩
  imod h0 $$ [H0] with H0
  · isplitr; · iexact HI
    iexact H0
  imod h $$ [H1] with H1
  · isplitr; · iexact HI
    iexact H1
  imodintro
  isplitl [H0]; · iexact H0
  iexact H1

theorem close_kv (b : Fin 2) : iprop(Inv I κ ∗ bigSep Finset.univ (fun s : Fin 2 => (atPos ER (dmaCell c (kvS b s)) 4 ∅ 0 : sProp 𝕄)))
    ⊢ |={Set.univ}=> bigSep Finset.univ (fun s : Fin 2 => ownZero (F := F) c (.inl (b, s))) :=
  bigSep_carry_upd fun s _ => close_cell I κ _ 4 (inv_dma I κ c _) (duties_kv_later I c b s)

theorem own_join : iprop(((bigSep Finset.univ (fun s : Fin 2 => ownZero (F := F) c (.inl (0, s)))) ∗ bigSep Finset.univ (fun s : Fin 2 => ownZero (F := F) c (.inl (1, s))))
      ∗ (bigSep Finset.univ (fun p : Dev nD => ownZero (F := F) c (.inr (0, p)))) ∗ (bigSep Finset.univ (fun p : Dev nD => ownZero (F := F) c (.inr (1, p))))
      ∗ (bigSep Finset.univ (fun p : Dev nD => ownZero (F := F) c (.inr (2, p)))) ∗ bigSep Finset.univ (fun p : Dev nD => ownZero (F := F) c (.inr (3, p))))
    = (Pipeline.ownSems0 osem c : sProp 𝕄) := by
  have e1 : bigSep Finset.univ (ownZero (F := F) c)
    = iprop(bigSep Finset.univ (fun x => ownZero (F := F) c (.inl x)) ∗ bigSep Finset.univ (fun x => ownZero (F := F) c (.inr x))) := BI.bigSep_univ_sum _
  have e2 : bigSep Finset.univ (fun x => ownZero (F := F) c (.inl x)) = bigSep Finset.univ fun b : Fin 2 => bigSep Finset.univ fun s : Fin 2 => ownZero (F := F) c (.inl (b, s)) :=
    BI.bigSep_univ_prod _
  have e3 : bigSep Finset.univ (fun x => ownZero (F := F) c (.inr x)) = bigSep Finset.univ fun b : Fin 4 => bigSep Finset.univ fun p : Dev nD => ownZero (F := F) c (.inr (b, p)) :=
    BI.bigSep_univ_prod _
  have e4 : (bigSep Finset.univ fun b : Fin 2 => bigSep Finset.univ fun s : Fin 2 => ownZero (F := F) c (.inl (b, s)))
      = iprop((bigSep Finset.univ (fun s : Fin 2 => ownZero (F := F) c (.inl (0, s)))) ∗ bigSep Finset.univ (fun s : Fin 2 => ownZero (F := F) c (.inl (1, s)))) :=
    Idealize.SL.BI.bigSep_fin_two _
  rw [ownSems0_eq, e1, e2, e3, bigSep_four, e4]

/-- What the kernel gives back. -/
def Back : sProp 𝕄 :=
  iprop(semVal (barCell c) 0 ∗ Pipeline.ownSems0 osem c ∗ ownsTc c tbM fullShare (fun _ => tw c) ∗ ((kSide I c).all ∗ (vSide I c).all) ∗ Rooms (F := F) c)

/-- The last point's state, every cell closed. -/
theorem stop : iprop(Inv I κ ∗ Scr I c 8 ∗ TalkOut (F := F) c ∗ selfAt (F := F) c) ⊢ |={Set.univ}=> Back I c := by
  have hb : iprop(Inv I κ ∗ (atPos ER (barCell c) 1 ∅ 0 : sProp 𝕄)) ⊢ |={Set.univ}=> (semVal (barCell c) 0 : sProp 𝕄) :=
    close_cell I κ _ 1 (inv_bar I κ c) (duties_bar_later I c)
  unfold Scr TalkOut selfAt Back Rooms
  rw [← own_join]
  iintro ⟨#HI, ⟨Ht, ⟨Hk, Hv⟩, Hx, Ho⟩, ⟨Hb, Rv, Rs, Ar, As, Hrv, Hst⟩, ⟨S0, S1, S2, S3⟩⟩
  ihave ⟨Hka, Hkp, Hkb⟩ := (Side.finish (kSide I c)) $$ Hk
  ihave ⟨Hva, Hvp, Hvb⟩ := (Side.finish (vSide I c)) $$ Hv
  imod hb $$ [Hb] with Hb
  · isplitr; · iexact HI
    iexact Hb
  imod (close_kv I κ c 0) $$ [Hkp] with Hkp
  · isplitr; · iexact HI
    iexact Hkp
  imod (close_kv I κ c 1) $$ [Hvp] with Hvp
  · isplitr; · iexact HI
    iexact Hvp
  imod (close_ex I κ c 0) $$ [S0 Rs] with H0
  · isplitr; · iexact HI
    isplitl [S0]; · iexact S0
    iexact Rs
  imod (close_ex I κ c 1) $$ [S1 Rv] with H1
  · isplitr; · iexact HI
    isplitl [S1]; · iexact S1
    iexact Rv
  imod (close_ex I κ c 2) $$ [S2 As] with H2
  · isplitr; · iexact HI
    isplitl [S2]; · iexact S2
    iexact As
  imod (close_ex I κ c 3) $$ [S3 Ar] with H3
  · isplitr; · iexact HI
    isplitl [S3]; · iexact S3
    iexact Ar
  imodintro
  isplitl [Hb]; · iexact Hb
  isplitl [Hkp Hvp H0 H1 H2 H3]
  · isplitl [Hkp Hvp]
    · isplitl [Hkp]; · iexact Hkp
      iexact Hvp
    isplitl [H0]; · iexact H0
    isplitl [H1]; · iexact H1
    isplitl [H2]; · iexact H2
    iexact H3
  isplitl [Ht]; · iexact Ht
  isplitl [Hka Hva]
  · isplitl [Hka]; · iexact Hka
    iexact Hva
  isplitl [Hx]
  · ihave H := (show XB I c 8 ⊢ ownsTc c xbM fullShare (xb I c) from BI.Entails.refl _) $$ Hx
    iexists (xb I c); iexact H
  isplitl [Ho]
  · iexists (oval I c); iapply (outs_end I c); iexact Ho
  isplitl [Hst]; · iexact Hst
  isplitl [Hrv]; · iexact Hrv
  isplitl [Hkb]; · iexact Hkb
  iexact Hvb

end Cert.KernelIdeal.Run
-- ==== Proof.Region.lean ====
/- The kernel as a pipeline: what its windows stage, what holds between its points, and its body at every point. -/
module

public import proofs.«01_k».proof.Proof.Gate
public import Idealize.ShloMosaic.Lib.Pipeline.FrameBody
public import Idealize.ShloMosaic.Lib.Pipeline.Value
public import Idealize.ShloMosaic.Lib.Pipeline.ValueKit.Geometry

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (I : Dev nD → Inp F) (κ : GSem nD τ sig → ℕ) (o : Dev nD → Vec F S512x1024 .f32) (c : Dev nD)

/-! ## The configuration -/

/-- The table on each device: eight times its number. -/
def tabs (c : Dev nD) (p : Fin 1) : (pcfgs (F := F) p).Adm :=
  ⟨fun | ⟨0, _⟩ => fun _ => tw c | ⟨_ + 1, h⟩ => absurd h (Nat.not_lt.2 (Nat.le_add_left _ _)), trivial⟩

abbrev pin (c : Dev nD) : Cfg sig Λ₀ := Pipeline.pinD (pcfgs (F := F)) tabs c 0

/-! ## The blocks of the inputs -/

theorem blk0 (t : Fin (pin (F := F) c).N) (X : Vec F S512x1024 .f32) :
    (((pin (F := F) c).win 0).blk t).view.read (Elt F) X = X := by
  funext y
  refine congrArg X (funext fun a => Fin.ext ?_)
  exact Pipeline.Window.rect_emb_val_of_index_zero ((pin (F := F) c).win 0) t a (by revert a; exact (by decide : ∀ a : Fin 2, (![0, 0] : Fin 2 → ℕ) a = 0)) y

theorem blk2 (t : Fin (pin (F := F) c).N) (X : Vec F S1024x1024 .f32) :
    (((pin (F := F) c).win 2).blk t).view.read (Elt F) X = X := by
  funext y
  refine congrArg X (funext fun a => Fin.ext ?_)
  exact Pipeline.Window.rect_emb_val_of_index_zero ((pin (F := F) c).win 2) t a (by revert a; exact (by decide : ∀ a : Fin 2, (![0, 0] : Fin 2 → ℕ) a = 0)) y

theorem blk1 (t : Fin (pin (F := F) c).N) (X : Vec F S1024x1024 .f32) :
    (((pin (F := F) c).win 1).blk t).view.read (Elt F) X = wqb X (pt (grid0.coords t)) := by
  funext y
  refine congrArg X (funext fun a => Fin.ext ?_)
  refine (Pipeline.Window.rect_emb_val ((pin (F := F) c).win 1) t y a).trans ?_
  have hi : ∀ i : grid0.Coords, cc0_transform_1 i 1 = (pt i).val := by
    intro i
    show (BitVec.ofNat 32 (i 0).val).toNat = (i 0).val
    rw [BitVec.toNat_ofNat]
    have : (i 0).val < 8 := (i 0).isLt
    omega
  match a with
  | ⟨0, _⟩ => show 0 * _ + _ = _; rw [Nat.zero_mul, Nat.zero_add]; rfl
  | ⟨1, _⟩ =>
    show cc0_transform_1 (grid0.coords t) 1 * 128 + (y (1 : Fin 2)).val = 128 * (pt (grid0.coords t)).val + (y (1 : Fin 2)).val
    rw [hi, Nat.mul_comm]

/-! ## The proof data -/

/-- Between the points: the exchange's means and the rings; after the last point everything is given back. -/
def between (n : ℕ) : sProp 𝕄 :=
  if n < 8 then iprop(∃ κ, Ctx I κ c ∗ Scr I c n ∗ TalkIn (F := F) c ∗ selfAt (F := F) c) else Back I c

def owedAt (n : ℕ) : CellTallies nD τ sig Unit := if n < 8 then OB c 0 else 0

def dat : Dat τ (Elt F) Unit ℕ UU ℕ (pin (F := F) c) c where
  A := fun
    | 0 => (I c).x
    | 1 => (I c).wq
    | 2 => (I c).wo
    | 3 => o c
    | ⟨_ + 4, h⟩ => absurd h (Nat.not_lt.2 (Nat.le_add_left _ _))
  after := fun
    | 0 => fun _ => (I c).x
    | 1 => fun t => wqb (I c).wq (pt (grid0.coords t))
    | 2 => fun _ => (I c).wo
    | 3 => fun _ => outv I
    | ⟨_ + 4, h⟩ => absurd h (Nat.not_lt.2 (Nat.le_add_left _ _))
  Φ t := between I c t.val
  q _ := fullShare
  owed t := owedAt c t.val

theorem before0 (t : Fin (pin (F := F) c).N) (d) : (dat I o c).before 0 t d = (I c).x :=
  ((dat I o c).before_in_eq_fetched 0 rfl (fun _ => rfl) (fun _ _ _ => rfl) (fun t => (blk0 c t _).symm) t d).trans (blk0 c t _)
theorem before1 (t : Fin (pin (F := F) c).N) (d) : (dat I o c).before 1 t d = wqb (I c).wq (pt (grid0.coords t)) :=
  ((dat I o c).before_in_eq_fetched 1 rfl (fun _ => rfl) (fun _ _ _ => rfl) (fun t => (blk1 c t _).symm) t d).trans (blk1 c t _)
theorem before2 (t : Fin (pin (F := F) c).N) (d) : (dat I o c).before 2 t d = (I c).wo :=
  ((dat I o c).before_in_eq_fetched 2 rfl (fun _ => rfl) (fun _ _ _ => rfl) (fun t => (blk2 c t _).symm) t d).trans (blk2 c t _)

theorem owes_in (t : Fin ((pin (F := F) c).N + 1)) : Ow c (owedAt c t.val) ⊢ ((dat I o c).owesAt () t : sProp 𝕄) := by
  unfold Ow Dat.owesAt Pipeline.owesWithin Dat.bound
  iintro ⟨%W, H⟩
  iexists W
  isplitr; · ipureintro; exact fun _ _ => Or.inl trivial
  iexact H

theorem owes_out (t : Fin ((pin (F := F) c).N + 1)) : ((dat I o c).owesAt () t : sProp 𝕄) ⊢ Ow c (owedAt c t.val) := by
  unfold Ow Dat.owesAt Pipeline.owesWithin
  iintro ⟨%W, -, H⟩
  iexists W
  iexact H

/-! ## The last window is written at the last point only -/

theorem idle_last (i : grid0.Coords) (h4 : k0_cond4 i = 1#1) : (pin (F := F) c).idle 3 i = false := by
  show idle0 _ 3 i = false
  simp [idle0, h4]
theorem idle_mid (i : grid0.Coords) (h4 : ¬ k0_cond4 i = 1#1) : (pin (F := F) c).idle 3 i = true := by
  show idle0 _ 3 i = true
  simp [idle0, h4]
theorem flush_mid : ∀ t : Fin grid0.N, t.val ≠ 7 → ((pin (F := F) c).win 3).flush t = false := by
  intro t ht
  have h1 : ¬ (t.val + 1 = grid0.N) := fun h => ht (by have := N_0; omega)
  have h2 : ¬ ∃ h : t.val + 1 < grid0.N, ((pin (F := F) c).win 3).index ⟨t.val + 1, h⟩ ≠ ((pin (F := F) c).win 3).index t := fun ⟨_, h⟩ => h rfl
  show (true && (decide (t.val + 1 = grid0.N) || decide (∃ h : t.val + 1 < grid0.N, ((pin (F := F) c).win 3).index ⟨t.val + 1, h⟩ ≠ ((pin (F := F) c).win 3).index t))) = false
  rw [decide_eq_false h1, decide_eq_false h2]
  rfl

theorem coords_val : ∀ t : Fin grid0.N, (pt (grid0.coords t)).val = t.val := by decide

/-! ## The body at every point -/

theorem stg0 (s : Fin 1) : spec0_0.stage s = xM := by rw [Subsingleton.elim s 0]
theorem stg2 (s : Fin 1) : spec0_2.stage s = woB := by rw [Subsingleton.elim s 0]
theorem stg3 (s : Fin 1) : spec0_3.stage s = oW := by rw [Subsingleton.elim s 0]

/-- The buffer that a point reads its block of the query weights from. -/
abbrev wSt (t : Fin (pin (F := F) c).N) : Memref sig .tc .vmem S1024x128 .f32 := spec0_1.stage ((pin (F := F) c).slots t 1)
theorem wSt_whole (t : Fin (pin (F := F) c).N) : (wSt (F := F) c t).IsWhole := hstage0_1 (((pin (F := F) c).slots t 1).cast nbuf0_1)

theorem prog_eq (t : Fin (pin (F := F) c).N) :
    defs₀ (F := F) .tc (pin (F := F) c).body ((pin (F := F) c).bodyArgs t ((pin (F := F) c).slots t))
      = cc0_body (F := F) (grid0.coords t) (Memref.whole main_v6) (Memref.isWhole_whole _) (Memref.whole cc0_stg0_0) (Memref.isWhole_whole _) (wSt (F := F) c t) (wSt_whole c t) (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 := by
  show cc0_body (F := F) (grid0.coords t) (Memref.whole main_v6) (Memref.isWhole_whole _) (spec0_0.stage ((pin (F := F) c).slots t 0)) (hstage0_0 (((pin (F := F) c).slots t 0).cast nbuf0_0)) (wSt (F := F) c t) (wSt_whole c t)
    (Memref.whole main_v8) (Memref.isWhole_whole _) (Memref.whole main_v9) (Memref.isWhole_whole _)
    (spec0_2.stage ((pin (F := F) c).slots t 2)) (hstage0_2 (((pin (F := F) c).slots t 2).cast nbuf0_2)) (spec0_3.stage ((pin (F := F) c).slots t 3)) (hstage0_3 (((pin (F := F) c).slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 = _
  generalize (pin (F := F) c).slots t 0 = s0
  generalize (pin (F := F) c).slots t 2 = s2
  generalize (pin (F := F) c).slots t 3 = s3
  obtain rfl : s0 = (0 : Fin 1) := Subsingleton.elim (α := Fin 1) _ _
  obtain rfl : s2 = (0 : Fin 1) := Subsingleton.elim (α := Fin 1) _ _
  obtain rfl : s3 = (0 : Fin 1) := Subsingleton.elim (α := Fin 1) _ _
  rfl

/-- The output's staging buffer as a point before the last finds it. -/
def outBuf (t : Fin (pin (F := F) c).N) : sProp 𝕄 :=
  iprop(∃ d, owns (c : Thread nD τ) (((pin (F := F) c).win 3).stage ((pin (F := F) c).slots t 3)) fullShare ((dat I o c).before 3 t d))

theorem out_any (t : Fin (pin (F := F) c).N) : outBuf I o c t ⊢ ownsEx (F := F) c oW fullShare := by
  unfold outBuf ownsEx
  iintro ⟨%d, H⟩
  iexists (dat I o c).before 3 t d
  iapply (Entails.of_eq (congrArg (fun m => owns (c : Thread nD τ) m fullShare ((dat I o c).before 3 t d)) (stg3 ((pin (F := F) c).slots t 3))))
  iexact H

theorem win_in (t : Fin (pin (F := F) c).N) :
    iprop((∃ d, owns (c : Thread nD τ) (((pin (F := F) c).win 0).stage ((pin (F := F) c).slots t 0)) fullShare ((dat I o c).before 0 t d))
      ∗ (∃ d, owns (c : Thread nD τ) (((pin (F := F) c).win 1).stage ((pin (F := F) c).slots t 1)) fullShare ((dat I o c).before 1 t d))
      ∗ (∃ d, owns (c : Thread nD τ) (((pin (F := F) c).win 2).stage ((pin (F := F) c).slots t 2)) fullShare ((dat I o c).before 2 t d)))
    ⊢ Win I c (grid0.coords t) (wSt (F := F) c t) := by
  unfold Win ownsTc
  simp only [before0, before1, before2]
  iintro ⟨⟨%_, H0⟩, ⟨%_, H1⟩, ⟨%_, H2⟩⟩
  isplitl [H0]
  · iapply (Entails.of_eq (congrArg (fun m => owns (c : Thread nD τ) m fullShare (I c).x) (stg0 ((pin (F := F) c).slots t 0)))); iexact H0
  isplitl [H1]; · iexact H1
  iapply (Entails.of_eq (congrArg (fun m => owns (c : Thread nD τ) m fullShare (I c).wo) (stg2 ((pin (F := F) c).slots t 2)))); iexact H2

theorem win_out (t : Fin (pin (F := F) c).N) : Win I c (grid0.coords t) (wSt (F := F) c t)
    ⊢ iprop(owns (c : Thread nD τ) (((pin (F := F) c).win 0).stage ((pin (F := F) c).slots t 0)) fullShare ((dat I o c).after 0 t)
      ∗ owns (c : Thread nD τ) (((pin (F := F) c).win 1).stage ((pin (F := F) c).slots t 1)) fullShare ((dat I o c).after 1 t)
      ∗ owns (c : Thread nD τ) (((pin (F := F) c).win 2).stage ((pin (F := F) c).slots t 2)) fullShare ((dat I o c).after 2 t)) := by
  unfold Win ownsTc
  iintro ⟨H0, H1, H2⟩
  isplitl [H0]
  · iapply (Entails.of_eq (congrArg (fun m => owns (c : Thread nD τ) m fullShare (I c).x) (stg0 ((pin (F := F) c).slots t 0)).symm)); iexact H0
  isplitl [H1]; · iexact H1
  iapply (Entails.of_eq (congrArg (fun m => owns (c : Thread nD τ) m fullShare (I c).wo) (stg2 ((pin (F := F) c).slots t 2)).symm)); iexact H2

/-- The body before the last point. -/
theorem point_mid (t : Fin (pin (F := F) c).N) (ht : t.val ≠ 7) :
    iprop(between I c t.val ∗ Ow c (owedAt c t.val) ∗ Win I c (grid0.coords t) (wSt (F := F) c t))
      ⊢ WP c (cc0_body (F := F) (grid0.coords t) (Memref.whole main_v6) (Memref.isWhole_whole _) (Memref.whole cc0_stg0_0) (Memref.isWhole_whole _) (wSt (F := F) c t) (wSt_whole c t) (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
        (fun _ => iprop(between I c (t.val + 1) ∗ Ow c (owedAt c (t.val + 1)) ∗ Win I c (grid0.coords t) (wSt (F := F) c t))) := by
  have hv := coords_val t
  have ht8 : t.val < 8 := by have := t.isLt; have := N_0; omega
  have h4 : ¬ k0_cond4 (grid0.coords t) = 1#1 := fun h => ht (hv.symm.trans ((cond4_iff _).mp h))
  unfold between owedAt
  rw [if_pos ht8, if_pos ht8, if_pos (by omega : t.val + 1 < 8), if_pos (by omega : t.val + 1 < 8)]
  iintro ⟨⟨%κ, #HΓ, Hs, HT, Hself⟩, HO, Hw⟩
  unfold WP
  iapply (wp_wand _ _ _) $$ [Hs HO Hw]
  · iapply (body_mid I κ c (grid0.coords t) (wSt (F := F) c t) (wSt_whole c t) h4)
    isplitr; · iexact HΓ
    isplitl [Hs]
    · iapply (Entails.of_eq (congrArg (Scr I c) hv.symm)); iexact Hs
    isplitl [HO]; · iexact HO
    iexact Hw
  iintro %_ ⟨Hs, HO, Hw⟩
  ihave Hs := (Entails.of_eq (congrArg (fun n => Scr I c (n + 1)) hv)) $$ Hs
  isplitl [Hs HT Hself]
  · iexists κ
    isplitr; · iexact HΓ
    isplitl [Hs]; · iexact Hs
    isplitl [HT]; · iexact HT
    iexact Hself
  isplitl [HO]; · iexact HO
  iexact Hw

/-- The body at the last point: it closes the cells too. -/
theorem point_last (t : Fin (pin (F := F) c).N) (ht : t.val = 7) :
    iprop(between I c t.val ∗ Ow c (owedAt c t.val) ∗ Win I c (grid0.coords t) (wSt (F := F) c t) ∗ ownsEx (F := F) c oW fullShare)
      ⊢ WP c (cc0_body (F := F) (grid0.coords t) (Memref.whole main_v6) (Memref.isWhole_whole _) (Memref.whole cc0_stg0_0) (Memref.isWhole_whole _) (wSt (F := F) c t) (wSt_whole c t) (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
        (fun _ => iprop(between I c (t.val + 1) ∗ Ow c (owedAt c (t.val + 1)) ∗ Win I c (grid0.coords t) (wSt (F := F) c t) ∗ ownsTc c oW fullShare (outv I))) := by
  have hv := coords_val t
  have h4 : k0_cond4 (grid0.coords t) = 1#1 := (cond4_iff _).mpr (hv.trans ht)
  rw [ht]
  unfold between owedAt
  rw [if_pos (by decide : 7 < 8), if_pos (by decide : 7 < 8), if_neg (by decide : ¬ 7 + 1 < 8), if_neg (by decide : ¬ 7 + 1 < 8)]
  iintro ⟨⟨%κ, #HΓ, Hs, HT, Hself⟩, HO, Hw, Hout⟩
  unfold WP
  iapply (wp_fupd _ _ _)
  iapply (wp_wand _ _ _) $$ [Hs HT HO Hw Hout]
  · iapply (body_last I κ c (grid0.coords t) (wSt (F := F) c t) (wSt_whole c t) h4)
    isplitr; · iexact HΓ
    isplitl [Hs HT]
    · isplitl [Hs]; · iexact Hs
      iexact HT
    isplitl [HO]; · iexact HO
    isplitl [Hw]; · iexact Hw
    iexact Hout
  iintro %_ ⟨⟨Hs, HT⟩, HO, Hw, Hout⟩
  imod (stop I κ c) $$ [Hs HT Hself] with HB
  · isplitr
    · ihave ⟨HI, -⟩ := (show Ctx I κ c ⊢ iprop(Inv I κ ∗ levAts L lv ∗ (bigSep Finset.univ fun d : Dev nD => reached ER (barCell d) 0)
        ∗ bigSep Finset.univ fun x : Fin 4 × Dev nD => reached ER (dmaCell c (exS x.1 x.2)) 0) from BI.Entails.refl _) $$ HΓ
      iexact HI
    isplitl [Hs]; · iexact Hs
    isplitl [HT]; · iexact HT
    iexact Hself
  imodintro
  isplitl [HB]; · iexact HB
  isplitl [HO]; · iexact HO
  isplitl [Hw]; · iexact Hw
  iexact Hout

/-- What a point leaves in the output's staging buffer. -/
def leave (t : Fin (pin (F := F) c).N) : sProp 𝕄 :=
  match (pin (F := F) c).idle 3 (grid0.coords t) with
  | true =>
    match ((pin (F := F) c).win 3).flush t with
    | false => outBuf I o c t
    | true => owns (c : Thread nD τ) (((pin (F := F) c).win 3).stage ((pin (F := F) c).slots t 3)) fullShare (outv I)
  | false => owns (c : Thread nD τ) (((pin (F := F) c).win 3).stage ((pin (F := F) c).slots t 3)) fullShare (outv I)

theorem leave_mid (t : Fin (pin (F := F) c).N) (ht : t.val ≠ 7) : outBuf I o c t ⊢ leave I o c t := by
  unfold leave
  rw [idle_mid c _ fun h => ht ((coords_val t).symm.trans ((cond4_iff _).mp h)), flush_mid c t ht]

theorem leave_last (t : Fin (pin (F := F) c).N) (ht : t.val = 7) : ownsTc c oW fullShare (outv I) ⊢ leave I o c t := by
  unfold leave
  rw [idle_last c _ ((cond4_iff _).mpr ((coords_val t).trans ht))]
  exact Entails.of_eq (congrArg (fun m => owns (c : Thread nD τ) m fullShare (outv I)) (stg3 ((pin (F := F) c).slots t 3)).symm)

theorem body_all : BodyObligation (dat I o c) defs₀ 𝒱₀ () Set.univ := by
  intro t
  rw [prog_eq c t]
  have hW : ∀ Φ : Fin 4 → sProp 𝕄, bigSep Finset.univ Φ = iprop(Φ 0 ∗ Φ 1 ∗ Φ 2 ∗ Φ 3) := fun Φ => bigSep_W0 Φ
  -- what the point is handed
  have hin : iprop((dat I o c).Φ t.castSucc ∗ (dat I o c).owesAt () t.castSucc
      ∗ bigSep Finset.univ fun w : Fin 4 => iprop(∃ d, owns (c : Thread nD τ) (((pin (F := F) c).win w).stage ((pin (F := F) c).slots t w)) fullShare ((dat I o c).before w t d)))
      ⊢ iprop((between I c t.val ∗ Ow c (owedAt c t.val) ∗ Win I c (grid0.coords t) (wSt (F := F) c t)) ∗ outBuf I o c t) := by
    refine (BIClass.sep_mono (show (dat I o c).Φ t.castSucc ⊢ between I c t.val from BI.Entails.refl _) (BIClass.sep_mono (owes_out I o c t.castSucc) (Entails.of_eq (hW _)))).trans ?_
    iintro ⟨HΦ, HO, H0, H1, H2, H3⟩
    isplitr [H3]
    · isplitl [HΦ]; · iexact HΦ
      isplitl [HO]; · iexact HO
      iapply (win_in I o c t)
      isplitl [H0]; · iexact H0
      isplitl [H1]; · iexact H1
      iexact H2
    unfold outBuf
    iexact H3
  -- what it hands back
  have hout : iprop(between I c (t.val + 1) ∗ Ow c (owedAt c (t.val + 1)) ∗ Win I c (grid0.coords t) (wSt (F := F) c t) ∗ leave I o c t)
      ⊢ iprop((dat I o c).Φ t.succ ∗ (dat I o c).owesAt () t.succ
        ∗ (owns (c : Thread nD τ) (((pin (F := F) c).win 0).stage ((pin (F := F) c).slots t 0)) fullShare ((dat I o c).after 0 t)
          ∗ owns (c : Thread nD τ) (((pin (F := F) c).win 1).stage ((pin (F := F) c).slots t 1)) fullShare ((dat I o c).after 1 t)
          ∗ owns (c : Thread nD τ) (((pin (F := F) c).win 2).stage ((pin (F := F) c).slots t 2)) fullShare ((dat I o c).after 2 t)
          ∗ leave I o c t)) := by
    refine (?_ : _ ⊢ _).trans (BIClass.sep_mono (show between I c (t.val + 1) ⊢ (dat I o c).Φ t.succ from BI.Entails.refl _) (BIClass.sep_mono (owes_in I o c t.succ) (BI.Entails.refl _)))
    iintro ⟨HΦ, HO, Hw, H3⟩
    ihave ⟨H0, H1, H2⟩ := (win_out I o c t) $$ Hw
    isplitl [HΦ]; · iexact HΦ
    isplitl [HO]; · iexact HO
    isplitl [H0]; · iexact H0
    isplitl [H1]; · iexact H1
    isplitl [H2]; · iexact H2
    iexact H3
  have hrun : iprop((between I c t.val ∗ Ow c (owedAt c t.val) ∗ Win I c (grid0.coords t) (wSt (F := F) c t)) ∗ outBuf I o c t)
      ⊢ WP c (cc0_body (F := F) (grid0.coords t) (Memref.whole main_v6) (Memref.isWhole_whole _) (Memref.whole cc0_stg0_0) (Memref.isWhole_whole _) (wSt (F := F) c t) (wSt_whole c t) (Memref.whole main_v8) (Memref.isWhole_whole _) (Memref.whole main_v9) (Memref.isWhole_whole _)
    (Memref.whole cc0_stg2_0) (Memref.isWhole_whole _) (Memref.whole cc0_stg3_0) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
        (fun _ => iprop(between I c (t.val + 1) ∗ Ow c (owedAt c (t.val + 1)) ∗ Win I c (grid0.coords t) (wSt (F := F) c t) ∗ leave I o c t)) := by
    by_cases ht : t.val = 7
    · iintro ⟨⟨HΦ, HO, Hw⟩, H3⟩
      unfold WP
      iapply (wp_wand _ _ _) $$ [HΦ HO Hw H3]
      · iapply (point_last I c t ht)
        isplitl [HΦ]; · iexact HΦ
        isplitl [HO]; · iexact HO
        isplitl [Hw]; · iexact Hw
        iapply (out_any I o c t); iexact H3
      iintro %_ ⟨HΦ, HO, Hw, H3⟩
      isplitl [HΦ]; · iexact HΦ
      isplitl [HO]; · iexact HO
      isplitl [Hw]; · iexact Hw
      iapply (leave_last I o c t ht); iexact H3
    · iintro ⟨H, H3⟩
      unfold WP
      iapply (wp_wand _ _ _) $$ [H]
      · iapply (point_mid I c t ht); iexact H
      iintro %_ ⟨HΦ, HO, Hw⟩
      isplitl [HΦ]; · iexact HΦ
      isplitl [HO]; · iexact HO
      isplitl [Hw]; · iexact Hw
      iapply (leave_mid I o c t ht); iexact H3
  refine BI.Entails.trans hin (BI.Entails.trans hrun (wp_mono _ _ _ fun _ => BI.Entails.trans hout ?_))
  refine BI.sep_mono (BI.Entails.refl _) (BI.sep_mono (BI.Entails.refl _) (BI.Entails.trans ?_ (Entails.of_eq (bigSep_W0 _).symm)))
  exact BI.Entails.refl _

end Cert.KernelIdeal.Run
-- ==== Proof.Store.lean ====
/- The buffers of a device around the kernel: which the windows stage, which hold the heads and the table, which stand by. -/
module

public import proofs.«01_k».proof.Proof.Region
public import proofs.«01_k».proof.Proof.Gen.KernelIdeal.Regions

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The arrays as the region finds them -/

/-- What the kernel reads on each device. -/
def inp (c : Dev nD) : Inp F := ⟨V1 m c main_v7, V1 m c main_arg1, V1 m c main_v8, V1 m c main_v9, V1 m c main_arg4⟩
/-- The array of the result, before it is written. -/
def old (c : Dev nD) : Vec F S512x1024 .f32 := V1 m c main_v10

/-- The device's number times eight, as the host computes it. -/

theorem tab_word : ∀ c : Dev nD,
    muli (id (Host.remui (Host.divui (constantI S_ 32 (Dev.word c)) (constantI S_ 32 1#32)) (constantI S_ 32 8#32))) (constantI S_ 32 8#32) (fun a => a.elim0) = tw c := by decide

instance : Subsingleton S_.Idx := ⟨fun a b => funext fun k => k.elim0⟩

theorem tab_eq : V1 m c main_v6 = fun _ => tw c := by
  unfold V1
  after_results
  funext i
  exact (congrArg (muli (id (Host.remui (Host.divui (constantI S_ 32 (Dev.word c)) (constantI S_ 32 1#32)) (constantI S_ 32 8#32))) (constantI S_ 32 8#32)) (Subsingleton.elim _ _)).trans (tab_word c)

/-- After the region: the result's array is written. -/
def V2' (c : Dev nD) : Valuation τ sig (Elt F) := Function.update (V1 m c) main_v10 (outv (inp m))

theorem V2'_out : V2' m c main_v10 = outv (inp m) := Function.update_self _ _ _
theorem V2'_of (r : Ref sig .tc) (h : r ≠ main_v10) : V2' m c r = V1 m c r :=
  Function.update_of_ne (StableHlo.devRef_ne_of_ne h : (Proc.devRef .tc r : DevRef τ sig) ≠ Proc.devRef .tc main_v10) _ _

/-! ## The unscoped buffers, sorted -/

/-- The buffers that the region passes by. -/
def byRefs : Finset (Ref sig .tc) :=
  ((((Finset.univ.filter fun b : Ref sig .tc => ¬ b.isScoped) \ Finset.univ.image (Pipeline.arrRef spec0)) \ Finset.univ.image pre0.ref) \ {main_v8, main_v9})

def bypass (V : Valuation τ sig (Elt F)) : sProp 𝕄 :=
  bigSep byRefs fun b => ((c : Thread nD τ).loc b) ↦{fullShare} V b

def heads (V : Valuation τ sig (Elt F)) : sProp 𝕄 :=
  iprop((((c : Thread nD τ).loc main_v8) ↦{fullShare} V main_v8) ∗ (((c : Thread nD τ).loc main_v9) ↦{fullShare} V main_v9))

def wins (V : Valuation τ sig (Elt F)) : sProp 𝕄 :=
  bigSep Finset.univ fun w : Fin 4 => (((c : Thread nD τ).loc (Pipeline.arrRef spec0 w)) ↦{fullShare} V (Pipeline.arrRef spec0 w))

def table (V : Valuation τ sig (Elt F)) : sProp 𝕄 := Pipeline.prefHeld pre0 c (fun _ => fullShare) (fun k => V (pre0.ref k))

theorem rest_eq (V : Valuation τ sig (Elt F)) :
    (Pipeline.unscopedRestP pre0 spec0 c (fun b => V b) : sProp 𝕄) = iprop(heads c V ∗ bypass c V) := by
  unfold Pipeline.unscopedRestP heads bypass byRefs
  rw [bigSep_sdiff_split (t := {main_v8, main_v9}) (by decide), BI.bigSep_insert (by decide), BI.bigSep_singleton]
  rfl

theorem bufs_eq (V : Valuation τ sig (Elt F)) :
    (StableHlo.held (c : Thread nD τ) (Pipeline.ucRefs τ sig) V : sProp 𝕄) = iprop(wins c V ∗ table c V ∗ heads c V ∗ bypass c V) := by
  rw [← rest_eq]
  refine (Pipeline.unscopedBufs_held c V).symm.trans ?_
  refine (Pipeline.PerCore.unscopedBufs_split (Pipeline.pinD (pcfgs (F := F)) tabs) 0 c winFacts0.arr_unscoped winFacts0.arr_inj (fun b => V b)).trans ?_
  exact congrArg (fun X => iprop(wins c V ∗ X)) (Pipeline.unscopedRest_split preFacts0 c (fun b => V b))

/-- The region changes nothing of what it passes by. -/
theorem bypass_V2' : (bypass c (V2' m c) : sProp 𝕄) = bypass c (V1 m c) :=
  bigSep_congr fun b hb => by rw [V2'_of m c b fun e => (by decide : main_v10 ∉ byRefs) (e ▸ hb)]
theorem heads_V2' : (heads c (V2' m c) : sProp 𝕄) = heads c (V1 m c) := by
  unfold heads; rw [V2'_of m c _ (by decide), V2'_of m c _ (by decide)]
theorem table_V2' : (table c (V2' m c) : sProp 𝕄) = table c (V1 m c) := by
  unfold table
  refine congrArg _ (funext fun k => V2'_of m c _ ?_)
  revert k; decide

theorem table_eq : (table c (V1 m c) : sProp 𝕄) = ownsTc c tbM fullShare (fun _ => tw c) := by
  unfold table Pipeline.prefHeld
  rw [show (fun k => V1 m c (pre0.ref k)) = (fun k => (tabs (F := F) c 0).1 k) from funext fun k => by
    match k with
    | ⟨0, _⟩ => exact tab_eq m c,
    show (Finset.univ : Finset (Fin pre0.K)) = {0} from rfl, BI.bigSep_singleton]
  exact (owns_whole (c : Thread nD τ) main_v6 fullShare _).symm

theorem heads_eq : (heads c (V1 m c) : sProp 𝕄) = iprop((kSide (inp m) c).all ∗ (vSide (inp m) c).all) := by
  unfold heads Side.all
  exact congrArg₂ (fun X Y => iprop(X ∗ Y)) (by
    show _ = ((Memref.whole main_v8).view.loc (c : Thread nD τ) ↦[(Memref.whole main_v8).view.set]{fullShare} (kSide (inp m) c).K)
    rw [(Memref.isWhole_whole main_v8).set_eq_univ]; rfl) (by
    show _ = ((Memref.whole main_v9).view.loc (c : Thread nD τ) ↦[(Memref.whole main_v9).view.set]{fullShare} (vSide (inp m) c).K)
    rw [(Memref.isWhole_whole main_v9).set_eq_univ]; rfl)

theorem share_eq (w : Fin 4) : (dat (inp m) (old m) c).share w = fullShare := by
  unfold Dat.share; split <;> rfl

theorem whole3 : ((pin (F := F) c).win 3).WholeAt t0_7 := by
  refine ⟨?_, fun t ht => ?_, fun a => ?_⟩
  · show (true && (decide (t0_7.val + 1 = grid0.N) || decide (∃ h : t0_7.val + 1 < grid0.N, ((pin (F := F) c).win 3).index ⟨t0_7.val + 1, h⟩ ≠ ((pin (F := F) c).win 3).index t0_7))) = true
    rw [decide_eq_true (show t0_7.val + 1 = grid0.N from by decide), Bool.true_or, Bool.true_and]
  · by_contra hne
    have h7 : t.val ≠ 7 := fun e => hne (Fin.ext e)
    have := flush_mid (F := F) c t h7
    rw [ht] at this
    exact Bool.noConfusion this
  · match a with
    | ⟨0, _⟩ => exact ⟨rfl, rfl⟩
    | ⟨1, _⟩ => exact ⟨rfl, rfl⟩

theorem arr3 : (dat (inp m) (old m) c).arrAt 3 (pin (F := F) c).N = outv (inp m) :=
  (dat (inp m) (old m) c).arrAt_eq_of_after_last 3 t0_7 (whole3 c) (outv (inp m)) (fun _ => rfl)

theorem wins_in : (wins c (V1 m c) : sProp 𝕄) = ((dat (inp m) (old m) c).arrays ((dat (inp m) (old m) c).arrAt · 0)) := by
  rw [Pipeline.PerCore.arrays_eq (Pipeline.pinD (pcfgs (F := F)) tabs) (fun _ c => dat (inp m) (old m) c) 0 c arr_whole0 (share_eq m c)]
  refine bigSep_congr fun w _ => ?_
  match w with
  | 0 => rfl
  | 1 => rfl
  | 2 => rfl
  | 3 => rfl

theorem wins_out : ((dat (inp m) (old m) c).arrays ((dat (inp m) (old m) c).arrAt · (pin (F := F) c).N)) = (wins c (V2' m c) : sProp 𝕄) := by
  rw [Pipeline.PerCore.arrays_eq (Pipeline.pinD (pcfgs (F := F)) tabs) (fun _ c => dat (inp m) (old m) c) 0 c arr_whole0 (share_eq m c)]
  refine bigSep_congr fun w _ => ?_
  match w with
  | 0 => exact congrArg (fun X => (((c : Thread nD τ).loc main_v7) ↦{fullShare} X : sProp 𝕄)) (((dat (inp m) (old m) c).arrAt_in 0 rfl _).trans (V2'_of m c main_v7 (by decide)).symm)
  | 1 => exact congrArg (fun X => (((c : Thread nD τ).loc main_arg1) ↦{fullShare} X : sProp 𝕄)) (((dat (inp m) (old m) c).arrAt_in 1 rfl _).trans (V2'_of m c main_arg1 (by decide)).symm)
  | 2 => exact congrArg (fun X => (((c : Thread nD τ).loc main_arg4) ↦{fullShare} X : sProp 𝕄)) (((dat (inp m) (old m) c).arrAt_in 2 rfl _).trans (V2'_of m c main_arg4 (by decide)).symm)
  | 3 => exact congrArg (fun X => (((c : Thread nD τ).loc main_v10) ↦{fullShare} X : sProp 𝕄)) ((arr3 m c).trans (V2'_out m c).symm)

end Cert.KernelIdeal.Run
-- ==== Proof.Segment.lean ====
/- The kernel as one stretch of the program: what a device brings to it, and what it leaves with. -/
module

public import proofs.«01_k».proof.Proof.Store

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation HostSeg cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## What a device brings to the kernel -/

variable (I : Dev nD → Inp F) in
/-- The cells' invariants, and the device's share of the launch. -/
def Ghost (κ : GSem nD τ sig → ℕ) (c : Dev nD) : sProp 𝕄 :=
  iprop(Inv I κ ∗ (bigSep Finset.univ fun d : Dev nD => reached ER (barCell d) 0) ∗ bigSep Finset.univ (ownTok (F := F) c) ∗ Dealt (F := F) c)

def Brings (c : Dev nD) : sProp 𝕄 := iprop((∃ κ, Ghost (inp m) κ c) ∗ Ow (F := F) c (OB c 0))
def Leaves (c : Dev nD) : sProp 𝕄 := iprop(semVal (barCell c) 0 ∗ Ow (F := F) c 0)

def inside (c : Dev nD) : sProp 𝕄 :=
  iprop((∃ κ, Ctx (inp m) κ c) ∗ Dealt (F := F) c ∗ Cells (F := F) c ∗ ((kSide (inp m) c).all ∗ (vSide (inp m) c).all))
def outside (c : Dev nD) : sProp 𝕄 :=
  iprop(semVal (barCell c) 0 ∗ ownsTc c tbM fullShare (fun _ => tw c) ∗ ((kSide (inp m) c).all ∗ (vSide (inp m) c).all))

theorem room_eq (b : Ref sig .tc) (c : Dev nD) :
    iprop(∃ f, ((c : Thread nD τ).loc b) ↦{fullShare} f) = (ownsEx (F := F) c (Memref.whole b) fullShare : sProp 𝕄) := by
  unfold ownsEx
  exact congrArg _ (funext fun f => (owns_whole (c : Thread nD τ) b fullShare f).symm)

theorem rooms_eq : (Pipeline.scopedRest spec0 c : sProp 𝕄) = Rooms (F := F) c := by
  rw [scopedRest0_eq]
  unfold Rooms
  exact congrArg₂ (fun X Y => iprop(X ∗ Y)) (room_eq cc0_scratch0 c) (congrArg₂ (fun X Y => iprop(X ∗ Y)) (room_eq cc0_scratch1 c)
    (congrArg₂ (fun X Y => iprop(X ∗ Y)) (room_eq cc0_scratch2 c) (congrArg₂ (fun X Y => iprop(X ∗ Y)) (room_eq cc0_scratch3 c)
      (congrArg₂ (fun X Y => iprop(X ∗ Y)) (room_eq cc0_scratch4 c) (room_eq cc0_scratch5 c)))))

include m in
theorem table_held : (Pipeline.prefHeld pre0 c (fun _ => fullShare) (tabs (F := F) c 0).1 : sProp 𝕄) = ownsTc c tbM fullShare (fun _ => tw c) := by
  refine Eq.trans ?_ (table_eq m c)
  unfold table
  exact congrArg _ (funext fun k => by
    match k with
    | ⟨0, _⟩ => exact (tab_eq m c).symm)

theorem between_zero (I : Dev nD → Inp F) : between I c 0 = iprop(∃ κ, Ctx I κ c ∗ Scr I c 0 ∗ TalkIn (F := F) c ∗ selfAt (F := F) c) := by
  unfold between; exact if_pos (by decide)
theorem between_end (I : Dev nD → Inp F) : between I c 8 = Back I c := by
  unfold between; exact if_neg (by decide)
theorem owed_zero : owedAt c 0 = OB c 0 := if_pos (by decide)
theorem owed_end : owedAt c 8 = 0 := if_neg (by decide)

theorem inside_start : iprop(inside m c ∗ ownsTc c tbM fullShare (fun _ => tw c) ∗ Rooms (F := F) c) ⊢ between (inp m) c 0 := by
  rw [between_zero]
  unfold inside
  iintro ⟨⟨⟨%κ, HC⟩, Hd, Hc, Hs⟩, Ht, Hr⟩
  iexists κ
  isplitl [HC]; · iexact HC
  iapply (start (inp m) c)
  isplitl [Hd]; · iexact Hd
  isplitl [Hc]; · iexact Hc
  isplitl [Hs]; · iexact Hs
  isplitl [Ht]; · iexact Ht
  iexact Hr

theorem outside_stop : between (inp m) c 8 ⊢ iprop(outside m c ∗ Pipeline.ownSems0 osem c ∗ Rooms (F := F) c) := by
  rw [between_end]
  unfold Back outside
  iintro ⟨Hb, Ho, Ht, Hs, Hr⟩
  isplitl [Hb Ht Hs]
  · isplitl [Hb]; · iexact Hb
    isplitl [Ht]; · iexact Ht
    iexact Hs
  isplitl [Ho]; · iexact Ho
  iexact Hr

instance (x : Fin 4 × Dev nD) : BI.Persistent (exReached (F := F) c x) := by unfold exReached; infer_instance

/-- Entering: the cells are opened, the buffers sorted. -/
theorem enter : iprop((iprop(StableHlo.held (c : Thread nD τ) (Pipeline.ucRefs τ sig) (V1 m c) ∗ Brings m c)) ∗ Pipeline.ownSems0 osem c ∗ levAts L lv)
    ⊢ |={Set.univ}=> iprop(wins c (V1 m c) ∗ ownsTc c tbM fullShare (fun _ => tw c) ∗ Ow (F := F) c (OB c 0) ∗ inside m c ∗ bypass c (V1 m c)) := by
  rw [bufs_eq, table_eq, heads_eq]
  unfold Brings Ghost inside
  iintro ⟨⟨⟨Hw, Ht, Hh, Hb⟩, ⟨%κ, #HI, #Hr, Hk, Hd⟩, Ho⟩, Hz, #Hl⟩
  imod (open_all (inp m) κ c) $$ [Hk Hz] with ⟨Hc, #He⟩
  · isplitr; · iexact HI
    isplitl [Hk]; · iexact Hk
    iexact Hz
  imodintro
  isplitl [Hw]; · iexact Hw
  isplitl [Ht]; · iexact Ht
  isplitl [Ho]; · iexact Ho
  isplitl [Hd Hc Hh]
  · isplitr
    · iexists κ
      unfold Ctx
      isplitr; · iexact HI
      isplitr; · iexact Hl
      isplitr; · iexact Hr
      iexact He
    isplitl [Hd]; · iexact Hd
    isplitl [Hc]; · iexact Hc
    iexact Hh
  iexact Hb

/-- Leaving: the buffers come together again, with the result written. -/
theorem depart : iprop(wins c (V2' m c) ∗ Ow (F := F) c 0 ∗ outside m c ∗ bypass c (V1 m c))
    ⊢ |={Set.univ}=> iprop(StableHlo.held (c : Thread nD τ) (Pipeline.ucRefs τ sig) (V2' m c) ∗ Leaves (F := F) c) := by
  rw [bufs_eq, table_V2', heads_V2', bypass_V2', table_eq, heads_eq]
  unfold outside Leaves
  iintro ⟨Hw, Ho, ⟨Hs, Ht, Hh⟩, Hb⟩
  imodintro
  isplitl [Hw Ht Hh Hb]
  · isplitl [Hw]; · iexact Hw
    isplitl [Ht]; · iexact Ht
    isplitl [Hh]; · iexact Hh
    iexact Hb
  isplitl [Hs]; · iexact Hs
  iexact Ho

/-- What a device owes lies above its staging cells. -/
theorem owed_above (n : ℕ) : Above 0 (owedAt c n) := by
  unfold owedAt; split
  · exact above_OB c 0
  · exact above_zero 0

theorem stage_level : ∀ (w : Fin 4) (s : Fin (spec0 w).nbuf), ∃ k : DmaSem sig, (SemLoc.dma ((spec0 w).sem s) : SemLoc sig) = .dma k ∧ k.val < 17 := by decide

abbrev pdats (m : (ℓ : Loc nD τ sig) → Buf (Elt F) ℓ) (p : Fin 1) (c : Dev nD) :
    Dat τ (Elt F) Unit ℕ UU ℕ (Pipeline.pinD (pcfgs (F := F)) tabs c p) c := dat (inp m) (old m) c

theorem waits : (levAts L lv : sProp 𝕄) ⊢ Pipeline.PerCore.cellsWaits (Pipeline.pinD (pcfgs (F := F)) tabs) (pdats m) () 0 c :=
  Pipeline.PerCore.cellsWaits_intro _ _ _ _ _ fun w s t => mayWait c _ _ (by
    obtain ⟨k, e, hk⟩ := stage_level w s
    have : lv ((c : Thread nD τ), (SemLoc.dma ((spec0 w).sem s) : SemLoc sig)) () = 0 := by rw [e]; show (if k.val < 17 then _ else _) = _; rw [if_pos hk]
    have h : Above (lv ((c : Thread nD τ), (SemLoc.dma ((spec0 w).sem s) : SemLoc sig)) ()) (owedAt c t.val) := by rw [this]; exact owed_above c t.val
    exact h)

theorem own_disj : ∀ (k : Own) (w : Fin 4) (s : Fin (spec0 w).nbuf), osem k ≠ .dma ((spec0 w).sem s) := by decide

set_option backward.isDefEq.respectTransparency.types false in
/-- The kernel as a stretch of the program. -/
def seg1 : Pipeline.PerCore.RegionSeg (Name := ℕ) (pcfgs (F := F)) tabs (pdats m) () defs₀ 𝒱₀ L lv 0 where
  win := winFacts0.to₀
  block_pos := block_pos0
  stage_whole := stage_whole0
  K := Own
  osem := osem
  ho := ⟨by decide, by decide, own_disj⟩
  hbody c := (body_all (inp m) (old m) c).loose
  hwaits c := waits m c
  pre c := iprop(StableHlo.held (c : Thread nD τ) (Pipeline.ucRefs τ sig) (V1 m c) ∗ Brings m c)
  post c := iprop(StableHlo.held (c : Thread nD τ) (Pipeline.ucRefs τ sig) (V2' m c) ∗ Leaves (F := F) c)
  X c := inside m c
  Y c := outside m c
  Z c := bypass c (V1 m c)
  hentry c := by
    refine (enter m c).trans (fupd_mono ?_)
    rw [wins_in, ← table_held m c, ← owed_zero]
    exact BIClass.sep_mono (show _ ⊢ _ from BI.Entails.refl _) (BIClass.sep_mono (show _ ⊢ _ from BI.Entails.refl _) (BIClass.sep_mono (owes_in (inp m) (old m) c 0) (show _ ⊢ _ from BI.Entails.refl _)))
  hin c := by
    refine BIClass.entails_trans ?_ (inside_start m c)
    rw [← table_held m c, ← rooms_eq]
  hout c := by
    have h := outside_stop m c
    rw [← rooms_eq] at h
    exact h
  hexit c := by
    refine BIClass.entails_trans ?_ (depart m c)
    rw [← wins_out, ← owed_end c]
    exact BIClass.sep_mono (show _ ⊢ _ from BI.Entails.refl _) (BIClass.sep_mono (owes_out (inp m) (old m) c (Fin.last _)) (show _ ⊢ _ from BI.Entails.refl _))

end Cert.KernelIdeal.Run
-- ==== Proof.Deal.lean ====
/- What is dealt to a device before the program starts: the duties that it will pay, and the credit at its cells. -/
module

public import proofs.«01_k».proof.Proof.Segment

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (c : Dev nD)

/-! ## Families along an injection -/

theorem bigSep_sub {J K : Type} [Fintype J] [Fintype K] [DecidableEq K] (f : J ↪ K) (Φ : K → sProp 𝕄) :
    (bigSep Finset.univ Φ : sProp 𝕄) ⊢ bigSep Finset.univ fun j => Φ (f j) := by
  classical
  have h : (bigSep (Finset.univ.map f) Φ : sProp 𝕄) = bigSep Finset.univ fun j => Φ (f j) := bigSep_map f
  exact BIClass.entails_trans (BI.bigSep_subset (Finset.subset_univ _)) (Entails.of_eq h)

theorem bigSep_peers (Φ : Dev nD → sProp 𝕄) : (bigSep Finset.univ Φ : sProp 𝕄) ⊢ bigSep (Finset.univ.erase c) Φ :=
  BI.bigSep_subset (Finset.erase_subset _ _)

/-! ## The cells -/

theorem barCell_inj : Function.Injective barCell := fun c d h => Fin.ext (congrArg (fun g : GSem nD τ sig => g.1.1.val) h)
theorem dmaCell_inj {c d : Dev nD} {n k : DmaSem sig} (h : dmaCell c n = dmaCell d k) : c = d ∧ n = k :=
  ⟨Fin.ext (congrArg (fun g : GSem nD τ sig => g.1.1.val) h), SemLoc.dma.inj (congrArg Prod.snd h)⟩
theorem dma_ne_bar (c d : Dev nD) (n : DmaSem sig) : dmaCell c n ≠ barCell d := fun h => by
  have h2 : (SemLoc.dma n : SemLoc sig) = .reg barS := congrArg Prod.snd h
  cases h2

def barEmb : Dev nD ↪ GSem nD τ sig := ⟨barCell, barCell_inj⟩
def dmaEmb : Dev nD × DmaSem sig ↪ GSem nD τ sig :=
  ⟨fun x => dmaCell x.1 x.2, fun x y h => Prod.ext (dmaCell_inj h).1 (dmaCell_inj h).2⟩
/-- The barriers' cells; the cells of the copies. -/
def bars : Finset (GSem nD τ sig) := Finset.univ.map barEmb
def dmas : Finset (GSem nD τ sig) := Finset.univ.map dmaEmb

theorem bars_dmas : Disjoint bars dmas := by
  rw [Finset.disjoint_left]
  intro g hb hd
  obtain ⟨c, -, rfl⟩ := Finset.mem_map.mp hb
  obtain ⟨x, -, h⟩ := Finset.mem_map.mp hd
  exact dma_ne_bar _ _ _ h

/-! ## The duties -/

/-- A device's duties: at the peers' barriers, of its sixteen copies of heads, and of its exchange. -/
abbrev Duty : Type := Dev nD ⊕ (Fin 2 × Fin 8) ⊕ (Fin 4 × Dev nD)

/-- The device that holds the cell of an exchange duty, and the peer that the cell is for. -/
def side (b : Fin 4) (c p : Dev nD) : Dev nD × Dev nD := if b.val % 2 = 0 then (c, p) else (p, c)

def duty (x : Dev nD × Duty) : GSem nD τ sig × ℕ × Dev nD :=
  match x with
  | (c, .inl p) => (barCell p, 0, c)
  | (c, .inr (.inl (b, h))) => (dmaCell c (kvS b (sl h)), rd h, 0)
  | (c, .inr (.inr (b, p))) => (dmaCell (side b c p).1 (exS b (side b c p).2), 0, 0)

theorem kvS_val (b s : Fin 2) : (kvS b s).val = 5 + 2 * b.val + s.val := rfl
theorem exS_val (b : Fin 4) (p : Fin 8) : (exS b p).val = 9 + 8 * b.val + p.val := rfl

theorem side_inj (b : Fin 4) {c p c' p' : Dev nD} (h : side b c p = side b c' p') : c = c' ∧ p = p' := by
  unfold side at h
  split at h
  · exact ⟨congrArg Prod.fst h, congrArg Prod.snd h⟩
  · exact ⟨congrArg Prod.snd h, congrArg Prod.fst h⟩

theorem duty_inj : Function.Injective duty := by
  rintro ⟨c, p | ⟨b, h⟩ | ⟨b, p⟩⟩ ⟨c', p' | ⟨b', h'⟩ | ⟨b', p'⟩⟩ e
  · have e1 : p = p' := barCell_inj (congrArg Prod.fst e)
    have e2 : c = c' := congrArg (fun y => y.2.2) e
    rw [e1, e2]
  · exact absurd (congrArg Prod.fst e).symm (dma_ne_bar _ _ _)
  · exact absurd (congrArg Prod.fst e).symm (dma_ne_bar _ _ _)
  · exact absurd (congrArg Prod.fst e) (dma_ne_bar _ _ _)
  · obtain ⟨e1, e2⟩ := dmaCell_inj (congrArg Prod.fst e)
    have e3 : rd h = rd h' := congrArg (fun y => y.2.1) e
    have e4 := congrArg Fin.val e2
    rw [kvS_val, kvS_val] at e4
    unfold rd at e3
    have := b.isLt; have := b'.isLt
    have h1 : (sl h).val = h.val % 2 := rfl
    have h2 : (sl h').val = h'.val % 2 := rfl
    have eb : b = b' := Fin.ext (by omega)
    have eh : h = h' := Fin.ext (by omega)
    rw [e1, eb, eh]
  · obtain ⟨-, e2⟩ := dmaCell_inj (congrArg Prod.fst e)
    have e4 := congrArg Fin.val e2
    rw [kvS_val, exS_val] at e4
    have := b.isLt; have := (sl h).isLt
    omega
  · exact absurd (congrArg Prod.fst e) (dma_ne_bar _ _ _)
  · obtain ⟨-, e2⟩ := dmaCell_inj (congrArg Prod.fst e)
    have e4 := congrArg Fin.val e2
    rw [kvS_val, exS_val] at e4
    have := b'.isLt; have := (sl h').isLt
    omega
  · obtain ⟨e1, e2⟩ := dmaCell_inj (congrArg Prod.fst e)
    have e4 := congrArg Fin.val e2
    rw [exS_val, exS_val] at e4
    have h1 := (side b c p).2.isLt; have h2 := (side b' c' p').2.isLt
    have eb : b = b' := Fin.ext (by omega)
    subst eb
    obtain ⟨rfl, rfl⟩ := side_inj b (Prod.ext e1 (Fin.ext (by omega)))
    rfl

def duties : Finset (GSem nD τ sig × ℕ × Dev nD) := Finset.univ.map ⟨duty, duty_inj⟩

/-- A device's duties, as tokens. -/
def held (c : Dev nD) : sProp 𝕄 :=
  bigSep Finset.univ fun j : Duty => dutyTok ER (duty (c, j)).1 (duty (c, j)).2.1 (duty (c, j)).2.2

theorem duties_eq : (bigSep duties fun x => (dutyTok ER x.1 x.2.1 x.2.2 : sProp 𝕄)) = bigSep Finset.univ (held (F := F)) := by
  unfold duties held
  rw [bigSep_map, BI.bigSep_univ_prod]
  rfl

def exTok (c : Dev nD) (b : Fin 4) (p : Dev nD) : sProp 𝕄 := dutyTok ER (dmaCell (side b c p).1 (exS b (side b c p).2)) 0 0

theorem held_split : held (F := F) c ⊢ iprop(bigSep (Finset.univ.erase c) (tok0 (F := F) c) ∗ bigSep (Finset.univ.erase c) (tok1 (F := F) c)
    ∗ bigSep (Finset.univ.erase c) (tok2 (F := F) c) ∗ bigSep Finset.univ (kvTok (F := F) c 0) ∗ bigSep Finset.univ (kvTok (F := F) c 1)) := by
  have e : held (F := F) c = iprop(bigSep Finset.univ (tok0 (F := F) c)
      ∗ (bigSep Finset.univ fun b : Fin 2 => bigSep Finset.univ (kvTok (F := F) c b)) ∗ (bigSep Finset.univ fun b : Fin 4 => bigSep Finset.univ (exTok (F := F) c b))) := by
    unfold held
    rw [BI.bigSep_univ_sum, BI.bigSep_univ_sum, BI.bigSep_univ_prod, BI.bigSep_univ_prod]
    rfl
  have e2 : (bigSep Finset.univ fun b : Fin 2 => bigSep Finset.univ (kvTok (F := F) c b)) = iprop(bigSep Finset.univ (kvTok (F := F) c 0) ∗ bigSep Finset.univ (kvTok (F := F) c 1)) :=
    Idealize.SL.BI.bigSep_fin_two _
  rw [e, e2, bigSep_four]
  iintro ⟨H0, ⟨Hk, Hv⟩, A, B, C, D⟩
  ihave H0' := (bigSep_peers c _) $$ H0
  ihave A' := (bigSep_peers c _) $$ A
  ihave B' := (bigSep_peers c _) $$ B
  ihave C' := (bigSep_peers c _) $$ C
  ihave D' := (bigSep_peers c _) $$ D
  isplitl [H0']; · iexact H0'
  isplitl [A' B']
  · iapply (bigSep_zip (P := exTok (F := F) c 0) (Q := exTok (F := F) c 1) (R := tok1 (F := F) c) fun p _ => BI.Entails.refl _)
    isplitl [A']; · iexact A'
    iexact B'
  isplitl [C' D']
  · iapply (bigSep_zip (P := exTok (F := F) c 2) (Q := exTok (F := F) c 3) (R := tok2 (F := F) c) fun p _ => BI.Entails.refl _)
    isplitl [C']; · iexact C'
    iexact D'
  isplitl [Hk]; · iexact Hk
  iexact Hv

/-! ## The credits -/

theorem owedFrom_at (d : Dev nD) (T : Dev nD → CellTallies nD τ sig Unit) (g : GSem nD τ sig) (c : Dev nD) (Q : Prop) [Decidable Q] (n : ℕ)
    (h : ∀ p, T p g () = if p = c ∧ Q then n else 0) : owedFrom d T 0 g () = if c ≠ d ∧ Q then n else 0 := by
  unfold owedFrom
  rw [Finset.sum_apply, Finsupp.finset_sum_apply, Finset.sum_congr rfl fun p _ => h p]
  by_cases hQ : Q
  · simp only [hQ, and_true]
    rw [Finset.sum_ite_eq']
    simp
  · simp [hQ]

theorem barT_at (p c : Dev nD) (g : GSem nD τ sig) (hg : g = barCell c) : barT p g () = if p = c ∧ True then 1 else 0 := by
  subst hg
  rw [barT, tallyAt_apply]
  exact if_congr ⟨fun h => ⟨(barCell_inj h.1).symm, trivial⟩, fun h => ⟨by rw [h.1], rfl⟩⟩ rfl rfl
theorem rsT_at (d p c s : Dev nD) : rsT d p (dmaCell c (rsRecv s)) () = if p = c ∧ d = s then NB else 0 := by
  rw [rsT, tallyAt_apply]
  refine if_congr ⟨fun h => ?_, fun h => ⟨by rw [h.1, h.2], rfl⟩⟩ rfl rfl
  obtain ⟨e1, e2⟩ := dmaCell_inj h.1
  have := congrArg Fin.val e2
  rw [exS_val, exS_val] at this
  exact ⟨e1.symm, Fin.ext (by omega)⟩
theorem agT_at (d p c s : Dev nD) : agT d p (dmaCell c (agRecv s)) () = if p = c ∧ d = s then NB else 0 := by
  rw [agT, tallyAt_apply]
  refine if_congr ⟨fun h => ?_, fun h => ⟨by rw [h.1, h.2], rfl⟩⟩ rfl rfl
  obtain ⟨e1, e2⟩ := dmaCell_inj h.1
  have := congrArg Fin.val e2
  rw [exS_val, exS_val] at this
  exact ⟨e1.symm, Fin.ext (by omega)⟩

theorem none_at (d : Dev nD) (T : Dev nD → CellTallies nD τ sig Unit) (g : GSem nD τ sig) (h : ∀ p, T p g = 0) : owedFrom d T 0 g () = 0 := by
  rw [owedFrom_at d T g 0 False 0 fun p => by rw [h p]; simp]
  simp

theorem OB_at (d : Dev nD) (g : GSem nD τ sig) : OB d 0 g () = owedFrom d (agT d) 0 g () + owedFrom d (rsT d) 0 g () + owedFrom d barT 0 g () := rfl

theorem OB_bar (d c : Dev nD) : OB d 0 (barCell c) () = if c ≠ d then 1 else 0 := by
  rw [OB_at, none_at d (agT d) _ fun p => tallyAt_ne_cell (dma_ne_bar _ _ _).symm _ _, none_at d (rsT d) _ fun p => tallyAt_ne_cell (dma_ne_bar _ _ _).symm _ _,
    owedFrom_at d barT (barCell c) c True 1 fun p => barT_at p c _ rfl]
  simp
theorem OB_rs (d c s : Dev nD) : OB d 0 (dmaCell c (rsRecv s)) () = if c ≠ d ∧ d = s then NB else 0 := by
  rw [OB_at, none_at d (agT d) _ fun p => tallyAt_ne_cell (fun h => ?_) _ _, owedFrom_at d (rsT d) _ c (d = s) NB fun p => rsT_at d p c s,
    none_at d barT _ fun p => tallyAt_ne_cell (dma_ne_bar _ _ _) _ _]
  · simp
  · have := congrArg Fin.val (dmaCell_inj h).2
    rw [exS_val, exS_val] at this
    have := s.isLt; have := d.isLt
    simp at this; omega
theorem OB_ag (d c s : Dev nD) : OB d 0 (dmaCell c (agRecv s)) () = if c ≠ d ∧ d = s then NB else 0 := by
  rw [OB_at, none_at d (rsT d) _ fun p => tallyAt_ne_cell (fun h => ?_) _ _, owedFrom_at d (agT d) _ c (d = s) NB fun p => agT_at d p c s,
    none_at d barT _ fun p => tallyAt_ne_cell (dma_ne_bar _ _ _) _ _]
  · simp
  · have := congrArg Fin.val (dmaCell_inj h).2
    rw [exS_val, exS_val] at this
    have := s.isLt; have := d.isLt
    simp at this; omega

abbrev owe₀ (d : Dev nD) : CellTallies nD τ sig Unit := OB d 0

theorem credit_at (g : GSem nD τ sig) (n : ℕ) (h : ∑ d : Dev nD, owe₀ d g () = n) :
    tallyOn g (launchCredit (Pipeline.owing owe₀) 0 g) = (tallyAt g () n : CellTallies nD τ sig Unit) := by
  unfold tallyAt; refine congrArg _ (Finsupp.ext fun u => ?_); cases u
  rw [Pipeline.launchCredit_owing, Finsupp.single_eq_same, h]

theorem sum_bar (c : Dev nD) : ∑ d : Dev nD, owe₀ d (barCell c) () = 7 := by
  rw [Finset.sum_congr rfl fun d _ => OB_bar d c]
  revert c; decide
theorem sum_peer (c s : Dev nD) (h : s ≠ c) : (∑ d : Dev nD, if c ≠ d ∧ d = s then NB else 0) = NB := by
  rw [Fintype.sum_eq_single s fun d hd => if_neg fun h => hd h.2, if_pos ⟨h.symm, rfl⟩]

/-- Where credit lies: at the barrier, and at the receiving cells of both phases. -/
def credSem : Unit ⊕ Dev nD ⊕ Dev nD → SemLoc sig
  | .inl _ => .reg barS
  | .inr (.inl s) => .dma (rsRecv s)
  | .inr (.inr s) => .dma (agRecv s)

theorem credSem_inj : Function.Injective credSem := by decide

def credAt (c : Dev nD) (sm : SemLoc sig) : sProp 𝕄 := cred (tallyOn ((c : Thread nD τ), sm) (launchCredit (Pipeline.owing owe₀) 0 ((c : Thread nD τ), sm)))

theorem creds : (Pipeline.launchCred owe₀ c : sProp 𝕄)
    ⊢ iprop(cred (tallyAt (barCell c) () 7) ∗ bigSep (Finset.univ.erase c) (crRs (F := F) c) ∗ bigSep (Finset.univ.erase c) (crAg (F := F) c)) := by
  have e0 : credAt (F := F) c (.reg barS) = cred (tallyAt (barCell c) () 7) := congrArg cred (credit_at (barCell c) 7 (sum_bar c))
  have e1 : bigSep (Finset.univ.erase c) (fun s => credAt (F := F) c (.dma (rsRecv s))) = bigSep (Finset.univ.erase c) (crRs (F := F) c) :=
    bigSep_congr fun s hs => congrArg cred (credit_at (dmaCell c (rsRecv s)) NB (by
      rw [Finset.sum_congr rfl fun d _ => OB_rs d c s]; exact sum_peer c s (Finset.ne_of_mem_erase hs)))
  have e2 : bigSep (Finset.univ.erase c) (fun s => credAt (F := F) c (.dma (agRecv s))) = bigSep (Finset.univ.erase c) (crAg (F := F) c) :=
    bigSep_congr fun s hs => congrArg cred (credit_at (dmaCell c (agRecv s)) NB (by
      rw [Finset.sum_congr rfl fun d _ => OB_ag d c s]; exact sum_peer c s (Finset.ne_of_mem_erase hs)))
  have e3 : (bigSep Finset.univ fun j => credAt (F := F) c (credSem j)) = iprop(credAt (F := F) c (.reg barS)
      ∗ bigSep Finset.univ (fun s => credAt (F := F) c (.dma (rsRecv s))) ∗ bigSep Finset.univ (fun s => credAt (F := F) c (.dma (agRecv s)))) := by
    rw [BI.bigSep_univ_sum, BI.bigSep_univ_sum, show (Finset.univ : Finset Unit) = {()} from rfl, BI.bigSep_singleton]
    rfl
  refine BIClass.entails_trans (bigSep_sub (F := F) ⟨credSem, credSem_inj⟩ (credAt (F := F) c)) ?_
  refine BIClass.entails_trans (Entails.of_eq e3) ?_
  rw [e0, ← e1, ← e2]
  exact BIClass.sep_mono (show _ ⊢ _ from BI.Entails.refl _) (BIClass.sep_mono (bigSep_peers c _) (bigSep_peers c _))

end Cert.KernelIdeal.Run
-- ==== Proof.Launch.lean ====
/- The launch: the cells are made, and every device receives its share. -/
module

public import proofs.«01_k».proof.Proof.Deal

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The cells' state at the launch -/

theorem cells_inj : Function.Injective (Pipeline.PerCore.cellOf (nD := nD) (τ := τ) (Pipeline.pinD (pcfgs (F := F)) tabs)) :=
  Pipeline.PerCore.cellOf_injective _ (fun _ p => by
      match p with
      | 0 => exact Pipeline.specSemsDistinct_of_nodup _ (semsDistinct 0))
    (fun _ p p' h => absurd (Subsingleton.elim p p') h)

/-- The launch's state of all the cells. -/
def origin : UU :=
  (initOf (Pipeline.PerCore.cells (Pipeline.pinD (pcfgs (F := F)) tabs) cells_inj) (Pipeline.PerCore.launchToks (Pipeline.pinD (pcfgs (F := F)) tabs) cells_inj),
    launchOf bars dmas duties)

def whole₀ : sProp 𝕄 := BI.own (ER (launchOf bars dmas duties))

/-- It lies with the first device until it is dealt. -/
def stored (c : Dev nD) : sProp 𝕄 := if c = 0 then whole₀ (F := F) else BI.emp

theorem stored_all : (bigSep Finset.univ (stored (F := F)) : sProp 𝕄) = whole₀ := by
  rw [bigSep_self 0, bigSep_congr (s := Finset.univ.erase (0 : Dev nD)) (Ψ := fun _ => (BI.emp : sProp 𝕄))
    (fun d hd => by unfold stored; exact if_neg (Finset.ne_of_mem_erase hd)), BI.bigSep_emp_const]
  unfold stored
  rw [if_pos rfl]
  exact BI.equiv_iff.mp sep_emp

theorem origin_split : (ownU (origin (F := F)) : sProp 𝕄)
    ⊢ |={Set.univ}=> iprop(BI.own (EP (F := F) (initOf (Pipeline.PerCore.cells (Pipeline.pinD (pcfgs (F := F)) tabs) cells_inj) (Pipeline.PerCore.launchToks (Pipeline.pinD (pcfgs (F := F)) tabs) cells_inj)))
      ∗ bigSep Finset.univ (stored (F := F))) := by
  rw [stored_all]
  unfold origin whole₀
  iintro H
  ihave ⟨Hp, Hx⟩ := (ownU_pair _ _) $$ H
  imodintro
  isplitl [Hp]; · iexact Hp
  iexact Hx

/-! ## Dealing -/

/-- What every device may use. -/
def Common (κ : GSem nD τ sig → ℕ) : sProp 𝕄 := iprop(Inv (inp m) κ ∗ bigSep Finset.univ fun d : Dev nD => reached ER (barCell d) 0)
instance (κ : GSem nD τ sig → ℕ) : BI.Persistent (Common m κ) := by unfold Common; infer_instance

/-- What is the device's own. -/
def mine (c : Dev nD) : sProp 𝕄 :=
  iprop(StableHlo.held (c : Thread nD τ) (Pipeline.ucRefs τ sig) (V0 m c) ∗ owes (c : Thread nD τ) (OB c 0) ∅ ∗ Pipeline.launchCred owe₀ c)
def barAt (c : Dev nD) : sProp 𝕄 := atPos ER (barCell c) 0 ∅ 0
def barZero (c : Dev nD) : sProp 𝕄 := semVal (barCell c) 0
def keys (c : Dev nD) : sProp 𝕄 := bigSep Finset.univ fun n : DmaSem sig => openTok ER (dmaCell c n)

def ownSem : Own → DmaSem sig
  | .inl x => kvS x.1 x.2
  | .inr x => exS x.1 x.2
theorem ownSem_inj : Function.Injective ownSem := by decide

theorem keys_own : keys (F := F) c ⊢ bigSep Finset.univ (ownTok (F := F) c) := by
  have h := bigSep_sub (F := F) ⟨ownSem, ownSem_inj⟩ (fun n : DmaSem sig => (openTok ER (dmaCell c n) : sProp 𝕄))
  refine BIClass.entails_trans (show keys (F := F) c ⊢ _ from h) (Entails.of_eq (bigSep_congr fun k _ => ?_))
  rcases k with x | x <;> rfl

/-- A device's state before the program. -/
def First (c : Dev nD) : sProp 𝕄 := iprop(StableHlo.held (c : Thread nD τ) (Pipeline.ucRefs τ sig) (V0 m c) ∗ Brings m c)

theorem first_intro (κ : GSem nD τ sig → ℕ) :
    iprop(Common m κ ∗ (mine m c ∗ barAt (F := F) c ∗ keys (F := F) c ∗ held (F := F) c)) ⊢ First m c := by
  unfold Common mine barAt First Brings Ghost Dealt Ow
  iintro ⟨⟨#HI, #HR⟩, ⟨Hh, Ho, Hc⟩, Hb, Hk, Ht⟩
  ihave Hk' := (keys_own c) $$ Hk
  ihave ⟨C0, C1, C2⟩ := (creds c) $$ Hc
  ihave ⟨T0, T1, T2, T3, T4⟩ := (held_split c) $$ Ht
  isplitl [Hh]; · iexact Hh
  isplitr [Ho]
  · iexists κ
    isplitr; · iexact HI
    isplitr; · iexact HR
    isplitl [Hk']; · iexact Hk'
    isplitl [C0 Hb]
    · isplitl [C0]; · iexact C0
      iexact Hb
    isplitl [T0]; · iexact T0
    isplitl [T1]; · iexact T1
    isplitl [T2]; · iexact T2
    isplitl [C1]; · iexact C1
    isplitl [C2]; · iexact C2
    isplitl [T3]; · iexact T3
    iexact T4
  iexists ∅; iexact Ho

theorem sems_eq : (unscopedSems0 c : sProp 𝕄) = barZero (F := F) c := by
  unfold unscopedSems0 barZero
  rw [show (Finset.univ.filter fun sm : SemLoc sig => ¬ sm.isScoped .tc = true) = {SemLoc.reg barS} from by decide, BI.bigSep_singleton]

theorem launch_core : iprop(unscopedBufs c (fun b => m ((c : Thread nD τ).loc b)) ∗ unscopedSems0 c
      ∗ owes (c : Thread nD τ) (owe₀ c) ∅ ∗ Pipeline.launchCred owe₀ c ∗ prngReg c (ρ c) ∗ stored (F := F) c)
    ⊢ iprop(mine m c ∗ (barZero (F := F) c ∗ stored (F := F) c)) := by
  rw [show (unscopedBufs c (fun b => m ((c : Thread nD τ).loc b)) : sProp 𝕄) = StableHlo.held (c : Thread nD τ) (Pipeline.ucRefs τ sig) (V0 m c) from Pipeline.unscopedBufs_held c (V0 m c),
    sems_eq]
  unfold mine
  iintro ⟨Hh, Hb, Ho, Hc, -, Hs⟩
  isplitl [Hh Ho Hc]
  · isplitl [Hh]; · iexact Hh
    isplitl [Ho]; · iexact Ho
    iexact Hc
  isplitl [Hb]; · iexact Hb
  iexact Hs

theorem inv_all (κ : GSem nD τ sig → ℕ) (I : Dev nD → Inp F) :
    (bigSep (bars ∪ dmas) fun g => (cellInv ER (Rd I) (κ g) g : sProp 𝕄)) = Inv I κ := by
  unfold Inv
  rw [bigSep_union bars_dmas]
  unfold bars dmas
  rw [bigSep_map, bigSep_map]
  rfl

theorem bars_all (Φ : GSem nD τ sig → sProp 𝕄) : (bigSep bars Φ : sProp 𝕄) = bigSep Finset.univ fun d => Φ (barCell d) := bigSep_map _

theorem keys_all : (bigSep dmas fun g => (openTok ER g : sProp 𝕄)) = bigSep Finset.univ (keys (F := F)) := by
  unfold dmas keys
  rw [bigSep_map, BI.bigSep_univ_prod]
  rfl

theorem bars_zero : (bigSep bars fun g => (semVal g 0 : sProp 𝕄)) = bigSep Finset.univ (barZero (F := F)) := bars_all _
theorem bars_at : (bigSep bars fun g => (atPos ER g 0 ∅ 0 : sProp 𝕄)) = bigSep Finset.univ (barAt (F := F)) := bars_all _
theorem bars_reached : (bigSep bars fun g => (reached ER g 0 : sProp 𝕄)) = bigSep Finset.univ fun d : Dev nD => reached ER (barCell d) 0 := bars_all _

theorem funded : iprop(bigSep Finset.univ (barZero (F := F)) ∗ whole₀ (F := F))
    ⊢ |={Set.univ}=> iprop(∃ κ, Common m κ ∗ bigSep Finset.univ (barAt (F := F)) ∗ bigSep Finset.univ (keys (F := F)) ∗ bigSep Finset.univ (held (F := F))) := by
  rw [← bars_zero, ← bars_at, ← keys_all, ← duties_eq]
  unfold whole₀ Common
  iintro ⟨Hz, Hw⟩
  imod (Rounds.fund_launch (E := ER) (Rd := Rd (inp m)) bars_dmas (fun g _ h => h) duties) $$ [Hz Hw] with ⟨%κ, -, HI, Hr, Ha, Hk, Ht⟩
  · isplitl [Hz]; · iexact Hz
    iexact Hw
  imodintro
  iexists κ
  isplitl [HI Hr]
  · isplitl [HI]
    · iapply (Entails.of_eq (inv_all κ (inp m))); iexact HI
    iapply (Entails.of_eq (bars_reached (F := F))); iexact Hr
  isplitl [Ha]; · iexact Ha
  isplitl [Hk]; · iexact Hk
  iexact Ht

theorem deal (κ : GSem nD τ sig → ℕ) :
    iprop(Common m κ ∗ bigSep Finset.univ fun c : Dev nD => iprop(mine m c ∗ barAt (F := F) c ∗ keys (F := F) c ∗ held (F := F) c)) ⊢ bigSep Finset.univ (First m) :=
  bigSep_carry fun c _ => first_intro m c κ

theorem gather : iprop(bigSep Finset.univ (mine m) ∗ bigSep Finset.univ (barAt (F := F)) ∗ bigSep Finset.univ (keys (F := F)) ∗ bigSep Finset.univ (held (F := F)))
    ⊢ bigSep Finset.univ fun c : Dev nD => iprop(mine m c ∗ barAt (F := F) c ∗ keys (F := F) c ∗ held (F := F) c) := by
  refine BIClass.entails_trans (BIClass.sep_mono (show _ ⊢ _ from BI.Entails.refl _) (BIClass.entails_trans (BIClass.sep_mono (show _ ⊢ _ from BI.Entails.refl _)
    (bigSep_zip (R := fun c => iprop(keys (F := F) c ∗ held (F := F) c)) fun c _ => BI.Entails.refl _))
    (bigSep_zip (R := fun c => iprop(barAt (F := F) c ∗ keys (F := F) c ∗ held (F := F) c)) fun c _ => BI.Entails.refl _))) ?_
  exact bigSep_zip fun c _ => BI.Entails.refl _

theorem launched :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ stored (F := F) c)) ∗ levAts L lv)
      ⊢ (|={Set.univ}=> bigSep Finset.univ (First m) : sProp 𝕄) := by
  have h1 : (bigSep Finset.univ fun c : Dev nD => iprop(unscopedBufs c (fun b => m ((c : Thread nD τ).loc b)) ∗ unscopedSems0 c
      ∗ owes (c : Thread nD τ) (owe₀ c) ∅ ∗ Pipeline.launchCred owe₀ c ∗ prngReg c (ρ c) ∗ stored (F := F) c))
    ⊢ iprop(bigSep Finset.univ (mine m) ∗ bigSep Finset.univ fun c => iprop(barZero (F := F) c ∗ stored (F := F) c)) :=
    bigSep_unzip fun c _ => launch_core m ρ c
  have h2 : (bigSep Finset.univ fun c => iprop(barZero (F := F) c ∗ stored (F := F) c)) ⊢ iprop(bigSep Finset.univ (barZero (F := F)) ∗ bigSep Finset.univ (stored (F := F))) :=
    bigSep_unzip fun c _ => BI.Entails.refl _
  rw [stored_all] at h2
  iintro ⟨H, -⟩
  ihave ⟨Hh, H'⟩ := h1 $$ H
  ihave ⟨Hz, Hw⟩ := h2 $$ H'
  imod (funded m) $$ [Hz Hw] with ⟨%κ, HC, Ha, Hk, Ht⟩
  · isplitl [Hz]; · iexact Hz
    iexact Hw
  imodintro
  iapply (deal m κ)
  isplitl [HC]; · iexact HC
  iapply (gather m)
  isplitl [Hh]; · iexact Hh
  isplitl [Ha]; · iexact Ha
  isplitl [Hk]; · iexact Hk
  iexact Ht

/-! ## The run -/

/-- The values at the end. -/
abbrev V3' (c : Dev nD) : Valuation τ sig (Elt F) := StableHlo.after hostOps1 (V2' m c)

set_option backward.isDefEq.respectTransparency.types false in
def tail : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2' m) (Leaves (F := F))

set_option backward.isDefEq.respectTransparency.types false in
def parts (c : Dev nD) : List (Pipeline.PerCore.Seg (Name := ℕ) (pcfgs (F := F)) tabs (pdats m) () defs₀ 𝒱₀ L lv) :=
  [.host (seg0 m 𝒱₀ L lv (fun _ => Brings m) c), .region (seg1 m), .host (tail m)]

/-- A device's state after the program. -/
def Final (c : Dev nD) : sProp 𝕄 := iprop(StableHlo.held (c : Thread nD τ) (Pipeline.ucRefs τ sig) (V3' m c) ∗ semVal (barCell c) 0)

theorem only_bar : ∀ sm : SemLoc sig, sm.isScoped .tc = false → sm = .reg barS := by decide

theorem V3'_arg (r : Ref sig .tc) (h1 : r ∉ hostOps1_W) (h2 : r ≠ main_v10) (h3 : r ∉ hostOps0_W) : V3' m c r = m ((c : Thread nD τ).loc r) :=
  (StableHlo.after_of_writes_sub hostOps1 _ hostOps1_writes h1).trans ((V2'_of m c r h2).trans (V1_of m c r h3))

/-- The program's last value. -/
def result (c : Dev nD) : Vec F S1x512x1024 .f32 := V3' m c main_v11

/-- What is true of a device at the end. -/
def AtEnd (c : Dev nD) (s : MemSt nD τ sig (Elt F)) : Prop :=
  (∀ b ∈ Pipeline.ucRefs τ sig, s.mem (c, b) = V3' m c b) ∧ s.sem (barCell c) = 0

set_option backward.isDefEq.respectTransparency.types false in
/-- Every run ends, with the arguments unchanged, the result in its buffer and every semaphore at zero. -/
theorem run_all : θ_run defs (onTc (τ := τ) (main (F := F))) ⟨m, fun _ => 0, ρ⟩
    (fun r => (∀ c : Dev nD, AtEnd m c r.2) ∧ r.2.sem = fun _ => 0) :=
  Pipeline.PerCore.θ_run_regions_kit_sems (pcfgs (F := F)) tabs (pdats m) () cells_inj (EP (F := F)) defs₀ 𝒱₀ L lv m ρ main (parts m)
    (fun c Q => by
      rewrite [main_chain c, Pipeline.PerCore.Seg.run_eq_chain, show (parts m c).map Pipeline.PerCore.Seg.prog = [StableHlo.seq (hostOps0 c), Prog.lift (.customCall (Pipeline.entry 0) ()), StableHlo.seq hostOps1] from rfl]
      dsimp (config := { failIfUnchanged := false }) only
      exact .rfl)
    (fun c => by simp only [parts, Pipeline.PerCore.Seg.pipes_host, Pipeline.PerCore.Seg.pipes_region, Pipeline.PerCore.Seg.pipes_nil]; decide)
    (O₀ := owe₀) (hL := L_of_ne) (G := stored) (u₀ := origin)
    (hu₀ := origin_split)
    (T₀ := First m) (Tₙ := Final m)
    (hch := fun c => ⟨.rfl, .rfl, .rfl, by
      show iprop(StableHlo.held (c : Thread nD τ) (Pipeline.ucRefs τ sig) (V3' m c) ∗ Leaves (F := F) c)
        ⊢ iprop(Final m c ∗ ∃ W, owes (c : Thread nD τ) (0 : CellTallies nD τ sig Unit) W)
      unfold Final Leaves Ow
      iintro ⟨Hh, Hb, Ho⟩
      isplitr [Ho]
      · isplitl [Hh]; · iexact Hh
        iexact Hb
      iexact Ho⟩)
    (hinit := launched m ρ)
    (QY := AtEnd m)
    (hfin := fun c s' => by
      unfold Final StableHlo.held
      iintro ⟨⟨Hh, Hb⟩, HSI⟩
      icombine HSI Hb gives %hb
      ihave ⟨%h, HSI⟩ := (pointsTo_read_all (Pipeline.ucRefs τ sig) (fun b => ((c : Thread nD τ).1, b)) (V3' m c) s') $$ [Hh HSI]
      · isplitl [Hh]; · iexact Hh
        iexact HSI
      imodintro
      isplitr
      · ipureintro
        exact ⟨h, by simpa using hb⟩
      iexact HSI)
    (hQ := fun s h hs => ⟨h, sem_eq_zero hs fun c sm hsm => by
        obtain rfl := only_bar sm hsm
        exact (h c).2⟩)

end Cert.KernelIdeal.Run
-- ==== Proof.Frames.lean ====
/- The frames: the arguments end as they began, and every semaphore ends at zero. -/
module

public import proofs.«01_k».proof.Proof.Launch
public import proofs.«01_k».proof.Proof.Gen.Kernel
public import proofs.«01_k».proof.Proof.Gen.Kernel.Skeleton
public import Idealize.ShloMosaic.Lib.Claim

@[expose] public section

noncomputable section

namespace Cert.KernelIdeal.Run

open Idealize.ShloMosaic
open Idealize.ShloMosaic.TcCoe
open Idealize.SL.Sem
open Cert.KernelIdeal Cert.KernelIdeal.Gen

variable {F : FTy → Type} [FloatOps F]

/-- All five arguments of a device read in `s` as they read in `m`. -/
def Kept (m : (ℓ : Loc nD τ sig) → Buf (Elt F) ℓ) (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- A buffer that the program never writes reads at the end as at the start. -/
theorem AtEnd.arg {m : (ℓ : Loc nD τ sig) → Buf (Elt F) ℓ} {c : Dev nD} {s : MemSt nD τ sig (Elt F)} (h : AtEnd m c s)
    (r : Ref sig .tc) (hu : ((r : Ref sig .tc) : DevRef τ sig) ∈ Pipeline.ucRefs τ sig) (h1 : r ∉ hostOps1_W) (h2 : r ≠ main_v10) (h3 : r ∉ hostOps0_W) :
    s.mem ((c.tc : Thread nD τ).loc r) = m ((c.tc : Thread nD τ).loc r) :=
  (h.1 _ hu).trans (V3'_arg m c r h1 h2 h3)

theorem AtEnd.kept {m : (ℓ : Loc nD τ sig) → Buf (Elt F) ℓ} {c : Dev nD} {s : MemSt nD τ sig (Elt F)} (h : AtEnd m c s) : Kept m s c :=
  ⟨h.arg main_arg0 (Finset.mem_filter.mpr ⟨StableHlo.devRef_mem_tcRefs main_arg0, by decide⟩) (by decide) (by decide) (by decide),
   h.arg main_arg1 (Finset.mem_filter.mpr ⟨StableHlo.devRef_mem_tcRefs main_arg1, by decide⟩) (by decide) (by decide) (by decide),
   h.arg main_arg2 (Finset.mem_filter.mpr ⟨StableHlo.devRef_mem_tcRefs main_arg2, by decide⟩) (by decide) (by decide) (by decide),
   h.arg main_arg3 (Finset.mem_filter.mpr ⟨StableHlo.devRef_mem_tcRefs main_arg3, by decide⟩) (by decide) (by decide) (by decide),
   h.arg main_arg4 (Finset.mem_filter.mpr ⟨StableHlo.devRef_mem_tcRefs main_arg4, by decide⟩) (by decide) (by decide) (by decide)⟩

/-- The run with the values dropped: the arguments are kept and the machine is quiet. -/
theorem run_kept (m : (ℓ : Loc nD τ sig) → Buf (Elt F) ℓ) (ρ : Dev nD → PrngReg) :
    θ_run defs (onTc (τ := τ) (main (F := F))) ⟨m, fun _ => 0, ρ⟩ (fun r => (∀ c : Dev nD, Kept m r.2 c) ∧ r.2.sem = fun _ => 0) :=
  (θ_run (defs (F := F)) _ _).mono (fun _ h => ⟨fun c => (h.1 c).kept, h.2⟩) (run_all m ρ)

end Cert.KernelIdeal.Run

namespace Cert.Kernel.Run

open Idealize.ShloMosaic Idealize.SL.Sem

variable {F : FTy → Type} [FloatOps F]

/-- The two kernels' bodies are one text. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, a => rfl

theorem defs_eq : Cert.Kernel.defs (F := F) = Cert.KernelIdeal.defs (F := F) :=
  congrArg (Pipeline.defs (Cert.KernelIdeal.pcfgs (F := F))) defs₀_eq

/-- The run of the kernel as printed, from the run of its idealization. -/
theorem run_kept (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c, Cert.KernelIdeal.Run.Kept m r.2 c) ∧ r.2.sem = fun _ => 0) := by
  rw [defs_eq]
  exact Cert.KernelIdeal.Run.run_kept m ρ

end Cert.Kernel.Run

end
-- ==== Proof.Soft.lean ====
/- A softmax-weighted average over the extended reals: computed in two blocks under a running maximum, it is the average
   computed at once with no maximum taken off, when the scores are real numbers. -/
module

public import Idealize.ShloMosaic.PureOps.Ideal.Laws

@[expose] public section

noncomputable section

namespace Cert.Soft

open Idealize.ShloMosaic

/-- A sum of real numbers is taken in the real numbers. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A real factor that is not negative goes into a sum. -/
theorem sum_mul_coe {ι : Type} (s : Finset ι) (f : ι → EReal) {k : ℝ} (hk : 0 ≤ k) :
    (∑ i ∈ s, f i) * (k : EReal) = ∑ i ∈ s, f i * (k : EReal) := by
  classical
  refine Finset.induction_on s (by simp) fun a s ha ih => ?_
  rw [Finset.sum_insert ha, Finset.sum_insert ha,
    EReal.right_distrib_of_nonneg_of_ne_top (EReal.coe_nonneg.mpr hk) (EReal.coe_ne_top k), ih]

/-- A real number taken off minus infinity leaves it. -/
theorem bot_sub_coe (r : ℝ) : (⊥ : EReal) - (r : EReal) = ⊥ := by
  rw [sub_eq_add_neg, EReal.bot_add]

theorem exp_sub_coe (a b : ℝ) : Ideal.exp ((a : EReal) - (b : EReal)) = ((Real.exp a * Real.exp (-b) : ℝ) : EReal) := by
  rw [← EReal.coe_sub, Ideal.exp_coe, sub_eq_add_neg, Real.exp_add]

/-- One block's weighted sum, the block's maximum taken off. -/
theorem block_num {ι : Type} [Fintype ι] (a : ι → ℝ) (u : ι → EReal) (m : ℝ) :
    ∑ j, u j * Ideal.exp ((a j : EReal) - (m : EReal)) = (∑ j, Ideal.exp (a j) * u j) * ((Real.exp (-m) : ℝ) : EReal) := by
  rw [sum_mul_coe _ _ (Real.exp_pos _).le]
  refine Finset.sum_congr rfl fun j _ => ?_
  rw [exp_sub_coe, Ideal.exp_coe, EReal.coe_mul, mul_comm (Real.exp (a j) : EReal) (u j), mul_assoc]

theorem block_den {ι : Type} [Fintype ι] (a : ι → ℝ) (m : ℝ) :
    ∑ j, Ideal.exp ((a j : EReal) - (m : EReal)) = (((∑ j, Real.exp (a j)) * Real.exp (-m) : ℝ) : EReal) := by
  rw [Finset.sum_mul, coe_sum]
  exact Finset.sum_congr rfl fun j _ => exp_sub_coe _ _

/-- The average in two blocks under a running maximum is the average at once. -/
theorem quot {ι : Type} [Fintype ι] [Nonempty ι] (a b : ι → ℝ) (u w : ι → EReal) (m1 m2 : ℝ) :
    Ideal.div
      ((0 * Ideal.exp (⊥ - (m1 : EReal)) + ∑ j, u j * Ideal.exp ((a j : EReal) - (m1 : EReal))) * Ideal.exp ((m1 : EReal) - (m2 : EReal))
        + ∑ j, w j * Ideal.exp ((b j : EReal) - (m2 : EReal)))
      ((0 * Ideal.exp (⊥ - (m1 : EReal)) + ∑ j, Ideal.exp ((a j : EReal) - (m1 : EReal))) * Ideal.exp ((m1 : EReal) - (m2 : EReal))
        + ∑ j, Ideal.exp ((b j : EReal) - (m2 : EReal)))
    = Ideal.div ((∑ j, Ideal.exp (a j) * u j) + ∑ j, Ideal.exp (b j) * w j) ((∑ j, Ideal.exp (a j)) + ∑ j, Ideal.exp (b j)) := by
  have hk : Real.exp (-m1) * (Real.exp m1 * Real.exp (-m2)) = Real.exp (-m2) := by
    rw [← mul_assoc, ← Real.exp_add, neg_add_cancel, Real.exp_zero, one_mul]
  set D : ℝ := (∑ j, Real.exp (a j)) + ∑ j, Real.exp (b j) with hD
  have hD0 : 0 < D := add_pos (Finset.sum_pos (fun j _ => Real.exp_pos _) Finset.univ_nonempty)
    (Finset.sum_pos (fun j _ => Real.exp_pos _) Finset.univ_nonempty)
  have hden : (∑ j, Ideal.exp (a j)) + ∑ j, Ideal.exp (b j) = ((D : ℝ) : EReal) := by
    rw [hD, EReal.coe_add, coe_sum, coe_sum]
    rfl
  rw [bot_sub_coe, Ideal.exp_bot, mul_zero, zero_add, zero_add, block_num, block_num, block_den, block_den, exp_sub_coe, hden,
    mul_assoc, ← EReal.coe_mul, ← EReal.coe_mul, hk, mul_assoc, hk, ← EReal.coe_add, ← add_mul (∑ j, Real.exp (a j)),
    ← EReal.right_distrib_of_nonneg_of_ne_top (EReal.coe_nonneg.mpr (Real.exp_pos _).le) (EReal.coe_ne_top _), ← hD,
    Ideal.div_coe (mul_pos hD0 (Real.exp_pos _)).ne', Ideal.div_coe hD0.ne', mul_assoc, ← EReal.coe_mul]
  congr 2
  have := (Real.exp_pos (-m2)).ne'
  field_simp

/-- The greatest of some real numbers, one at least, is a real number. -/
theorem exists_max {ι : Type} [Fintype ι] [Nonempty ι] (f : ι → EReal) (hf : ∀ i, ∃ r : ℝ, f i = r) :
    ∃ r : ℝ, (Finset.univ : Finset ι).fold (FloatOps.maximumf (F := Ideal) (φ := .f32)) (⊥ : EReal) f = (r : EReal) := by
  classical
  suffices H : ∀ s : Finset ι, s.Nonempty → ∃ r : ℝ, s.fold (FloatOps.maximumf (F := Ideal) (φ := .f32)) (⊥ : EReal) f = (r : EReal) from
    H _ Finset.univ_nonempty
  intro s
  refine Finset.induction_on s (fun h => absurd h Finset.not_nonempty_empty) fun a s ha ih _ => ?_
  obtain ⟨x, hx⟩ := hf a
  rw [Finset.fold_insert ha, hx]
  rcases s.eq_empty_or_nonempty with rfl | hs
  · exact ⟨x, by rw [Finset.fold_empty]; exact max_eq_left bot_le⟩
  · obtain ⟨y, hy⟩ := ih hs
    exact ⟨max x y, by rw [hy]; exact (EReal.coe_strictMono.monotone.map_max).symm⟩

theorem exists_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem exists_sum {ι : Type} (s : Finset ι) (f : ι → EReal) (hf : ∀ i, ∃ r : ℝ, f i = r) : ∃ r : ℝ, ∑ i ∈ s, f i = (r : EReal) := by
  choose g hg using hf
  exact ⟨∑ i ∈ s, g i, by rw [coe_sum]; exact Finset.sum_congr rfl fun i _ => hg i⟩

/-- A real factor of the one operand goes out of a product's sum: every term is a real number. -/
theorem sum_mul_scale {ι : Type} (s : Finset ι) (f g : ι → EReal) (k : EReal) (hf : ∀ i, ∃ r : ℝ, f i = r) (hg : ∀ i, ∃ r : ℝ, g i = r)
    (hk : ∃ r : ℝ, k = r) : ∑ i ∈ s, (f i * k) * g i = (∑ i ∈ s, f i * g i) * k := by
  choose f' hf' using hf
  choose g' hg' using hg
  obtain ⟨k', rfl⟩ := hk
  simp only [hf', hg', ← EReal.coe_mul, ← coe_sum]
  rw [Finset.sum_mul]
  exact congrArg _ (Finset.sum_congr rfl fun i _ => by ring)

end Cert.Soft

end
-- ==== Proof.RefVal.lean ====
/- The reference's result, named stage by stage, and each stage read at an index of the extended reals. -/
module

public import proofs.«01_k».proof.Proof.Gen.ReferenceIdeal.Run
public import proofs.«01_k».proof.Proof.Soft
public import Idealize.ShloMosaic.Lib.Pointwise
public import Idealize.ShloMosaic.Lib.Tactic.CleanTypes

@[expose] public section

noncomputable section

namespace Cert.ReferenceIdeal.Value

open Cert.ReferenceIdeal Cert.ReferenceIdeal.Gen Idealize.ShloMosaic Idealize.ShloMosaic.TcCoe

/-- The constant 1/√128 as the programs spell it. -/
abbrev scale : EReal := Ideal.ofBits .f32 0x3DB504F3#32
/-- The constant that a running maximum starts from. -/
abbrev low : EReal := Ideal.ofBits .f32 0xFF800000#32

/-! ## The stages -/

def qS (x : FVec Ideal S1x512x1024 .f32) (W : FVec Ideal S1024x8192 .f32) : FVec Ideal S1x512x64x128 .f32 :=
  shapeCast _ (Host.dotGeneral dot_S1x512x1024_S1024x8192_S1x512x8192_2_0_01_1_n_n none x W) shapeCasts_S1x512x8192_S1x512x64x128

def lo (K : FVec Ideal S1x2048x64x128 .f32) : FVec Ideal S1x1024x64x128 .f32 :=
  extractStridedSlice S1x1024x64x128 ![0, 0, 0, 0] K slices_S1x2048x64x128_S1x1024x64x128_0_0_0_0
def hi (K : FVec Ideal S1x2048x64x128 .f32) : FVec Ideal S1x1024x64x128 .f32 :=
  extractStridedSlice S1x1024x64x128 ![0, 1024, 0, 0] K slices_S1x2048x64x128_S1x1024x64x128_0_1024_0_0

def sS (Q : FVec Ideal S1x512x64x128 .f32) (K : FVec Ideal S1x1024x64x128 .f32) : FVec Ideal S1x64x512x1024 .f32 :=
  mulf (Host.dotGeneral dot_S1x512x64x128_S1x1024x64x128_S1x64x512x1024_3_3_1_1_02_02 none Q K)
    (broadcastInDim S1x64x512x1024 ![] bcast_S_S1x64x512x1024 (constant S_ .f32 0x3DB504F3#32))

def m0 : FVec Ideal S1x64x512x1 .f32 := broadcastInDim S1x64x512x1 ![] bcast_S_S1x64x512x1 (constant S_ .f32 0xFF800000#32)

def rS (S : FVec Ideal S1x64x512x1024 .f32) : FVec Ideal S1x64x512 .f32 :=
  Host.reduce FloatOps.maximumf S (constant S_ .f32 0xFF800000#32) reducesTo_S1x64x512x1024_S1x64x512_d3 h_S_

def mR (M : FVec Ideal S1x64x512x1 .f32) (R : FVec Ideal S1x64x512 .f32) : FVec Ideal S1x64x512x1 .f32 :=
  maximumf M (broadcastInDim S1x64x512x1 ![0, 1, 2] bcast_S1x64x512_S1x64x512x1_0_1_2 R)

def aS (M M' : FVec Ideal S1x64x512x1 .f32) : FVec Ideal S1x64x512x1 .f32 := Host.exp (subf M M')

def pS (S : FVec Ideal S1x64x512x1024 .f32) (M : FVec Ideal S1x64x512x1 .f32) : FVec Ideal S1x64x512x1024 .f32 :=
  Host.exp (subf S (broadcastInDim S1x64x512x1024 ![0, 1, 2, 3] bcast_S1x64x512x1_S1x64x512x1024_0_1_2_3 M))

def l0 : FVec Ideal S1x64x512x1 .f32 := broadcastInDim S1x64x512x1 ![] bcast_S_S1x64x512x1 (constant S_ .f32 0x00000000#32)

def lS (L A : FVec Ideal S1x64x512x1 .f32) (P : FVec Ideal S1x64x512x1024 .f32) : FVec Ideal S1x64x512x1 .f32 :=
  addf (mulf L A) (broadcastInDim S1x64x512x1 ![0, 1, 2] bcast_S1x64x512_S1x64x512x1_0_1_2
    (Host.reduceAdd P (constant S_ .f32 0x00000000#32) reducesTo_S1x64x512x1024_S1x64x512_d3 h_S_))

def tS (A : FVec Ideal S1x64x512x1 .f32) : FVec Ideal S1x512x64x128 .f32 :=
  broadcastInDim S1x512x64x128 ![0, 1, 2, 3] bcast_S1x512x64x1_S1x512x64x128_0_1_2_3
    (transpose S1x512x64x1 [0, 2, 1, 3] A transposes_S1x64x512x1_S1x512x64x1_0_2_1_3)

def o0 : FVec Ideal S1x512x64x128 .f32 := broadcastInDim S1x512x64x128 ![] bcast_S_S1x512x64x128 (constant S_ .f32 0x00000000#32)

def oS (O : FVec Ideal S1x512x64x128 .f32) (A : FVec Ideal S1x64x512x1 .f32) (V : FVec Ideal S1x1024x64x128 .f32) (P : FVec Ideal S1x64x512x1024 .f32) :
    FVec Ideal S1x512x64x128 .f32 :=
  addf (mulf O (tS A)) (transpose S1x512x64x128 [0, 3, 1, 2]
    (Host.dotGeneral dot_S1x1024x64x128_S1x64x512x1024_S1x64x128x512_1_3_3_2_02_01 none V P) transposes_S1x64x128x512_S1x512x64x128_0_3_1_2)

def yS (O : FVec Ideal S1x512x64x128 .f32) (L : FVec Ideal S1x64x512x1 .f32) (W : FVec Ideal S8192x1024 .f32) : FVec Ideal S1x512x1024 .f32 :=
  Host.dotGeneral dot_S1x512x8192_S8192x1024_S1x512x1024_2_0_01_1_n_n none
    (shapeCast _ (Host.divf O (tS L)) shapeCasts_S1x512x64x128_S1x512x8192) W

/-! ## The stages at an index -/

theorem qS_apply (x : FVec Ideal S1x512x1024 .f32) (W : FVec Ideal S1024x8192 .f32) (r : Fin 512) (h : Fin 64) (d : Fin 128) :
    (qS x W (ix4 0 r h d) : EReal) = ∑ k : Fin 1024, x (ix3 0 r k) * W (ix2 k ⟨h.val * 128 + d.val, by omega⟩) := by
  pointwise [qS]

theorem lo_apply (K : FVec Ideal S1x2048x64x128 .f32) (j : Fin 1024) (h : Fin 64) (d : Fin 128) :
    (lo K (ix4 0 j h d) : EReal) = K (ix4 0 ⟨j.val, by omega⟩ h d) := by
  pointwise [lo]

theorem hi_apply (K : FVec Ideal S1x2048x64x128 .f32) (j : Fin 1024) (h : Fin 64) (d : Fin 128) :
    (hi K (ix4 0 j h d) : EReal) = K (ix4 0 ⟨1024 + j.val, by omega⟩ h d) := by
  pointwise [hi]

theorem sS_apply (Q : FVec Ideal S1x512x64x128 .f32) (K : FVec Ideal S1x1024x64x128 .f32) (h : Fin 64) (r : Fin 512) (j : Fin 1024) :
    (sS Q K (ix4 0 h r j) : EReal) = (∑ d : Fin 128, Q (ix4 0 r h d) * K (ix4 0 j h d)) * scale := by
  pointwise [sS]

theorem mR_apply (M : FVec Ideal S1x64x512x1 .f32) (R : FVec Ideal S1x64x512 .f32) (h : Fin 64) (r : Fin 512) :
    (mR M R (ix4 0 h r 0) : EReal) = max (M (ix4 0 h r 0)) (R (ix3 0 h r)) := by
  pointwise [mR]

theorem reduces_S1x64x512x1024 : S1x64x512x1024.Reduces [3] S1x64x512 := by decide

theorem low_eq : low = ⊥ := by simp [low, Ideal.ofBits, Ideal.ieee]

/-- The greatest of a row of real scores is a real number. -/
theorem rS_real (S : FVec Ideal S1x64x512x1024 .f32) (hS : ∀ i, ∃ x : ℝ, S i = (x : EReal)) (j : S1x64x512.Idx) :
    ∃ x : ℝ, rS S j = (x : EReal) := by
  have hr := Host.reduce_eq_fold_single (FloatOps.maximumf (F := Ideal) (φ := .f32)) S (constant (F := Ideal) S_ .f32 0xFF800000#32)
    reducesTo_S1x64x512x1024_S1x64x512_d3 reduces_S1x64x512x1024 h_S_ j
  haveI : Nonempty (Fin (S1x64x512x1024.size 3)) := ⟨⟨0, by decide⟩⟩
  obtain ⟨x, hx⟩ := Cert.Soft.exists_max (S ∘ reduces_S1x64x512x1024.lift j) (fun k => hS _)
  refine ⟨x, hr.trans (Eq.trans ?_ hx)⟩
  exact congrArg (fun z : EReal => Finset.fold (FloatOps.maximumf (F := Ideal) (φ := .f32)) z (S ∘ reduces_S1x64x512x1024.lift j) Finset.univ) low_eq

theorem m0_apply (h : Fin 64) (r : Fin 512) : (m0 (ix4 0 h r 0) : EReal) = low := by
  pointwise [m0]

theorem aS_apply (M M' : FVec Ideal S1x64x512x1 .f32) (h : Fin 64) (r : Fin 512) :
    (aS M M' (ix4 0 h r 0) : EReal) = Ideal.exp (M (ix4 0 h r 0) - M' (ix4 0 h r 0)) := by
  pointwise [aS]

theorem pS_apply (S : FVec Ideal S1x64x512x1024 .f32) (M : FVec Ideal S1x64x512x1 .f32) (h : Fin 64) (r : Fin 512) (j : Fin 1024) :
    (pS S M (ix4 0 h r j) : EReal) = Ideal.exp (S (ix4 0 h r j) - M (ix4 0 h r 0)) := by
  pointwise [pS]

theorem l0_apply (h : Fin 64) (r : Fin 512) : (l0 (ix4 0 h r 0) : EReal) = 0 := by
  pointwise [l0]

theorem lS_apply (L A : FVec Ideal S1x64x512x1 .f32) (P : FVec Ideal S1x64x512x1024 .f32) (h : Fin 64) (r : Fin 512) :
    (lS L A P (ix4 0 h r 0) : EReal) = L (ix4 0 h r 0) * A (ix4 0 h r 0) + ∑ j : Fin 1024, P (ix4 0 h r j) := by
  pointwise [lS]

theorem tS_apply (A : FVec Ideal S1x64x512x1 .f32) (r : Fin 512) (h : Fin 64) (d : Fin 128) :
    (tS A (ix4 0 r h d) : EReal) = A (ix4 0 h r 0) := by
  pointwise [tS]

theorem o0_apply (r : Fin 512) (h : Fin 64) (d : Fin 128) : (o0 (ix4 0 r h d) : EReal) = 0 := by
  pointwise [o0]

theorem oS_apply (O : FVec Ideal S1x512x64x128 .f32) (A : FVec Ideal S1x64x512x1 .f32) (V : FVec Ideal S1x1024x64x128 .f32) (P : FVec Ideal S1x64x512x1024 .f32)
    (r : Fin 512) (h : Fin 64) (d : Fin 128) :
    (oS O A V P (ix4 0 r h d) : EReal) = O (ix4 0 r h d) * A (ix4 0 h r 0) + ∑ j : Fin 1024, V (ix4 0 j h d) * P (ix4 0 h r j) := by
  pointwise [oS, tS]

theorem yS_apply (O : FVec Ideal S1x512x64x128 .f32) (L : FVec Ideal S1x64x512x1 .f32) (W : FVec Ideal S8192x1024 .f32) (r : Fin 512) (n : Fin 1024) :
    (yS O L W (ix3 0 r n) : EReal) = ∑ k : Fin 8192, Ideal.div (O (ix4 0 r ⟨k.val / 128, by omega⟩ ⟨k.val % 128, by omega⟩)) (L (ix4 0 ⟨k.val / 128, by omega⟩ r 0)) * W (ix2 k n) := by
  pointwise [yS, tS]

/-! ## The stages together -/

section
variable (x : FVec Ideal S1x512x1024 .f32) (Wq : FVec Ideal S1024x8192 .f32) (K V : FVec Ideal S1x2048x64x128 .f32) (Wo : FVec Ideal S8192x1024 .f32)

def s1 : FVec Ideal S1x64x512x1024 .f32 := sS (qS x Wq) (lo K)
def s2 : FVec Ideal S1x64x512x1024 .f32 := sS (qS x Wq) (hi K)
def m1 : FVec Ideal S1x64x512x1 .f32 := mR m0 (rS (s1 x Wq K))
def m2 : FVec Ideal S1x64x512x1 .f32 := mR (m1 x Wq K) (rS (s2 x Wq K))
def lAll : FVec Ideal S1x64x512x1 .f32 :=
  lS (lS l0 (aS m0 (m1 x Wq K)) (pS (s1 x Wq K) (m1 x Wq K))) (aS (m1 x Wq K) (m2 x Wq K)) (pS (s2 x Wq K) (m2 x Wq K))
def oAll : FVec Ideal S1x512x64x128 .f32 :=
  oS (oS o0 (aS m0 (m1 x Wq K)) (lo V) (pS (s1 x Wq K) (m1 x Wq K))) (aS (m1 x Wq K) (m2 x Wq K)) (hi V) (pS (s2 x Wq K) (m2 x Wq K))
def yAll : FVec Ideal S1x512x1024 .f32 := yS (oAll x Wq K V) (lAll x Wq K) Wo
end

theorem res_eq (m : (ℓ : Loc nD τ sig) → Buf (Elt Ideal) ℓ) (c : Dev nD) :
    res_main_v55 m c = yAll (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Value

end
-- ==== Proof.RefSum.lean ====
/- The reference's result at an index: for each row and each of the 64 heads the softmax-weighted average of the values,
   then the product with the output weights. -/
module

public import proofs.«01_k».proof.Proof.RefVal

@[expose] public section

noncomputable section

namespace Cert.ReferenceIdeal.Value

open Cert.ReferenceIdeal Cert.ReferenceIdeal.Gen Idealize.ShloMosaic Idealize.ShloMosaic.TcCoe

variable (x : FVec Ideal S1x512x1024 .f32) (Wq : FVec Ideal S1024x8192 .f32) (K V : FVec Ideal S1x2048x64x128 .f32) (Wo : FVec Ideal S8192x1024 .f32)

/-- Row `r` of the queries, head `h`, entry `d`. -/
def qry (r : Fin 512) (h : Fin 64) (d : Fin 128) : EReal :=
  ∑ k : Fin 1024, (x (ix3 0 r k) : EReal) * Wq (ix2 k ⟨h.val * 128 + d.val, by omega⟩)

/-- The score of query row `r` against key `j` in head `h`. -/
def score (r : Fin 512) (h : Fin 64) (j : Fin 2048) : EReal := (∑ d : Fin 128, qry x Wq r h d * K (ix4 0 j h d)) * scale

/-- The weighted average of the values. -/
def ave (r : Fin 512) (h : Fin 64) (d : Fin 128) : EReal :=
  Ideal.div (∑ j : Fin 2048, Ideal.exp (score x Wq K r h j) * V (ix4 0 j h d)) (∑ j : Fin 2048, Ideal.exp (score x Wq K r h j))

/-- The array's entries are real numbers. -/
def Real' {ι : Type} (f : ι → EReal) : Prop := ∀ i, ∃ r : ℝ, f i = (r : EReal)

theorem scale_real : ∃ r : ℝ, scale = (r : EReal) := by
  unfold scale
  simp only [Ideal.ofBits, Ideal.ieee]
  rw [if_neg (by decide), if_neg (by decide)]
  exact ⟨_, rfl⟩

variable {x Wq K}

theorem qry_real (hx : Real' x) (hW : Real' Wq) (r : Fin 512) (h : Fin 64) (d : Fin 128) : ∃ t : ℝ, qry x Wq r h d = (t : EReal) :=
  Cert.Soft.exists_sum _ _ fun k => Cert.Soft.exists_mul (hx _) (hW _)

theorem score_real (hx : Real' x) (hW : Real' Wq) (hK : Real' K) (r : Fin 512) (h : Fin 64) (j : Fin 2048) :
    ∃ t : ℝ, score x Wq K r h j = (t : EReal) :=
  Cert.Soft.exists_mul (Cert.Soft.exists_sum _ _ fun d => Cert.Soft.exists_mul (qry_real hx hW r h d) (hK _)) scale_real

theorem s1_apply (h : Fin 64) (r : Fin 512) (j : Fin 1024) : (s1 x Wq K (ix4 0 h r j) : EReal) = score x Wq K r h ⟨j.val, by omega⟩ := by
  unfold s1
  rw [sS_apply]
  simp only [qS_apply, lo_apply]
  rfl

theorem s2_apply (h : Fin 64) (r : Fin 512) (j : Fin 1024) : (s2 x Wq K (ix4 0 h r j) : EReal) = score x Wq K r h ⟨1024 + j.val, by omega⟩ := by
  unfold s2
  rw [sS_apply]
  simp only [qS_apply, hi_apply]
  rfl

theorem real_of_ix {S : FVec Ideal S1x64x512x1024 .f32} (hS : ∀ (h : Fin 64) (r : Fin 512) (j : Fin 1024), ∃ t : ℝ, (S (ix4 0 h r j) : EReal) = (t : EReal)) :
    Real' S := by
  intro i
  obtain ⟨a, h, r, j, rfl⟩ : ∃ (a : Fin 1) (h : Fin 64) (r : Fin 512) (j : Fin 1024), i = ix4 a h r j := ⟨i 0, i 1, i 2, i 3, eq_ix4 i⟩
  obtain rfl := Subsingleton.elim a 0
  exact hS h r j

theorem m1_real (hx : Real' x) (hW : Real' Wq) (hK : Real' K) (h : Fin 64) (r : Fin 512) : ∃ t : ℝ, (m1 x Wq K (ix4 0 h r 0) : EReal) = (t : EReal) := by
  obtain ⟨t, ht⟩ := rS_real (s1 x Wq K) (real_of_ix fun h r j => by rw [s1_apply]; exact score_real hx hW hK _ _ _) (ix3 0 h r)
  refine ⟨t, ?_⟩
  unfold m1
  rw [mR_apply, m0_apply, low_eq, ht]
  exact max_eq_right bot_le

theorem m2_real (hx : Real' x) (hW : Real' Wq) (hK : Real' K) (h : Fin 64) (r : Fin 512) : ∃ t : ℝ, (m2 x Wq K (ix4 0 h r 0) : EReal) = (t : EReal) := by
  obtain ⟨t, ht⟩ := rS_real (s2 x Wq K) (real_of_ix fun h r j => by rw [s2_apply]; exact score_real hx hW hK _ _ _) (ix3 0 h r)
  obtain ⟨u, hu⟩ := m1_real hx hW hK h r
  refine ⟨max u t, ?_⟩
  unfold m2
  rw [mR_apply, hu, ht]
  exact (EReal.coe_strictMono.monotone.map_max).symm

/-- The two blocks under the running maximum give the average at once. -/
theorem quot_apply (hx : Real' x) (hW : Real' Wq) (hK : Real' K) (r : Fin 512) (h : Fin 64) (d : Fin 128) :
    Ideal.div (oAll x Wq K V (ix4 0 r h d)) (lAll x Wq K (ix4 0 h r 0)) = ave x Wq K V r h d := by
  obtain ⟨u1, hu1⟩ := m1_real hx hW hK h r
  obtain ⟨u2, hu2⟩ := m2_real hx hW hK h r
  choose s hs using fun j => score_real hx hW hK r h j
  unfold oAll lAll ave
  rw [oS_apply, oS_apply, lS_apply, lS_apply, o0_apply, l0_apply]
  simp only [aS_apply, pS_apply, s1_apply, s2_apply, lo_apply, hi_apply, m0_apply, low_eq, hu1, hu2, hs]
  rw [Cert.Soft.quot (fun j : Fin 1024 => s ⟨j.val, by omega⟩) (fun j : Fin 1024 => s ⟨1024 + j.val, by omega⟩)
    (fun j : Fin 1024 => V (ix4 0 ⟨j.val, by omega⟩ h d)) (fun j : Fin 1024 => V (ix4 0 ⟨1024 + j.val, by omega⟩ h d)) u1 u2,
    Fin.sum_univ_two_halves 1024 1024 rfl (fun j : Fin 2048 => Ideal.exp (s j) * V (ix4 0 j h d)),
    Fin.sum_univ_two_halves 1024 1024 rfl (fun j : Fin 2048 => Ideal.exp (s j))]

/-- The reference's result. -/
theorem yAll_apply (hx : Real' x) (hW : Real' Wq) (hK : Real' K) (r : Fin 512) (n : Fin 1024) :
    (yAll x Wq K V Wo (ix3 0 r n) : EReal)
      = ∑ k : Fin 8192, ave x Wq K V r ⟨k.val / 128, by omega⟩ ⟨k.val % 128, by omega⟩ * Wo (ix2 k n) := by
  unfold yAll
  rw [yS_apply]
  exact Finset.sum_congr rfl fun k _ => by rw [quot_apply V hx hW hK]

end Cert.ReferenceIdeal.Value

end
-- ==== Proof.KerVal.lean ====
/- The kernel's result at an index, over the extended reals: the sum over the devices of their partial products. -/
module

public import proofs.«01_k».proof.Proof.Values
public import Idealize.ShloMosaic.Lib.Pointwise

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable (I : Dev nD → Inp Ideal)

theorem khd_apply (K : Vec Ideal S2048x64x128 .f32) (h : Fin 64) (j : Fin 2048) (d : Fin 128) :
    khd K h (ix2 j d) = K (ix3 j h d) := by
  have hq : Shape.reshapeEquiv (s := S2048x1x128) (s' := S2048x128) squeezes_S2048x1x128_S2048x128.numel_eq (ix2 j d) = ix3 j 0 d := by
    pointwise
  show K ((Rect.unit (s := S2048x64x128) ![0, h.val, 0] S2048x1x128.size (head_inb h)).emb
    (Shape.reshapeEquiv (s := S2048x1x128) (s' := S2048x128) squeezes_S2048x1x128_S2048x128.numel_eq (ix2 j d))) = _
  rw [hq]
  refine congrArg K ?_
  funext a
  refine Fin.ext ?_
  match a with
  | 0 => show 0 + 1 * j.val = j.val; omega
  | 1 => show h.val + 1 * 0 = h.val; omega
  | 2 => show 0 + 1 * d.val = d.val; omega

theorem khs_apply (K : Vec Ideal S2048x64x128 .f32) (h : Fin 64) (j : Fin 2048) (d : Fin 128) :
    khs K h (ix3 0 j d) = K (ix3 j h d) := by
  rw [← khd_apply K h j d]
  unfold khs
  generalize khd K h = X
  pointwise

theorem xb_apply (c : Dev nD) (r : Fin 512) (k : Fin 1024) : (xb I c (ix2 r k) : EReal) = (I c).x (ix2 r k) := by
  pointwise [xb, k0_pay16, k0_pay1]

theorem pay17_apply (x : FVec Ideal S512x1024 .bf16) (w : Vec Ideal S1024x128 .f32) (r : Fin 512) (d : Fin 128) :
    (k0_pay17 x w (ix2 r d) : EReal) = (∑ k : Fin 1024, (x (ix2 r k) : EReal) * w (ix2 k d)) * Ideal.ofBits .f32 0x3DB504F3#32 := by
  pointwise [k0_pay17]

theorem pay18_apply (q : FVec Ideal S512x128 .bf16) (k v : Vec Ideal S1x2048x128 .f32) (r : Fin 512) (d : Fin 128) :
    (k0_pay18 q k v (ix2 r d) : EReal)
      = Ideal.div (∑ j : Fin 2048, Ideal.exp (∑ e : Fin 128, (q (ix2 r e) : EReal) * k (ix3 0 j e)) * v (ix3 0 j d))
          (∑ j : Fin 2048, Ideal.exp (∑ e : Fin 128, (q (ix2 r e) : EReal) * k (ix3 0 j e))) := by
  pointwise [k0_pay18]

theorem part_apply (c : Dev nD) (r : Fin 512) (n : Fin 1024) :
    (part I c (ix2 r n) : EReal) = ∑ k : Fin 1024, (oval I c (ix2 r k) : EReal) * (I c).wo (ix2 k n) := by
  unfold part
  generalize oval I c = O
  pointwise [k0_pay3, k0_pay2]

theorem stage0_apply (c : Dev nD) (i : S512x1024.Idx) : (stage0 I c i : EReal) = part I c i := by
  unfold stage0
  generalize part I c = P
  pointwise [k0_pay4]

theorem pay5_apply (a : Vec Ideal S64x1024 .f32) (b : Vec Ideal S64x1024 .bf16) (j : S64x1024.Idx) :
    (k0_pay5 a (shapeCast S1x64x1024 b casts_1) j : EReal) = a j + b j := by
  idx_vars j
  pointwise [k0_pay5]

theorem red_apply (c : Dev nD) (j : S64x1024.Idx) : (red I c j : EReal) = acc I c 8 j := by
  unfold red
  generalize acc I c 8 = P
  pointwise [k0_pay13, k0_pay14]

theorem outv_pay (j : S512x1024.Idx) : (outv I j : EReal) = ST I j := by
  unfold outv
  generalize ST I = P
  pointwise [k0_pay15]

/-- One step of the exchange's sum. -/
theorem acc_step (c p : Dev nD) (j : S64x1024.Idx) :
    (acc I c (p.val + 1) j : EReal) = acc I c p.val j + (if p = c then 0 else (part I p ((rowR c).emb j) : EReal)) := by
  by_cases h : p = c
  · subst h
    rw [acc_self, if_pos rfl, add_zero]
  · rw [acc_succ I c p h, if_neg h, pay5_apply]
    exact congrArg (fun z : EReal => (acc I c p.val j : EReal) + z) (stage0_apply I p _)

/-- Device `c`'s rows after all the exchanges: the sum over the devices. -/
theorem acc_all (c : Dev nD) (j : S64x1024.Idx) : (acc I c 8 j : EReal) = ∑ p : Dev nD, (part I p ((rowR c).emb j) : EReal) := by
  have e7 := acc_step I c 7 j
  have e6 := acc_step I c 6 j
  have e5 := acc_step I c 5 j
  have e4 := acc_step I c 4 j
  have e3 := acc_step I c 3 j
  have e2 := acc_step I c 2 j
  have e1 := acc_step I c 1 j
  have e0 := acc_step I c 0 j
  have h0 : (acc I c 0 j : EReal) = part I c ((rowR c).emb j) := rfl
  refine e7.trans ?_
  rw [show acc I c (7 : Dev nD).val j = _ from e6, show acc I c (6 : Dev nD).val j = _ from e5, show acc I c (5 : Dev nD).val j = _ from e4,
    show acc I c (4 : Dev nD).val j = _ from e3, show acc I c (3 : Dev nD).val j = _ from e2, show acc I c (2 : Dev nD).val j = _ from e1,
    show acc I c (1 : Dev nD).val j = _ from e0, show acc I c (0 : Dev nD).val j = _ from h0]
  have hs : ∑ p : Dev nD, (part I p ((rowR c).emb j) : EReal)
      = (part I c ((rowR c).emb j) : EReal) + ∑ p : Fin 8, (if p = c then 0 else (part I p ((rowR c).emb j) : EReal)) := by
    rw [← Finset.add_sum_erase Finset.univ _ (Finset.mem_univ c)]
    congr 1
    rw [← Finset.add_sum_erase Finset.univ (fun p : Fin 8 => if p = c then (0 : EReal) else (part I p ((rowR c).emb j) : EReal)) (Finset.mem_univ c),
      if_pos rfl, zero_add]
    exact Finset.sum_congr rfl fun p hp => (if_neg (Finset.ne_of_mem_erase hp)).symm
  rw [hs, Fin.sum_univ_eight]
  simp only [add_assoc]

/-- The result: the sum over the devices of their partial products. -/
theorem outv_sum (i : S512x1024.Idx) : (outv I i : EReal) = ∑ p : Dev nD, (part I p i : EReal) := by
  obtain ⟨p, j, rfl⟩ := exists_row i
  rw [outv_pay, ← acc_all, ← red_apply]
  exact congrFun (rowsOf_glue (red I) p) j

theorem oval_apply (c : Dev nD) (r : Fin 512) (k : Fin 1024) :
    oval I c (ix2 r k) = att I c ⟨k.val / 128, by omega⟩ (ix2 r ⟨k.val % 128, by omega⟩) := by
  have h := congrFun (colsOf_glue (att I c) ⟨k.val / 128, by omega⟩) (ix2 r ⟨k.val % 128, by omega⟩)
  refine Eq.trans (congrArg (oval I c) ?_) h
  idx_ext

end Cert.KernelIdeal.Run

end
-- ==== Proof.Equal.lean ====
/- The kernel's result is the reference's: each head's average is the same, and the sum over the devices of the partial
   products is the product with the whole of the output weights. -/
module

public import proofs.«01_k».proof.Proof.RefSum
public import proofs.«01_k».proof.Proof.KerVal

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen
open Cert.ReferenceIdeal.Value (qry score ave yAll Real' scale)

/-- The devices' inputs are their parts of the whole arrays: copies of the input, the keys and the values, the device's
    columns of the query weights, its rows of the output weights. -/
structure Agrees (I : Dev nD → Inp Ideal) (x : FVec Ideal S1x512x1024 .f32) (Wq : FVec Ideal Cert.ReferenceIdeal.S1024x8192 .f32)
    (K V : FVec Ideal S1x2048x64x128 .f32) (Wo : FVec Ideal Cert.ReferenceIdeal.S8192x1024 .f32) : Prop where
  x : ∀ c r k, (I c).x (ix2 r k) = x (ix3 0 r k)
  wq : ∀ (c : Dev nD) (k e : Fin 1024), (I c).wq (ix2 k e) = Wq (ix2 k ⟨c.val * 1024 + e.val, by have : c.val < 8 := c.isLt; omega⟩)
  k : ∀ c j h d, (I c).k (ix3 j h d) = K (ix4 0 j h d)
  v : ∀ c j h d, (I c).v (ix3 j h d) = V (ix4 0 j h d)
  wo : ∀ (c : Dev nD) (e n : Fin 1024), (I c).wo (ix2 e n) = Wo (ix2 ⟨c.val * 1024 + e.val, by have : c.val < 8 := c.isLt; omega⟩ n)

variable {I : Dev nD → Inp Ideal} {x : FVec Ideal S1x512x1024 .f32} {Wq : FVec Ideal Cert.ReferenceIdeal.S1024x8192 .f32}
variable {K V : FVec Ideal S1x2048x64x128 .f32} {Wo : FVec Ideal Cert.ReferenceIdeal.S8192x1024 .f32}

theorem qh_eq (A : Agrees I x Wq K V Wo) (c : Dev nD) (h : Fin 8) (r : Fin 512) (d : Fin 128) :
    (qh I c h (ix2 r d) : EReal) = qry x Wq r (hd c h) d * scale := by
  unfold qh
  rw [pay17_apply]
  refine congrArg (fun z : EReal => z * scale) (Finset.sum_congr rfl fun k _ => ?_)
  rw [xb_apply, A.x]
  refine congrArg (fun z : EReal => (x (ix3 0 r k) : EReal) * z) ?_
  refine (A.wq c k ⟨128 * h.val + d.val, by omega⟩).trans (congrArg (fun e => Wq (ix2 k e)) (Fin.ext ?_))
  show c.val * 1024 + (128 * h.val + d.val) = (8 * c.val + h.val) * 128 + d.val
  omega

theorem score_eq (A : Agrees I x Wq K V Wo) (hx : Real' x) (hW : Real' Wq) (hK : Real' K) (c : Dev nD) (h : Fin 8) (r : Fin 512) (j : Fin 2048) :
    ∑ e : Fin 128, (qh I c h (ix2 r e) : EReal) * khs (I c).k (hd c h) (ix3 0 j e) = score x Wq K r (hd c h) j := by
  refine Eq.trans (Finset.sum_congr rfl fun e _ => ?_)
    (Cert.Soft.sum_mul_scale Finset.univ (fun e : Fin 128 => qry x Wq r (hd c h) e) (fun e : Fin 128 => K (ix4 0 j (hd c h) e)) scale
      (fun e => Cert.ReferenceIdeal.Value.qry_real hx hW r (hd c h) e) (fun e => hK _) Cert.ReferenceIdeal.Value.scale_real)
  rw [qh_eq A, khs_apply, A.k]

/-- One head's average. -/
theorem att_eq (A : Agrees I x Wq K V Wo) (hx : Real' x) (hW : Real' Wq) (hK : Real' K) (c : Dev nD) (h : Fin 8) (r : Fin 512) (d : Fin 128) :
    (att I c h (ix2 r d) : EReal) = ave x Wq K V r (hd c h) d := by
  unfold att ave
  rw [pay18_apply]
  simp only [score_eq A hx hW hK]
  simp only [khs_apply, A.v]

/-- The result. -/
theorem outv_eq (A : Agrees I x Wq K V Wo) (hx : Real' x) (hW : Real' Wq) (hK : Real' K) (r : Fin 512) (n : Fin 1024) :
    (outv I (ix2 r n) : EReal) = yAll x Wq K V Wo (ix3 0 r n) := by
  rw [outv_sum, Cert.ReferenceIdeal.Value.yAll_apply V Wo hx hW hK, Fin.sum_univ_tiles 8 1024 rfl]
  refine Finset.sum_congr rfl fun c _ => ?_
  rw [part_apply]
  refine Finset.sum_congr rfl fun k _ => ?_
  rw [oval_apply, att_eq A hx hW hK, A.wo]
  have hc : c.val < 8 := c.isLt
  have e1 : hd c ⟨k.val / 128, by omega⟩ = ⟨(c.val * 1024 + k.val) / 128, by omega⟩ := Fin.ext (by
    show 8 * c.val + k.val / 128 = (c.val * 1024 + k.val) / 128
    omega)
  have e2 : (⟨k.val % 128, by omega⟩ : Fin 128) = ⟨(c.val * 1024 + k.val) % 128, by omega⟩ := Fin.ext (by
    show k.val % 128 = (c.val * 1024 + k.val) % 128
    omega)
  rw [e1, e2]

end Cert.KernelIdeal.Run

end
-- ==== Proof.Finite.lean ====
/- The precondition read back: the input, the query weights and the keys of every device hold real numbers. -/
module

public import proofs.«01_k».proof.Defs
public import proofs.«01_k».proof.Proof.RefSum
public import Idealize.ShloMosaic.Lib.ReduceAll

@[expose] public section

noncomputable section

namespace Cert.Finite

open Idealize.ShloMosaic
open Cert.ReferenceIdeal.Value (Real')

/-- What the precondition states about its own shapes. -/
instance factsK : Cert.Pre_finite_KernelIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x2048x64x128 := by decide
  reducesTo_S1x2048x64x128_S_d0_1_2_3 := by decide

/-- The reference's precondition states the same of the whole arrays' shapes. -/
instance factsR : Cert.Pre_finite_ReferenceIdeal.Facts where
  bcast_S_S1x512x1024 := by decide
  reducesTo_S1x512x1024_S_d0_1_2 := by decide
  h_S_ := by decide
  bcast_S_S1024x8192 := by decide
  reducesTo_S1024x8192_S_d0_1 := by decide
  bcast_S_S1x2048x64x128 := by decide
  reducesTo_S1x2048x64x128_S_d0_1_2_3 := by decide

theorem top_eq : Ideal.ofBits .f32 0x7F800000#32 = ⊤ := by simp [Ideal.ofBits, Ideal.ieee]

/-- A number whose absolute value is below infinity is real. -/
theorem real_of_olt (a : EReal) (h : Ideal.cmp .olt (max a (-a)) ⊤ = 1#1) : ∃ r : ℝ, a = (r : EReal) := by
  have hlt : max a (-a) < ⊤ := by
    by_contra hn
    have h0 : Ideal.cmp .olt (max a (-a)) ⊤ = 0#1 := by simp [Ideal.cmp, hn]
    rw [h0] at h
    exact absurd h (by decide)
  induction a with
  | bot => exact absurd hlt (by simp)
  | top => exact absurd hlt (by simp)
  | coe r => exact ⟨r, rfl⟩

instance : Subsingleton Cert.Pre_finite_KernelIdeal.S_.Idx := ⟨fun a b => funext fun k => k.elim0⟩

/-- One array's test that came out true. -/
theorem real_of_all {s : Shape} {axes : List (Fin s.rank)} (x : FVec Ideal s .f32)
    (hb : Cert.Pre_finite_KernelIdeal.S_.BroadcastsInDim s (![] : Fin 0 → Fin s.rank)) (hr : s.ReducesTo axes Cert.Pre_finite_KernelIdeal.S_)
    (hu : 0 < Cert.Pre_finite_KernelIdeal.S_.numel) (j : Cert.Pre_finite_KernelIdeal.S_.Idx)
    (e : Host.reduce IntOp.andi (cmpf .olt (Host.absf x) (broadcastInDim s ![] hb (constant Cert.Pre_finite_KernelIdeal.S_ .f32 0x7F800000#32)))
      (constantI Cert.Pre_finite_KernelIdeal.S_ 1 1#1) hr hu j = 1#1) : Real' x := fun i => by
  have h1 := Host.reduce_andi_all _ _ hr hu j e i
  refine real_of_olt (x i) ?_
  rw [← top_eq]
  exact h1

/-- The precondition: three arrays of real numbers. -/
theorem real_of_pre (x : FVec Ideal Cert.Pre_finite_KernelIdeal.S1x512x1024 .f32) (W : FVec Ideal Cert.Pre_finite_KernelIdeal.S1024x1024 .f32)
    (K V : FVec Ideal Cert.Pre_finite_KernelIdeal.S1x2048x64x128 .f32) (O : FVec Ideal Cert.Pre_finite_KernelIdeal.S1024x1024 .f32)
    (h : Cert.Pre_finite_KernelIdeal.fn (F := Ideal) x W K V O = fun _ => 1#1) : Real' x ∧ Real' W ∧ Real' K := by
  have h0 := congrFun h (Shape.Idx.first factsK.h_S_)
  obtain ⟨h12, h3⟩ := IntOp.andi_eq_one.1 h0
  obtain ⟨h1, h2⟩ := IntOp.andi_eq_one.1 h12
  exact ⟨real_of_all x _ _ _ _ h1, real_of_all W _ _ _ _ h2, real_of_all K _ _ _ _ h3⟩

end Cert.Finite

end
-- ==== Proof.Result.lean ====
/- The program's result from the memory it starts in: the reshapes around the kernel, and the parts of the whole arrays. -/
module

public import proofs.«01_k».proof.Proof.Frames
public import proofs.«01_k».proof.Proof.Equal
public import proofs.«01_k».proof.Proof.Finite

@[expose] public section

noncomputable section

namespace Cert.KernelIdeal.Run

open Idealize.ShloMosaic
open Idealize.ShloMosaic.TcCoe
open Idealize.SL.Sem
open Cert.KernelIdeal Cert.KernelIdeal.Gen
open Cert.ReferenceIdeal.Value (yAll Real')

/-! ## The reshapes -/

theorem cast_x (X : FVec Ideal S1x512x1024 .f32) (r : Fin 512) (k : Fin 1024) :
    shapeCast S512x1024 X shapeCasts_S1x512x1024_S512x1024 (ix2 r k) = X (ix3 0 r k) := by pointwise
theorem cast_kv (X : FVec Ideal S1x2048x64x128 .f32) (j : Fin 2048) (h : Fin 64) (d : Fin 128) :
    shapeCast S2048x64x128 X shapeCasts_S1x2048x64x128_S2048x64x128 (ix3 j h d) = X (ix4 0 j h d) := by pointwise
theorem cast_out (X : FVec Ideal S512x1024 .f32) (r : Fin 512) (n : Fin 1024) :
    shapeCast S1x512x1024 X shapeCasts_S512x1024_S1x512x1024 (ix3 0 r n) = X (ix2 r n) := by pointwise

section
variable {F : FTy → Type} [FloatOps F] (m : (ℓ : Loc nD τ sig) → Buf (Elt F) ℓ) (c : Dev nD)

theorem V1_v7 : V1 m c main_v7 = shapeCast S512x1024 (m ((c.tc : Thread nD τ).loc main_arg0)) shapeCasts_S1x512x1024_S512x1024 := by
  unfold V1
  after_results
  rfl
theorem V1_v8 : V1 m c main_v8 = shapeCast S2048x64x128 (m ((c.tc : Thread nD τ).loc main_arg2)) shapeCasts_S1x2048x64x128_S2048x64x128 := by
  unfold V1
  after_results
  rfl
theorem V1_v9 : V1 m c main_v9 = shapeCast S2048x64x128 (m ((c.tc : Thread nD τ).loc main_arg3)) shapeCasts_S1x2048x64x128_S2048x64x128 := by
  unfold V1
  after_results
  rfl
theorem result_eq : result m c = shapeCast S1x512x1024 (outv (inp m)) shapeCasts_S512x1024_S1x512x1024 := by
  rw [← V2'_out m c]
  unfold result V3'
  after_results
  rfl

theorem AtEnd.result {s : MemSt nD τ sig (Elt F)} (h : AtEnd m c s) : s.mem ((c.tc : Thread nD τ).loc main_v11) = result m c :=
  h.1 ((main_v11 : Ref sig .tc) : DevRef τ sig) (Finset.mem_filter.mpr ⟨StableHlo.devRef_mem_tcRefs main_v11, by decide⟩)
end

/-! ## The parts of the whole arrays -/

section
variable (m : (ℓ : Loc nD τ sig) → Buf (Elt Ideal) ℓ)
variable (x : FVec Ideal S1x512x1024 .f32) (Wq : FVec Ideal Cert.ReferenceIdeal.S1024x8192 .f32)
variable (K V : FVec Ideal S1x2048x64x128 .f32) (Wo : FVec Ideal Cert.ReferenceIdeal.S8192x1024 .f32)

/-- Every device's arguments are its parts of the whole arrays. -/
def Holds : Prop := ∀ c : Dev nD,
  m ((c.tc : Thread nD τ).loc main_arg0) = x
  ∧ m ((c.tc : Thread nD τ).loc main_arg1) = Layout.block ⟨2, ![1024, 1024]⟩ ⟨2, ![1024, 8192]⟩ 1 8 c Wq
  ∧ m ((c.tc : Thread nD τ).loc main_arg2) = K
  ∧ m ((c.tc : Thread nD τ).loc main_arg3) = V
  ∧ m ((c.tc : Thread nD τ).loc main_arg4) = Layout.block ⟨2, ![1024, 1024]⟩ ⟨2, ![8192, 1024]⟩ 0 8 c Wo

/-- Column block `c` at an index. -/
theorem cols_apply (c : Fin 8) (k e : Fin 1024) :
    Layout.block ⟨2, ![1024, 1024]⟩ ⟨2, ![1024, 8192]⟩ 1 8 c Wq (by decide) (ix2 k e) = Wq (ix2 k ⟨c.val * 1024 + e.val, by omega⟩) := by
  rw [Layout.block_apply]
  refine congrArg Wq (funext fun a => Fin.ext ?_)
  match a with
  | 0 => rfl
  | 1 => rfl

/-- Row block `c` at an index. -/
theorem rows_apply (c : Fin 8) (e n : Fin 1024) :
    Layout.block ⟨2, ![1024, 1024]⟩ ⟨2, ![8192, 1024]⟩ 0 8 c Wo (by decide) (ix2 e n) = Wo (ix2 ⟨c.val * 1024 + e.val, by omega⟩ n) := by
  rw [Layout.block_apply]
  refine congrArg Wo (funext fun a => Fin.ext ?_)
  match a with
  | 0 => rfl
  | 1 => rfl

variable {m x Wq K V Wo}

theorem agrees (H : Holds m x Wq K V Wo) : Agrees (inp m) x Wq K V Wo where
  x c r k := (congrFun (V1_v7 m c) (ix2 r k)).trans ((cast_x _ r k).trans (congrFun (H c).1 _))
  wq c k e := (congrFun (V1_of m c main_arg1 (by decide)) (ix2 k e)).trans ((congrFun (H c).2.1 _).trans (cols_apply Wq c k e))
  k c j h d := (congrFun (V1_v8 m c) (ix3 j h d)).trans ((cast_kv _ j h d).trans (congrFun (H c).2.2.1 _))
  v c j h d := (congrFun (V1_v9 m c) (ix3 j h d)).trans ((cast_kv _ j h d).trans (congrFun (H c).2.2.2.1 _))
  wo c e n := (congrFun (V1_of m c main_arg4 (by decide)) (ix2 e n)).trans ((congrFun (H c).2.2.2.2 _).trans (rows_apply Wo c e n))

/-- All of the query weights are real when every device's columns are. -/
theorem wq_real (hW : ∀ c : Fin 8, Real' (Layout.block ⟨2, ![1024, 1024]⟩ ⟨2, ![1024, 8192]⟩ 1 8 c Wq (by decide) : FVec Ideal S1024x1024 .f32)) : Real' Wq := by
  intro i
  obtain ⟨k, e, rfl⟩ : ∃ (k : Fin 1024) (e : Fin 8192), i = ix2 k e := ⟨i 0, i 1, eq_ix2 i⟩
  obtain ⟨t, ht⟩ := hW ⟨e.val / 1024, by omega⟩ (ix2 k ⟨e.val % 1024, by omega⟩)
  refine ⟨t, Eq.trans ?_ ht⟩
  rw [cols_apply]
  refine congrArg (fun e => Wq (ix2 k e)) (Fin.ext ?_)
  show e.val = e.val / 1024 * 1024 + e.val % 1024
  omega

/-- Each device's result is the reference's. -/
theorem result_ref (H : Holds m x Wq K V Wo) (hx : Real' x) (hW : Real' Wq) (hK : Real' K) (c : Dev nD) : result m c = yAll x Wq K V Wo := by
  rw [result_eq]
  funext i
  obtain ⟨a, r, n, rfl⟩ : ∃ (a : Fin 1) (r : Fin 512) (n : Fin 1024), i = ix3 a r n := ⟨i 0, i 1, i 2, eq_ix3 i⟩
  obtain rfl := Subsingleton.elim a 0
  exact (cast_out _ r n).trans (outv_eq (agrees H) hx hW hK r n)
end

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

/-- The kernel as printed: the run over any floats, at the bit patterns. -/
theorem frame_kernel : Cert.quiescent_Kernel (hKernel := Cert.Kernel.Gen.facts) := fun m g _ =>
  Cert.Kernel.Run.run_kept (F := Bits) m g

/-- The idealized kernel: the same run, at the extended reals. -/
theorem frame_kernelIdeal : Cert.quiescent_KernelIdeal (hKernelIdeal := Cert.KernelIdeal.Gen.facts) := fun m g _ =>
  Cert.KernelIdeal.Run.run_kept (F := Ideal) m g

theorem frame_referenceIdeal : Cert.quiescent_ReferenceIdeal (hReferenceIdeal := Cert.ReferenceIdeal.Gen.facts) := fun m g _ =>
  θ_run_mono (Cert.ReferenceIdeal.Value.run (F := Ideal) m g) fun _ h => ⟨fun c => (h c).2, sem_eq_zero_of_no_sems (by decide) _⟩

/-- At the extended reals the kernel's result on every device is the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Finite.factsK) := fun m g m' g' hpre hagree => by
  have H : Cert.KernelIdeal.Run.Holds m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := hagree
  have hr := fun c => Cert.Finite.real_of_pre _ _ _ _ _ (hpre c)
  have hx := (H 0).1 ▸ (hr 0).1
  have hK := (H 0).2.2.1 ▸ (hr 0).2.2
  have hW := Cert.KernelIdeal.Run.wq_real fun c => (H c).2.1 ▸ (hr c).2.1
  refine ⟨Cert.ReferenceIdeal.Value.res_main_v55 m' 0,
    θ_run_mono (Cert.KernelIdeal.Run.run_all (F := Ideal) m g) fun _ h c => ⟨((h.1 c).result).trans ?_, (h.1 c).kept⟩,
    θ_run_mono (Cert.ReferenceIdeal.Value.run (F := Ideal) m' g') fun _ h => h 0⟩
  exact (Cert.KernelIdeal.Run.result_ref H hx hW hK c).trans (Cert.ReferenceIdeal.Value.res_eq m' 0).symm

theorem claim : Cert.Claim := ⟨Cert.Kernel.Gen.facts, Cert.KernelIdeal.Gen.facts, Cert.ReferenceIdeal.Gen.facts, Cert.Finite.factsK, Cert.Finite.factsR,
  frame_kernel, frame_kernelIdeal, fun m g _ => frame_kernelIdeal m g trivial, frame_referenceIdeal, fun m g _ => frame_referenceIdeal m g trivial,
  trivial, algebraic⟩

end Cert.Proof

end
